-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "scale2" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  IdealRules.named_const.Statement Cert.Kernel7Ideal.κ "cubic" .f32 0x3D122279#32 ((80338380498831 / 2251799813685248 : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v48) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S16384x6144 : Shape := ⟨2, ![16384, 6144]⟩
abbrev S16x513 : Shape := ⟨2, ![16, 513]⟩
abbrev S2048 : Shape := ⟨1, ![2048]⟩
abbrev S4096x4096 : Shape := ⟨2, ![4096, 4096]⟩
abbrev S4096x2048 : Shape := ⟨2, ![4096, 2048]⟩
abbrev S16384x4096 : Shape := ⟨2, ![16384, 4096]⟩
abbrev S_ : Shape := ⟨0, ![]⟩

class Facts : Prop where
  slices_S16384x6144_S16384x4096_0_0 : S16384x6144.Slices ![0, 0] S16384x4096
  bitsLt_bf16_f32 : FTy.bits .bf16 < FTy.bits .f32
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S16x513 : S_.BroadcastsInDim S16x513 (![] : Fin 0 → Fin S16x513.rank)
  reducesTo_S16x513_S_d0_1 : S16x513.ReducesTo [0, 1] S_

variable [Facts]

def fn {F : FTy → Type} [FloatOps F] (main_arg0 : FVec F S16384x6144 .bf16) (main_arg1 : FVec F S16x513 .f32) (main_arg2 : FVec F S2048 .f32) (main_arg3 : FVec F S4096x4096 .f32) (main_arg4 : FVec F S4096x2048 .f32) : IVec S_ 1 :=
  let main_v0 : FVec F S16384x4096 .bf16 := (extractStridedSlice S16384x4096 ![0, 0] · slices_S16384x6144_S16384x4096_0_0) main_arg0
  let main_v1 : FVec F S16384x4096 .f32 := (extf .f32 · bitsLt_bf16_f32) main_v0
  let main_v2 : FVec F S16384x4096 .f32 := Host.absf main_v1
  let main_cst : FVec F S_ .f32 := constant S_ .f32 0x7F800000#32
  let main_v3 : FVec F S16384x4096 .f32 := broadcastInDim S16384x4096 ![] bcast_S_S16384x4096 main_cst
  let main_v4 : IVec S16384x4096 1 := cmpf .olt main_v2 main_v3
  let main_c : IVec S_ 1 := constantI S_ 1 1#1
  let main_v5 : IVec S_ 1 := (fun x v => Host.reduce IntOp.andi x v reducesTo_S16384x4096_S_d0_1 h_S_) main_v4 main_c
  let main_v6 : FVec F S16x513 .f32 := Host.absf main_arg1
  let main_cst_0 : FVec F S_ .f32 := constant S_ .f32 0x7F800000#32
  let main_v7 : FVec F S16x513 .f32 := broadcastInDim S16x513 ![] bcast_S_S16x513 main_cst_0
  let main_v8 : IVec S16x513 1 := cmpf .olt main_v6 main_v7
  let main_c_1 : IVec S_ 1 := constantI S_ 1 1#1
  let main_v9 : IVec S_ 1 := (fun x v => Host.reduce IntOp.andi x v reducesTo_S16x513_S_d0_1 h_S_) main_v8 main_c_1
  let main_v10 : IVec S_ 1 := andi main_v5 main_v9
  main_v10
-- ==== Kernel.lean ====
abbrev S16384x6144 : Shape := ⟨2, ![16384, 6144]⟩
abbrev S16x513 : Shape := ⟨2, ![16, 513]⟩
abbrev S2048 : Shape := ⟨1, ![2048]⟩
abbrev S4096x4096 : Shape := ⟨2, ![4096, 4096]⟩
abbrev S4096x2048 : Shape := ⟨2, ![4096, 2048]⟩
abbrev S1024 : Shape := ⟨1, ![1024]⟩
abbrev S_ : Shape := ⟨0, ![]⟩
abbrev S1024x1 : Shape := ⟨2, ![1024, 1]⟩
abbrev S16x1024 : Shape := ⟨2, ![16, 1024]⟩
abbrev S16x1x1024 : Shape := ⟨3, ![16, 1, 1024]⟩
abbrev S1x2048 : Shape := ⟨2, ![1, 2048]⟩
abbrev S16384x2048 : Shape := ⟨2, ![16384, 2048]⟩
abbrev S256x2048 : Shape := ⟨2, ![256, 2048]⟩
abbrev S64x4096 : Shape := ⟨2, ![64, 4096]⟩
abbrev S64x2048 : Shape := ⟨2, ![64, 2048]⟩
abbrev S16x256x768 : Shape := ⟨3, ![16, 256, 768]⟩
abbrev S256x768 : Shape := ⟨2, ![256, 768]⟩
abbrev S1x1x1024 : Shape := ⟨3, ![1, 1, 1024]⟩
abbrev S1x1024 : Shape := ⟨2, ![1, 1024]⟩
abbrev S256x1024 : Shape := ⟨2, ![256, 1024]⟩
abbrev S1x256x768 : Shape := ⟨3, ![1, 256, 768]⟩
abbrev S256x128 : Shape := ⟨2, ![256, 128]⟩
abbrev S768x128 : Shape := ⟨2, ![768, 128]⟩
abbrev S256 : Shape := ⟨1, ![256]⟩
abbrev S256x1 : Shape := ⟨2, ![256, 1]⟩

abbrev nBuf : Space → Nat
  | .hbm => 41
  | .vmem => 28
  | .smem => 0
  | _ => 0

abbrev bufTy : (tb : Table) → Fin (tcTables nBuf tb) → BufTy
  | .hbm, ⟨0, _⟩ => ⟨S16384x6144, .bf16⟩
  | .hbm, ⟨1, _⟩ => ⟨S16x513, .f32⟩
  | .hbm, ⟨2, _⟩ => ⟨S2048, .f32⟩
  | .hbm, ⟨3, _⟩ => ⟨S4096x4096, .f32⟩
  | .hbm, ⟨4, _⟩ => ⟨S4096x2048, .f32⟩
  | .hbm, ⟨5, _⟩ => ⟨S1024, .i32⟩
  | .hbm, ⟨6, _⟩ => ⟨S_, .i32⟩
  | .hbm, ⟨7, _⟩ => ⟨S1024, .i32⟩
  | .hbm, ⟨8, _⟩ => ⟨S1024, .i1⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S_, .i32⟩
  | .hbm, ⟨28, _⟩ => ⟨S1024, .i32⟩
  | .hbm, ⟨29, _⟩ => ⟨S1024, .i1⟩
  | .hbm, ⟨30, _⟩ => ⟨S_, .i32⟩
  | .hbm, ⟨31, _⟩ => ⟨S1024, .i32⟩
  | .hbm, ⟨32, _⟩ => ⟨S1024, .i32⟩
  | .hbm, ⟨33, _⟩ => ⟨S1024, .i32⟩
  | .hbm, ⟨34, _⟩ => ⟨S1024x1, .i32⟩
  | .hbm, ⟨35, _⟩ => ⟨S16x1024, .f32⟩
  | .hbm, ⟨36, _⟩ => ⟨S16x1x1024, .f32⟩
  | .hbm, ⟨37, _⟩ => ⟨S1x2048, .f32⟩
  | .hbm, ⟨38, _⟩ => ⟨S16384x2048, .bf16⟩
  | .hbm, ⟨39, _⟩ => ⟨S4096x4096, .bf16⟩
  | .hbm, ⟨40, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S16x1x1024, .f32⟩
  | .local _ .vmem, ⟨15, _⟩ => ⟨S1x2048, .f32⟩
  | .local _ .vmem, ⟨16, _⟩ => ⟨S64x4096, .f32⟩
  | .local _ .vmem, ⟨17, _⟩ => ⟨S64x4096, .f32⟩
  | .local _ .vmem, ⟨18, _⟩ => ⟨S64x2048, .f32⟩
  | .local _ .vmem, ⟨19, _⟩ => ⟨S64x2048, .f32⟩
  | .local _ .vmem, ⟨20, _⟩ => ⟨S256x2048, .bf16⟩
  | .local _ .vmem, ⟨21, _⟩ => ⟨S256x2048, .bf16⟩
  | .local _ .vmem, ⟨22, _⟩ => ⟨S64x4096, .bf16⟩
  | .local _ .vmem, ⟨23, _⟩ => ⟨S64x4096, .bf16⟩
  | .local _ .vmem, ⟨24, _⟩ => ⟨S64x2048, .bf16⟩
  | .local _ .vmem, ⟨25, _⟩ => ⟨S64x2048, .bf16⟩
  | .local _ .vmem, ⟨26, _⟩ => ⟨S16x256x768, .f32⟩
  | .local _ .vmem, ⟨27, _⟩ => ⟨S256x2048, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_c_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v8 : Ref sig .tc := ⟨.hbm, 23, rfl⟩
abbrev main_c_4 : Ref sig .tc := ⟨.hbm, 24, rfl⟩
abbrev main_v9 : Ref sig .tc := ⟨.hbm, 25, rfl⟩
abbrev main_v10 : Ref sig .tc := ⟨.hbm, 26, rfl⟩
abbrev main_c_5 : Ref sig .tc := ⟨.hbm, 27, rfl⟩
abbrev main_v11 : Ref sig .tc := ⟨.hbm, 28, rfl⟩
abbrev main_v12 : Ref sig .tc := ⟨.hbm, 29, rfl⟩
abbrev main_c_6 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20_0 : Ref sig .tc := ⟨.hbm, 38, rfl⟩
abbrev main_v20_1 : Ref sig .tc := ⟨.hbm, 39, rfl⟩
abbrev main_v20_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c2_i32 : BitVec 32 := 2#32
  let v18 : BitVec 32 := Scalar.subi arg0 c2_i32
  let v19 : BitVec 32 := Scalar.maxsi v18 v17
  let c1_i32_5 : BitVec 32 := 1#32
  let c0_i32_6 : BitVec 32 := 0#32
  ![v19.toNat, c1_i32_5.toNat]

def cc0_transform_2 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c1_i32_5 : BitVec 32 := 1#32
  let v18 : BitVec 32 := Scalar.subi arg0 c1_i32_5
  let v19 : BitVec 32 := Scalar.maxsi v18 v17
  let c1_i32_6 : BitVec 32 := 1#32
  let c0_i32_7 : BitVec 32 := 0#32
  ![v19.toNat, c1_i32_6.toNat]

def cc0_transform_3 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c0_i32_5 : BitVec 32 := 0#32
  let v18 : BitVec 32 := Scalar.subi arg0 c0_i32_5
  let v19 : BitVec 32 := Scalar.maxsi v18 v17
  let c1_i32_6 : BitVec 32 := 1#32
  let c0_i32_7 : BitVec 32 := 0#32
  ![v19.toNat, c1_i32_6.toNat]

def cc0_transform_4 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c2_i32 : BitVec 32 := 2#32
  let v18 : BitVec 32 := Scalar.subi arg0 c2_i32
  let v19 : BitVec 32 := Scalar.maxsi v18 v17
  let c2_i32_5 : BitVec 32 := 2#32
  let c0_i32_6 : BitVec 32 := 0#32
  ![v19.toNat, c2_i32_5.toNat]

def cc0_transform_5 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c1_i32_5 : BitVec 32 := 1#32
  let v18 : BitVec 32 := Scalar.subi arg0 c1_i32_5
  let v19 : BitVec 32 := Scalar.maxsi v18 v17
  let c2_i32 : BitVec 32 := 2#32
  let c0_i32_6 : BitVec 32 := 0#32
  ![v19.toNat, c2_i32.toNat]

def cc0_transform_6 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c0_i32_5 : BitVec 32 := 0#32
  let v18 : BitVec 32 := Scalar.subi arg0 c0_i32_5
  let v19 : BitVec 32 := Scalar.maxsi v18 v17
  let c2_i32 : BitVec 32 := 2#32
  let c0_i32_6 : BitVec 32 := 0#32
  ![v19.toNat, c2_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
variable {F : FTy → Type} [FloatOps F] [Named F]
def κ : String → Option EReal := fun
  | "log2e" => some (((Real.log 2)⁻¹ : ℝ) : EReal)
  | "mask" => some ⊥
  | "scale2" => some (((Real.sqrt 128)⁻¹ * (Real.log 2)⁻¹ : ℝ) : EReal)
  | _ => none
-- ==== ReferenceIdeal.lean ====
abbrev S16384x6144 : Shape := ⟨2, ![16384, 6144]⟩
abbrev S16x513 : Shape := ⟨2, ![16, 513]⟩
abbrev S2048 : Shape := ⟨1, ![2048]⟩
abbrev S4096x4096 : Shape := ⟨2, ![4096, 4096]⟩
abbrev S4096x2048 : Shape := ⟨2, ![4096, 2048]⟩
abbrev S16384x2048 : Shape := ⟨2, ![16384, 2048]⟩
abbrev S4x64x64x16x128 : Shape := ⟨5, ![4, 64, 64, 16, 128]⟩
abbrev S4x4096x16x128 : Shape := ⟨4, ![4, 4096, 16, 128]⟩
abbrev S_ : Shape := ⟨0, ![]⟩
abbrev S4x4608x16x128 : Shape := ⟨4, ![4, 4608, 16, 128]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S4x64x576x16x128 : Shape := ⟨5, ![4, 64, 576, 16, 128]⟩
abbrev S16x64x576 : Shape := ⟨3, ![16, 64, 576]⟩
abbrev S4x64x16x64x576 : Shape := ⟨5, ![4, 64, 16, 64, 576]⟩
abbrev S1x1x16x64x576 : Shape := ⟨5, ![1, 1, 16, 64, 576]⟩
abbrev S1x64x1x1x576 : Shape := ⟨5, ![1, 64, 1, 1, 576]⟩
abbrev S4x64x16x64 : Shape := ⟨4, ![4, 64, 16, 64]⟩
abbrev S4x64x16x64x1 : Shape := ⟨5, ![4, 64, 16, 64, 1]⟩
abbrev S4x64x16x128x64 : Shape := ⟨5, ![4, 64, 16, 128, 64]⟩
abbrev S16384 : Shape := ⟨1, ![16384]⟩
abbrev S16384x1 : Shape := ⟨2, ![16384, 1]⟩
abbrev S1x2048 : Shape := ⟨2, ![1, 2048]⟩

abbrev nBuf : Space → Nat
  | .hbm => 129
  | .vmem => 0
  | .smem => 0
  | _ => 0

abbrev hbmTy0_0 (i : Nat) : BufTy := match i % 128 with
  | 0 => ⟨S16384x6144, .bf16⟩
  | 1 => ⟨S16x513, .f32⟩
  | 2 => ⟨S2048, .f32⟩
  | 3 => ⟨S4096x4096, .f32⟩
  | 4 => ⟨S4096x2048, .f32⟩
  | 5 => ⟨S16384x6144, .f32⟩
  | 6 => ⟨S16384x2048, .f32⟩
  | 7 => ⟨S16384x2048, .f32⟩
  | 8 => ⟨S16384x2048, .f32⟩
  | 9 => ⟨S4x64x64x16x128, .f32⟩
  | 10 => ⟨S4x4096x16x128, .f32⟩
  | 11 => ⟨S_, .i32⟩
  | 12 => ⟨S_, .f32⟩
  | 13 => ⟨S4x4608x16x128, .f32⟩
  | 14 => ⟨S4x4096x16x128, .f32⟩
  | 15 => ⟨S_, .i32⟩
  | 16 => ⟨S_, .f32⟩
  | 17 => ⟨S4x4608x16x128, .f32⟩
  | 18 => ⟨S64, .i32⟩
  | 19 => ⟨S64x1, .i32⟩
  | 20 => ⟨S_, .i32⟩
  | 21 => ⟨S64x1, .i32⟩
  | 22 => ⟨S64x1, .i32⟩
  | 23 => ⟨S576, .i32⟩
  | 24 => ⟨S1x576, .i32⟩
  | 25 => ⟨S64x576, .i32⟩
  | 26 => ⟨S64x576, .i32⟩
  | 27 => ⟨S64x576, .i32⟩
  | 28 => ⟨S_, .i32⟩
  | 29 => ⟨S64x576, .i32⟩
  | 30 => ⟨S64x576, .i1⟩
  | 31 => ⟨S_, .i32⟩
  | 32 => ⟨S64x576, .i32⟩
  | 33 => ⟨S64x576, .i32⟩
  | 34 => ⟨S64x576, .i32⟩
  | 35 => ⟨S64x576x1, .i32⟩
  | 36 => ⟨S4x64x576x16x128, .f32⟩
  | 37 => ⟨S_, .i32⟩
  | 38 => ⟨S64x576, .i32⟩
  | 39 => ⟨S64x576, .i1⟩
  | 40 => ⟨S_, .i32⟩
  | 41 => ⟨S64x576, .i32⟩
  | 42 => ⟨S64x576, .i32⟩
  | 43 => ⟨S64x576, .i32⟩
  | 44 => ⟨S64x576x1, .i32⟩
  | 45 => ⟨S4x64x576x16x128, .f32⟩
  | 46 => ⟨S64, .i32⟩
  | 47 => ⟨S64x1, .i32⟩
  | 48 => ⟨S576, .i32⟩
  | 49 => ⟨S1x576, .i32⟩
  | 50 => ⟨S_, .i32⟩
  | 51 => ⟨S1x576, .i32⟩
  | 52 => ⟨S1x576, .i32⟩
  | 53 => ⟨S64x576, .i32⟩
  | 54 => ⟨S64x576, .i32⟩
  | 55 => ⟨S64x576, .i32⟩
  | 56 => ⟨S_, .i32⟩
  | 57 => ⟨S_, .i32⟩
  | 58 => ⟨S_, .i32⟩
  | 59 => ⟨S64x576, .i32⟩
  | 60 => ⟨S64x576, .i32⟩
  | 61 => ⟨S_, .i32⟩
  | 62 => ⟨S64x576, .i32⟩
  | 63 => ⟨S64x576, .i32⟩
  | 64 => ⟨S_, .i32⟩
  | 65 => ⟨S64x576, .i32⟩
  | 66 => ⟨S64x576, .i32⟩
  | 67 => ⟨S_, .i32⟩
  | 68 => ⟨S64x576, .i32⟩
  | 69 => ⟨S64x576, .i1⟩
  | 70 => ⟨S_, .i32⟩
  | 71 => ⟨S64x576, .i32⟩
  | 72 => ⟨S64x576, .i32⟩
  | 73 => ⟨S64x576, .i32⟩
  | 74 => ⟨S64x576x1, .i32⟩
  | 75 => ⟨S16x64x576, .f32⟩
  | 76 => ⟨S4x64x16x64x576, .f32⟩
  | 77 => ⟨S_, .f32⟩
  | 78 => ⟨S_, .f32⟩
  | 79 => ⟨S4x64x16x64x576, .f32⟩
  | 80 => ⟨S4x64x16x64x576, .f32⟩
  | 81 => ⟨S1x1x16x64x576, .f32⟩
  | 82 => ⟨S4x64x16x64x576, .f32⟩
  | 83 => ⟨S4x64x16x64x576, .f32⟩
  | 84 => ⟨S_, .i32⟩
  | 85 => ⟨S64x576, .i32⟩
  | 86 => ⟨S64x576, .i1⟩
  | 87 => ⟨S1x64x1x1x576, .i1⟩
  | 88 => ⟨S_, .f32⟩
  | 89 => ⟨S_, .f32⟩
  | 90 => ⟨S4x64x16x64x576, .i1⟩
  | 91 => ⟨S4x64x16x64x576, .f32⟩
  | 92 => ⟨S4x64x16x64x576, .f32⟩
  | 93 => ⟨S_, .f32⟩
  | 94 => ⟨S4x64x16x64, .f32⟩
  | 95 => ⟨S_, .f32⟩
  | 96 => ⟨S4x64x16x64, .f32⟩
  | 97 => ⟨S4x64x16x64, .f32⟩
  | 98 => ⟨S4x64x16x64x1, .f32⟩
  | 99 => ⟨S4x64x16x64x576, .f32⟩
  | 100 => ⟨S4x64x16x64x576, .f32⟩
  | 101 => ⟨S4x64x16x64x576, .f32⟩
  | 102 => ⟨S_, .f32⟩
  | 103 => ⟨S4x64x16x64, .f32⟩
  | 104 => ⟨S4x64x16x64x1, .f32⟩
  | 105 => ⟨S4x64x16x64x576, .f32⟩
  | 106 => ⟨S4x64x16x64x576, .f32⟩
  | 107 => ⟨S4x64x16x128x64, .f32⟩
  | 108 => ⟨S4x64x64x16x128, .f32⟩
  | 109 => ⟨S16384x2048, .f32⟩
  | 110 => ⟨S16384x2048, .f32⟩
  | 111 => ⟨S_, .f32⟩
  | 112 => ⟨S16384, .f32⟩
  | 113 => ⟨S16384x1, .f32⟩
  | 114 => ⟨S_, .f32⟩
  | 115 => ⟨S16384x1, .f32⟩
  | 116 => ⟨S16384x1, .f32⟩
  | 117 => ⟨S_, .f32⟩
  | 118 => ⟨S16384x1, .f32⟩
  | 119 => ⟨S16384x1, .f32⟩
  | 120 => ⟨S16384x1, .f32⟩
  | 121 => ⟨S16384x2048, .f32⟩
  | 122 => ⟨S16384x2048, .f32⟩
  | 123 => ⟨S1x2048, .f32⟩
  | 124 => ⟨S16384x2048, .f32⟩
  | 125 => ⟨S16384x2048, .f32⟩
  | 126 => ⟨S16384x2048, .bf16⟩
  | 127 => ⟨S4096x4096, .bf16⟩
  | _ => ⟨S16384x6144, .bf16⟩

abbrev hbmTy0_1 (i : Nat) : BufTy := match i % 128 with
  | 0 => ⟨S4096x2048, .bf16⟩
  | _ => ⟨S16384x6144, .bf16⟩

abbrev hbmTy (i : Nat) : BufTy := match i / 128 with
  | 0 => hbmTy0_0 i
  | 1 => hbmTy0_1 i
  | _ => ⟨S16384x6144, .bf16⟩

abbrev bufTy : (tb : Table) → Fin (tcTables nBuf tb) → BufTy
  | .hbm, ⟨i, _⟩ => hbmTy i
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_7 : Ref sig .tc := ⟨.hbm, 56, rfl⟩
abbrev main_c_8 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v41 : Ref sig .tc := ⟨.hbm, 63, rfl⟩
abbrev main_c_9 : Ref sig .tc := ⟨.hbm, 64, rfl⟩
abbrev main_v42 : Ref sig .tc := ⟨.hbm, 65, rfl⟩
abbrev main_v43 : Ref sig .tc := ⟨.hbm, 66, rfl⟩
abbrev main_c_10 : Ref sig .tc := ⟨.hbm, 67, rfl⟩
abbrev main_v44 : Ref sig .tc := ⟨.hbm, 68, rfl⟩
abbrev main_v45 : Ref sig .tc := ⟨.hbm, 69, rfl⟩
abbrev main_c_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_13 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v61 : Ref sig .tc := ⟨.hbm, 92, rfl⟩
abbrev main_cst_14 : Ref sig .tc := ⟨.hbm, 93, rfl⟩
abbrev main_v62 : Ref sig .tc := ⟨.hbm, 94, rfl⟩
abbrev main_cst_15 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_17 : Ref sig .tc := ⟨.hbm, 111, rfl⟩
abbrev main_v77 : Ref sig .tc := ⟨.hbm, 112, rfl⟩
abbrev main_v78 : Ref sig .tc := ⟨.hbm, 113, rfl⟩
abbrev main_cst_18 : Ref sig .tc := ⟨.hbm, 114, rfl⟩
abbrev main_v79 : Ref sig .tc := ⟨.hbm, 115, rfl⟩
abbrev main_v80 : Ref sig .tc := ⟨.hbm, 116, rfl⟩
abbrev main_cst_19 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩

abbrev nD : Nat := 1
abbrev τ : Topo := Topo.v7x

variable {F : FTy → Type} [FloatOps F]
-- ==== Kernel2.lean ====
abbrev S16384x4096 : Shape := ⟨2, ![16384, 4096]⟩
abbrev S4096x10240 : Shape := ⟨2, ![4096, 10240]⟩
abbrev S128 : Shape := ⟨1, ![128]⟩
abbrev S1x128 : Shape := ⟨2, ![1, 128]⟩
abbrev S2x128 : Shape := ⟨2, ![2, 128]⟩
abbrev S2x1x128 : Shape := ⟨3, ![2, 1, 128]⟩
abbrev S16384x6144 : Shape := ⟨2, ![16384, 6144]⟩
abbrev S1024x4096 : Shape := ⟨2, ![1024, 4096]⟩
abbrev S4096x1024 : Shape := ⟨2, ![4096, 1024]⟩
abbrev S1x1x128 : Shape := ⟨3, ![1, 1, 128]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x10240, .f32⟩
  | .hbm, ⟨2, _⟩ => ⟨S128, .f32⟩
  | .hbm, ⟨3, _⟩ => ⟨S128, .f32⟩
  | .hbm, ⟨4, _⟩ => ⟨S4096x10240, .bf16⟩
  | .hbm, ⟨5, _⟩ => ⟨S1x128, .f32⟩
  | .hbm, ⟨6, _⟩ => ⟨S1x128, .f32⟩
  | .hbm, ⟨7, _⟩ => ⟨S2x128, .f32⟩
  | .hbm, ⟨8, _⟩ => ⟨S2x1x128, .f32⟩
  | .hbm, ⟨9, _⟩ => ⟨S16384x6144, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1x128, .f32⟩
  | .local _ .vmem, ⟨5, _⟩ => ⟨S1x1x128, .f32⟩
  | .local _ .vmem, ⟨6, _⟩ => ⟨S1024x1024, .bf16⟩
  | .local _ .vmem, ⟨7, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c4_i32 : BitVec 32 := 4#32
  let v4 : BitVec 1 := Scalar.cmpi .slt arg1 c4_i32
  let v5 : BitVec 32 := Scalar.extui v4
  let c0_i32 : BitVec 32 := 0#32
  let v6 : BitVec 1 := Scalar.cmpi .ne v5 c0_i32
  v6

def k0_cond2 (i : grid0.Coords) : BitVec 1 :=
  let arg1 : BitVec 32 := BitVec.ofNat 32 (i 1).val
  let c4_i32_3 : BitVec 32 := 4#32
  let v7 : BitVec 1 := Scalar.cmpi .sge arg1 c4_i32_3
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x4096 : Shape := ⟨2, ![16384, 4096]⟩
abbrev S4096x10240 : Shape := ⟨2, ![4096, 10240]⟩
abbrev S128 : Shape := ⟨1, ![128]⟩
abbrev S16384x10240 : Shape := ⟨2, ![16384, 10240]⟩
abbrev S16384x2048 : Shape := ⟨2, ![16384, 2048]⟩
abbrev S4x4096x16x128 : Shape := ⟨4, ![4, 4096, 16, 128]⟩
abbrev S_ : Shape := ⟨0, ![]⟩
abbrev S4x4096x16 : Shape := ⟨3, ![4, 4096, 16]⟩
abbrev S4x4096x16x1 : Shape := ⟨4, ![4, 4096, 16, 1]⟩
abbrev S1x1x1x128 : Shape := ⟨4, ![1, 1, 1, 128]⟩
abbrev S16384x6144 : Shape := ⟨2, ![16384, 6144]⟩

abbrev nBuf : Space → Nat
  | .hbm => 47
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x10240, .f32⟩
  | .hbm, ⟨2, _⟩ => ⟨S128, .f32⟩
  | .hbm, ⟨3, _⟩ => ⟨S128, .f32⟩
  | .hbm, ⟨4, _⟩ => ⟨S16384x4096, .f32⟩
  | .hbm, ⟨5, _⟩ => ⟨S16384x10240, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S4x4096x16x128, .f32⟩
  | .hbm, ⟨10, _⟩ => ⟨S4x4096x16x128, .f32⟩
  | .hbm, ⟨11, _⟩ => ⟨S_, .f32⟩
  | .hbm, ⟨12, _⟩ => ⟨S4x4096x16, .f32⟩
  | .hbm, ⟨13, _⟩ => ⟨S4x4096x16x1, .f32⟩
  | .hbm, ⟨14, _⟩ => ⟨S_, .f32⟩
  | .hbm, ⟨15, _⟩ => ⟨S4x4096x16x1, .f32⟩
  | .hbm, ⟨16, _⟩ => ⟨S4x4096x16x1, .f32⟩
  | .hbm, ⟨17, _⟩ => ⟨S_, .f32⟩
  | .hbm, ⟨18, _⟩ => ⟨S4x4096x16x1, .f32⟩
  | .hbm, ⟨19, _⟩ => ⟨S4x4096x16x1, .f32⟩
  | .hbm, ⟨20, _⟩ => ⟨S4x4096x16x1, .f32⟩
  | .hbm, ⟨21, _⟩ => ⟨S4x4096x16x128, .f32⟩
  | .hbm, ⟨22, _⟩ => ⟨S4x4096x16x128, .f32⟩
  | .hbm, ⟨23, _⟩ => ⟨S1x1x1x128, .f32⟩
  | .hbm, ⟨24, _⟩ => ⟨S4x4096x16x128, .f32⟩
  | .hbm, ⟨25, _⟩ => ⟨S4x4096x16x128, .f32⟩
  | .hbm, ⟨26, _⟩ => ⟨S4x4096x16x128, .f32⟩
  | .hbm, ⟨27, _⟩ => ⟨S4x4096x16x128, .f32⟩
  | .hbm, ⟨28, _⟩ => ⟨S_, .f32⟩
  | .hbm, ⟨29, _⟩ => ⟨S4x4096x16, .f32⟩
  | .hbm, ⟨30, _⟩ => ⟨S4x4096x16x1, .f32⟩
  | .hbm, ⟨31, _⟩ => ⟨S_, .f32⟩
  | .hbm, ⟨32, _⟩ => ⟨S4x4096x16x1, .f32⟩
  | .hbm, ⟨33, _⟩ => ⟨S4x4096x16x1, .f32⟩
  | .hbm, ⟨34, _⟩ => ⟨S_, .f32⟩
  | .hbm, ⟨35, _⟩ => ⟨S4x4096x16x1, .f32⟩
  | .hbm, ⟨36, _⟩ => ⟨S4x4096x16x1, .f32⟩
  | .hbm, ⟨37, _⟩ => ⟨S4x4096x16x1, .f32⟩
  | .hbm, ⟨38, _⟩ => ⟨S4x4096x16x128, .f32⟩
  | .hbm, ⟨39, _⟩ => ⟨S4x4096x16x128, .f32⟩
  | .hbm, ⟨40, _⟩ => ⟨S1x1x1x128, .f32⟩
  | .hbm, ⟨41, _⟩ => ⟨S4x4096x16x128, .f32⟩
  | .hbm, ⟨42, _⟩ => ⟨S4x4096x16x128, .f32⟩
  | .hbm, ⟨43, _⟩ => ⟨S16384x2048, .f32⟩
  | .hbm, ⟨44, _⟩ => ⟨S16384x2048, .f32⟩
  | .hbm, ⟨45, _⟩ => ⟨S16384x6144, .f32⟩
  | .hbm, ⟨46, _⟩ => ⟨S16384x6144, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel3.lean ====
abbrev S16384x4096 : Shape := ⟨2, ![16384, 4096]⟩
abbrev S4096x10240 : Shape := ⟨2, ![4096, 10240]⟩
abbrev S_ : Shape := ⟨0, ![]⟩
abbrev S1x128 : Shape := ⟨2, ![1, 128]⟩
abbrev S1x1x128 : Shape := ⟨3, ![1, 1, 128]⟩
abbrev S1024x4096 : Shape := ⟨2, ![1024, 4096]⟩
abbrev S4096x1024 : Shape := ⟨2, ![4096, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x10240, .f32⟩
  | .hbm, ⟨2, _⟩ => ⟨S4096x10240, .bf16⟩
  | .hbm, ⟨3, _⟩ => ⟨S_, .f32⟩
  | .hbm, ⟨4, _⟩ => ⟨S1x128, .f32⟩
  | .hbm, ⟨5, _⟩ => ⟨S1x1x128, .f32⟩
  | .hbm, ⟨6, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1x128, .f32⟩
  | .local _ .vmem, ⟨5, _⟩ => ⟨S1x1x128, .f32⟩
  | .local _ .vmem, ⟨6, _⟩ => ⟨S1024x1024, .f32⟩
  | .local _ .vmem, ⟨7, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v4 : BitVec 1 := Scalar.cmpi .slt arg1 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c0_i32_4 : BitVec 32 := 0#32
  let v7 : BitVec 1 := Scalar.cmpi .sge arg1 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.minsi v16 c0_i32_5
  let c0_i32_6 : BitVec 32 := 0#32
  let c0_i32_7 : BitVec 32 := 0#32
  let c0_i32_8 : BitVec 32 := 0#32
  ![v17.toNat, c0_i32_6.toNat, c0_i32_7.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x4096 : Shape := ⟨2, ![16384, 4096]⟩
abbrev S4096x10240 : Shape := ⟨2, ![4096, 10240]⟩
abbrev S16384x10240 : Shape := ⟨2, ![16384, 10240]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x10240, .f32⟩
  | .hbm, ⟨2, _⟩ => ⟨S16384x4096, .f32⟩
  | .hbm, ⟨3, _⟩ => ⟨S16384x10240, .f32⟩
  | .hbm, ⟨4, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S16384x2048 : Shape := ⟨2, ![16384, 2048]⟩
abbrev S4096x4096 : Shape := ⟨2, ![4096, 4096]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .bf16⟩
  | .hbm, ⟨3, _⟩ => ⟨S16384x4096, .f32⟩
  | .hbm, ⟨4, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S16384x2048 : Shape := ⟨2, ![16384, 2048]⟩
abbrev S4096x4096 : Shape := ⟨2, ![4096, 4096]⟩
abbrev S16384x4096 : Shape := ⟨2, ![16384, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .bf16⟩
  | .hbm, ⟨3, _⟩ => ⟨S16384x4096, .f32⟩
  | .hbm, ⟨4, _⟩ => ⟨S16384x4096, .bf16⟩
  | .hbm, ⟨5, _⟩ => ⟨S16384x4096, .f32⟩
  | .hbm, ⟨6, _⟩ => ⟨S4096x4096, .f32⟩
  | .hbm, ⟨7, _⟩ => ⟨S16384x4096, .f32⟩
  | .hbm, ⟨8, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel5.lean ====
abbrev S16384x4096 : Shape := ⟨2, ![16384, 4096]⟩
abbrev S4096x2048 : Shape := ⟨2, ![4096, 2048]⟩
abbrev S8x128x128 : Shape := ⟨3, ![8, 128, 128]⟩
abbrev S8x1x128x128 : Shape := ⟨4, ![8, 1, 128, 128]⟩
abbrev S8x2x128x128 : Shape := ⟨4, ![8, 2, 128, 128]⟩
abbrev S16x128x128 : Shape := ⟨3, ![16, 128, 128]⟩
abbrev S2048x16384 : Shape := ⟨2, ![2048, 16384]⟩
abbrev S1024x4096 : Shape := ⟨2, ![1024, 4096]⟩
abbrev S4096x1024 : Shape := ⟨2, ![4096, 1024]⟩
abbrev S1024x1024 : Shape := ⟨2, ![1024, 1024]⟩
abbrev S1x128x128 : Shape := ⟨3, ![1, 128, 128]⟩
abbrev S128x128 : Shape := ⟨2, ![128, 128]⟩
abbrev S1024x128 : Shape := ⟨2, ![1024, 128]⟩
abbrev S128x1024 : Shape := ⟨2, ![128, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .bf16⟩
  | .hbm, ⟨2, _⟩ => ⟨S8x128x128, .f32⟩
  | .hbm, ⟨3, _⟩ => ⟨S8x128x128, .f32⟩
  | .hbm, ⟨4, _⟩ => ⟨S8x1x128x128, .f32⟩
  | .hbm, ⟨5, _⟩ => ⟨S8x1x128x128, .f32⟩
  | .hbm, ⟨6, _⟩ => ⟨S8x2x128x128, .f32⟩
  | .hbm, ⟨7, _⟩ => ⟨S16x128x128, .f32⟩
  | .hbm, ⟨8, _⟩ => ⟨S16x128x128, .bf16⟩
  | .hbm, ⟨9, _⟩ => ⟨S2048x16384, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S8x128x128, .bf16⟩
  | .local _ .vmem, ⟨5, _⟩ => ⟨S8x128x128, .bf16⟩
  | .local _ .vmem, ⟨6, _⟩ => ⟨S1024x1024, .f32⟩
  | .local _ .vmem, ⟨7, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S16384x4096 : Shape := ⟨2, ![16384, 4096]⟩
abbrev S4096x2048 : Shape := ⟨2, ![4096, 2048]⟩
abbrev S8x128x128 : Shape := ⟨3, ![8, 128, 128]⟩
abbrev S16384x2048 : Shape := ⟨2, ![16384, 2048]⟩
abbrev S16384x8x2x128 : Shape := ⟨4, ![16384, 8, 2, 128]⟩
abbrev S16384x8x1x128 : Shape := ⟨4, ![16384, 8, 1, 128]⟩
abbrev S16384x8x128 : Shape := ⟨3, ![16384, 8, 128]⟩
abbrev S8x128x16384 : Shape := ⟨3, ![8, 128, 16384]⟩
abbrev S2048x16384 : Shape := ⟨2, ![2048, 16384]⟩

abbrev nBuf : Space → Nat
  | .hbm => 21
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .bf16⟩
  | .hbm, ⟨2, _⟩ => ⟨S8x128x128, .f32⟩
  | .hbm, ⟨3, _⟩ => ⟨S8x128x128, .f32⟩
  | .hbm, ⟨4, _⟩ => ⟨S16384x4096, .f32⟩
  | .hbm, ⟨5, _⟩ => ⟨S4096x2048, .f32⟩
  | .hbm, ⟨6, _⟩ => ⟨S16384x2048, .f32⟩
  | .hbm, ⟨7, _⟩ => ⟨S16384x8x2x128, .f32⟩
  | .hbm, ⟨8, _⟩ => ⟨S16384x8x1x128, .f32⟩
  | .hbm, ⟨9, _⟩ => ⟨S16384x8x128, .f32⟩
  | .hbm, ⟨10, _⟩ => ⟨S8x128x16384, .f32⟩
  | .hbm, ⟨11, _⟩ => ⟨S16384x8x128, .f32⟩
  | .hbm, ⟨12, _⟩ => ⟨S16384x8x1x128, .f32⟩
  | .hbm, ⟨13, _⟩ => ⟨S16384x8x128, .f32⟩
  | .hbm, ⟨14, _⟩ => ⟨S8x128x16384, .f32⟩
  | .hbm, ⟨15, _⟩ => ⟨S16384x8x128, .f32⟩
  | .hbm, ⟨16, _⟩ => ⟨S16384x8x1x128, .f32⟩
  | .hbm, ⟨17, _⟩ => ⟨S16384x8x1x128, .f32⟩
  | .hbm, ⟨18, _⟩ => ⟨S16384x8x2x128, .f32⟩
  | .hbm, ⟨19, _⟩ => ⟨S16384x2048, .f32⟩
  | .hbm, ⟨20, _⟩ => ⟨S2048x16384, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Kernel6.lean ====
abbrev S4x4096x4096 : Shape := ⟨3, ![4, 4096, 4096]⟩
abbrev S4096 : Shape := ⟨1, ![4096]⟩
abbrev S16384x4096 : Shape := ⟨2, ![16384, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S16384x4096, .f32⟩
  | .hbm, ⟨3, _⟩ => ⟨S1x4096, .f32⟩
  | .hbm, ⟨4, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S4x4096x4096 : Shape := ⟨3, ![4, 4096, 4096]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩
abbrev S16384x4096 : Shape := ⟨2, ![16384, 4096]⟩

abbrev nBuf : Space → Nat
  | .hbm => 20
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4x4096x4096, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S_, .f32⟩
  | .hbm, ⟨7, _⟩ => ⟨S4x4096x1, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S4x4096x1, .f32⟩
  | .hbm, ⟨13, _⟩ => ⟨S4x4096x4096, .f32⟩
  | .hbm, ⟨14, _⟩ => ⟨S4x4096x4096, .f32⟩
  | .hbm, ⟨15, _⟩ => ⟨S1x1x4096, .f32⟩
  | .hbm, ⟨16, _⟩ => ⟨S4x4096x4096, .f32⟩
  | .hbm, ⟨17, _⟩ => ⟨S4x4096x4096, .f32⟩
  | .hbm, ⟨18, _⟩ => ⟨S16384x4096, .f32⟩
  | .hbm, ⟨19, _⟩ => ⟨S16384x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel7.lean ====
abbrev S16384x4096 : Shape := ⟨2, ![16384, 4096]⟩
abbrev S8x2x128x16384 : Shape := ⟨4, ![8, 2, 128, 16384]⟩
abbrev S8x64x16384 : Shape := ⟨3, ![8, 64, 16384]⟩
abbrev S128x1024x128 : Shape := ⟨3, ![128, 1024, 128]⟩
abbrev S512x4096 : Shape := ⟨2, ![512, 4096]⟩
abbrev S8x1x128x512 : Shape := ⟨4, ![8, 1, 128, 512]⟩
abbrev S8x64x512 : Shape := ⟨3, ![8, 64, 512]⟩
abbrev S4x32x128 : Shape := ⟨3, ![4, 32, 128]⟩
abbrev S512x512 : Shape := ⟨2, ![512, 512]⟩
abbrev S1x1x128 : Shape := ⟨3, ![1, 1, 128]⟩
abbrev S1x128 : Shape := ⟨2, ![1, 128]⟩
abbrev S128x128 : Shape := ⟨2, ![128, 128]⟩
abbrev S1x64x128 : Shape := ⟨3, ![1, 64, 128]⟩
abbrev S64x128 : Shape := ⟨2, ![64, 128]⟩
abbrev S1x1x128x128 : Shape := ⟨4, ![1, 1, 128, 128]⟩

abbrev nBuf : Space → Nat
  | .hbm => 9
  | .vmem => 17
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S16384x4096, .bf16⟩
  | .hbm, ⟨3, _⟩ => ⟨S8x2x128x16384, .f32⟩
  | .hbm, ⟨4, _⟩ => ⟨S8x64x16384, .i32⟩
  | .hbm, ⟨5, _⟩ => ⟨S128x1024x128, .f32⟩
  | .hbm, ⟨6, _⟩ => ⟨S128x1024x128, .f32⟩
  | .hbm, ⟨7, _⟩ => ⟨S16384x4096, .f32⟩
  | .hbm, ⟨8, _⟩ => ⟨S16384x4096, .f32⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .bf16⟩
  | .local _ .vmem, ⟨5, _⟩ => ⟨S8x1x128x512, .f32⟩
  | .local _ .vmem, ⟨6, _⟩ => ⟨S8x64x512, .i32⟩
  | .local _ .vmem, ⟨7, _⟩ => ⟨S4x32x128, .f32⟩
  | .local _ .vmem, ⟨8, _⟩ => ⟨S4x32x128, .f32⟩
  | .local _ .vmem, ⟨9, _⟩ => ⟨S4x32x128, .f32⟩
  | .local _ .vmem, ⟨10, _⟩ => ⟨S4x32x128, .f32⟩
  | .local _ .vmem, ⟨11, _⟩ => ⟨S512x4096, .f32⟩
  | .local _ .vmem, ⟨12, _⟩ => ⟨S512x4096, .f32⟩
  | .local _ .vmem, ⟨13, _⟩ => ⟨S512x4096, .f32⟩
  | .local _ .vmem, ⟨14, _⟩ => ⟨S512x4096, .f32⟩
  | .local _ .vmem, ⟨15, _⟩ => ⟨S512x512, .f32⟩
  | .local _ .vmem, ⟨16, _⟩ => ⟨S512x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![32, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x1x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S8x64x512 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S4x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Kernel7Ideal.lean ====
variable {F : FTy → Type} [FloatOps F] [Named F]
def κ : String → Option EReal := fun
  | "cubic" => some ((80338380498831 / 2251799813685248 : ℝ) : EReal)
  | _ => none
-- ==== Reference7Ideal.lean ====
abbrev S16384x4096 : Shape := ⟨2, ![16384, 4096]⟩
abbrev S8x2x128x16384 : Shape := ⟨4, ![8, 2, 128, 16384]⟩
abbrev S8x64x16384 : Shape := ⟨3, ![8, 64, 16384]⟩
abbrev S128x1024x128 : Shape := ⟨3, ![128, 1024, 128]⟩
abbrev S8x64x16384x2 : Shape := ⟨4, ![8, 64, 16384, 2]⟩
abbrev S8x64x2x16384 : Shape := ⟨4, ![8, 64, 2, 16384]⟩
abbrev S8x128x16384 : Shape := ⟨3, ![8, 128, 16384]⟩
abbrev S128x128x8x128 : Shape := ⟨4, ![128, 128, 8, 128]⟩
abbrev S8x128x128x128 : Shape := ⟨4, ![8, 128, 128, 128]⟩
abbrev S8x1x128x16384 : Shape := ⟨4, ![8, 1, 128, 16384]⟩
abbrev S8x128x1x16384 : Shape := ⟨4, ![8, 128, 1, 16384]⟩
abbrev S8x128x128x16384 : Shape := ⟨4, ![8, 128, 128, 16384]⟩
abbrev S_ : Shape := ⟨0, ![]⟩
abbrev S128x128x16384 : Shape := ⟨3, ![128, 128, 16384]⟩
abbrev S16384x16384 : Shape := ⟨2, ![16384, 16384]⟩
abbrev S4096x16384 : Shape := ⟨2, ![4096, 16384]⟩

abbrev nBuf : Space → Nat
  | .hbm => 66
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S16384x4096, .bf16⟩
  | .hbm, ⟨3, _⟩ => ⟨S8x2x128x16384, .f32⟩
  | .hbm, ⟨4, _⟩ => ⟨S8x64x16384, .i32⟩
  | .hbm, ⟨5, _⟩ => ⟨S128x1024x128, .f32⟩
  | .hbm, ⟨6, _⟩ => ⟨S128x1024x128, .f32⟩
  | .hbm, ⟨7, _⟩ => ⟨S16384x4096, .f32⟩
  | .hbm, ⟨8, _⟩ => ⟨S8x64x16384x2, .bf16⟩
  | .hbm, ⟨9, _⟩ => ⟨S8x64x16384x2, .f32⟩
  | .hbm, ⟨10, _⟩ => ⟨S8x64x2x16384, .f32⟩
  | .hbm, ⟨11, _⟩ => ⟨S8x128x16384, .f32⟩
  | .hbm, ⟨12, _⟩ => ⟨S128x128x8x128, .f32⟩
  | .hbm, ⟨13, _⟩ => ⟨S8x128x128x128, .f32⟩
  | .hbm, ⟨14, _⟩ => ⟨S8x128x16384, .f32⟩
  | .hbm, ⟨15, _⟩ => ⟨S128x128x8x128, .f32⟩
  | .hbm, ⟨16, _⟩ => ⟨S8x128x128x128, .f32⟩
  | .hbm, ⟨17, _⟩ => ⟨S8x128x16384, .f32⟩
  | .hbm, ⟨18, _⟩ => ⟨S8x1x128x16384, .f32⟩
  | .hbm, ⟨19, _⟩ => ⟨S8x128x16384, .f32⟩
  | .hbm, ⟨20, _⟩ => ⟨S8x1x128x16384, .f32⟩
  | .hbm, ⟨21, _⟩ => ⟨S8x128x1x16384, .f32⟩
  | .hbm, ⟨22, _⟩ => ⟨S8x128x128x16384, .f32⟩
  | .hbm, ⟨23, _⟩ => ⟨S8x128x128x16384, .f32⟩
  | .hbm, ⟨24, _⟩ => ⟨S8x128x128x16384, .i1⟩
  | .hbm, ⟨25, _⟩ => ⟨S8x128x1x16384, .f32⟩
  | .hbm, ⟨26, _⟩ => ⟨S8x1x128x16384, .f32⟩
  | .hbm, ⟨27, _⟩ => ⟨S8x128x128x16384, .f32⟩
  | .hbm, ⟨28, _⟩ => ⟨S8x128x128x16384, .f32⟩
  | .hbm, ⟨29, _⟩ => ⟨S8x128x128x16384, .f32⟩
  | .hbm, ⟨30, _⟩ => ⟨S_, .f32⟩
  | .hbm, ⟨31, _⟩ => ⟨S_, .f32⟩
  | .hbm, ⟨32, _⟩ => ⟨S8x128x128x16384, .f32⟩
  | .hbm, ⟨33, _⟩ => ⟨S8x128x128x16384, .f32⟩
  | .hbm, ⟨34, _⟩ => ⟨S_, .f32⟩
  | .hbm, ⟨35, _⟩ => ⟨S128x128x16384, .f32⟩
  | .hbm, ⟨36, _⟩ => ⟨S16384x16384, .f32⟩
  | .hbm, ⟨37, _⟩ => ⟨S16384x16384, .f32⟩
  | .hbm, ⟨38, _⟩ => ⟨S_, .f32⟩
  | .hbm, ⟨39, _⟩ => ⟨S16384x16384, .f32⟩
  | .hbm, ⟨40, _⟩ => ⟨S16384x16384, .f32⟩
  | .hbm, ⟨41, _⟩ => ⟨S16384x4096, .f32⟩
  | .hbm, ⟨42, _⟩ => ⟨S16384x4096, .f32⟩
  | .hbm, ⟨43, _⟩ => ⟨S4096x16384, .f32⟩
  | .hbm, ⟨44, _⟩ => ⟨S16384x16384, .f32⟩
  | .hbm, ⟨45, _⟩ => ⟨S16384x16384, .f32⟩
  | .hbm, ⟨46, _⟩ => ⟨S16384x16384, .f32⟩
  | .hbm, ⟨47, _⟩ => ⟨S_, .f32⟩
  | .hbm, ⟨48, _⟩ => ⟨S16384x16384, .f32⟩
  | .hbm, ⟨49, _⟩ => ⟨S16384x16384, .f32⟩
  | .hbm, ⟨50, _⟩ => ⟨S16384x16384, .f32⟩
  | .hbm, ⟨51, _⟩ => ⟨S_, .f32⟩
  | .hbm, ⟨52, _⟩ => ⟨S16384x16384, .f32⟩
  | .hbm, ⟨53, _⟩ => ⟨S16384x16384, .f32⟩
  | .hbm, ⟨54, _⟩ => ⟨S16384x16384, .f32⟩
  | .hbm, ⟨55, _⟩ => ⟨S_, .f32⟩
  | .hbm, ⟨56, _⟩ => ⟨S16384x16384, .f32⟩
  | .hbm, ⟨57, _⟩ => ⟨S16384x16384, .f32⟩
  | .hbm, ⟨58, _⟩ => ⟨S_, .f32⟩
  | .hbm, ⟨59, _⟩ => ⟨S16384x16384, .f32⟩
  | .hbm, ⟨60, _⟩ => ⟨S16384x16384, .f32⟩
  | .hbm, ⟨61, _⟩ => ⟨S16384x16384, .f32⟩
  | .hbm, ⟨62, _⟩ => ⟨S16384x16384, .f32⟩
  | .hbm, ⟨63, _⟩ => ⟨S16384x4096, .f32⟩
  | .hbm, ⟨64, _⟩ => ⟨S16384x4096, .f32⟩
  | .hbm, ⟨65, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Proof.Launch.lean ====
/- The kernel's run: each result array is what the grid points' bodies leave in it, block by block. -/
module

public import proofs.«01_k».proof.Proof.Gen.KernelIdeal.Frame
public import Idealize.ShloMosaic.Lib.Pipeline.Value

@[expose] public section

noncomputable section

namespace Proof.Launch

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v20_0) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v20_1) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v20_2) = (dats m 0 c).arrAt 13 cfg0.N :=
  (h c).1 13

/-- After the frame run, argument `main_arg0` is as launched: input window 6 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 6).trans (((dats m 0 c).arrAt_in 6 rfl _).trans ((A_eq m c 6).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 9 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 9).trans (((dats m 0 c).arrAt_in 9 rfl _).trans ((A_eq m c 9).trans (V_main_arg3 m c)))

/-- After the frame run, argument `main_arg4` is as launched: input window 10 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 10).trans (((dats m 0 c).arrAt_in 10 rfl _).trans ((A_eq m c 10).trans (V_main_arg4 m c)))
/-- Two points of equal number leave the same contents (the bound's proof does not enter). -/
theorem outs_congr (c : Dev nD) : ∀ (j : ℕ) (h : j < cfg0.N) (j' : ℕ) (h' : j' < cfg0.N), j = j' →
    outsAt0 m c j h = outsAt0 m c j' h' := by
  intro j h j' h' hj; subst hj; rfl

/-! ## Output window 11 -/

/-- The block of the array that holds index `i`, numbered in the order the points write the blocks back (one per point),
    `i`'s place in it, and the point that writes it back. -/
abbrev run11Of (i : S16384x2048.Idx) : ℕ := 1 * ((i 0).val / 256 - 0) + 1 * ((i 1).val / 2048 - 0)
set_option backward.proofsInPublic true in
abbrev loc11Of (i : S16384x2048.Idx) : S256x2048.Idx := fun a => match a with
  | ⟨0, _⟩ => ⟨(i 0).val % 256, Nat.mod_lt _ (by decide)⟩
  | ⟨1, _⟩ => ⟨(i 1).val % 2048, Nat.mod_lt _ (by decide)⟩
abbrev pt11Of (i : S16384x2048.Idx) : ℕ := run11Of i

/-- WHAT THE ARRAY ENDS HOLDING at index `i` inside the box the flushing blocks fill: output 11's component of the carried
    state's fold at the point that writes `i`'s block back, at `i`'s place in the block. `G11` states the array's contents
    only inside the box. -/
def G11 (c : Dev nD) : Buf (Elt F) ((c : Thread nD τ).loc main_v20_0) := fun i =>
  if h : pt11Of i < cfg0.N then
    (outsAt0 m c (pt11Of i) h).1 (loc11Of i)
  else V m c (Pipeline.arrRef spec0 11) i

/-- The printed index map, decided over the grid: output window 11's block indices stay in the box, and the block number
    read off them is the point's (`t`). -/
theorem idx_facts11 : ∀ t : Fin cfg0.N, 0 ≤ win0_11.index t (0 : Fin 2) ∧ win0_11.index t (0 : Fin 2) ≤ 63
    ∧ 0 ≤ win0_11.index t (1 : Fin 2) ∧ win0_11.index t (1 : Fin 2) ≤ 0
    ∧ 1 * (win0_11.index t (0 : Fin 2) - 0) + 1 * (win0_11.index t (1 : Fin 2) - 0) = t.val :=
  (by decide +kernel : ∀ t : Fin grid0.N, _)

/-- Every block of the box is SOME flushing point's: `onto11Pt`, the point that writes back the block at place `q` of the box. -/
abbrev onto11Pt (q0 : Fin 64) (q1 : Fin 1) : Fin grid0.N :=
  ⟨1 * q0.val + 1 * q1.val, lt_of_lt_of_eq (by omega) N_0.symm⟩
theorem idx_onto11 : ∀ (q0 : Fin 64) (q1 : Fin 1), ∃ t : Fin cfg0.N, (cfg0.win 11).flush t = true ∧ win0_11.index t = ![q0.val + 0, q1.val + 0] :=
  fun q0 q1 => ⟨onto11Pt q0 q1, (by decide +kernel : ∀ (q0 : Fin 64) (q1 : Fin 1), win0_11.flush (onto11Pt q0 q1) = true ∧ win0_11.index (onto11Pt q0 q1) = ![q0.val + 0, q1.val + 0]) q0 q1⟩

/-- WHAT A FLUSHING POINT `t` WRITES BACK is block `t` of `G11`: output 11's component of the fold up to `t`. -/
theorem flushed11_eq (c : Dev nD) (t : Fin cfg0.N) (hf : (cfg0.win 11).flush t = true) :
    (dats m 0 c).flushed 11 t = ((cfg0.win 11).blk t).view.read (Elt F) (G11 m c) := by
  show (cfg0.win 11).cut (grid0.coords t) ((dats m 0 c).after 11 t) = _
  rw [after0_11]
  obtain ⟨e0, e1, e2⟩ := idx_facts11 t
  funext y
  have hy0 : (y 0).val < 256 := (y 0).isLt
  have hy1 : (y 1).val < 2048 := (y 1).isLt
  have hb0 : (((cfg0.win 11).blk t).view.emb y 0).val = win0_11.index t (0 : Fin 2) * 256 + 1 * (y 0).val := rfl
  have hb1 : (((cfg0.win 11).blk t).view.emb y 1).val = win0_11.index t (1 : Fin 2) * 2048 + 1 * (y 1).val := rfl
  have hr : run11Of (((cfg0.win 11).blk t).view.emb y) = t.val := by
    show 1 * ((((cfg0.win 11).blk t).view.emb y 0).val / 256 - 0) + 1 * ((((cfg0.win 11).blk t).view.emb y 1).val / 2048 - 0) = _
    rw [hb0, hb1]
    rw [show (win0_11.index t (0 : Fin 2) * 256 + 1 * (y 0).val) / 256 = win0_11.index t (0 : Fin 2) from by omega]; rw [show (win0_11.index t (1 : Fin 2) * 2048 + 1 * (y 1).val) / 2048 = win0_11.index t (1 : Fin 2) from by omega]
    omega
  have hl : loc11Of (((cfg0.win 11).blk t).view.emb y) = (cfg0.win 11).xinj (grid0.coords t) y := by
    funext a; apply Fin.ext
    match a with
    | ⟨0, _⟩ => show (((cfg0.win 11).blk t).view.emb y 0).val % 256 = (y 0).val; rw [hb0]; omega
    | ⟨1, _⟩ => show (((cfg0.win 11).blk t).view.emb y 1).val % 2048 = (y 1).val; rw [hb1]; omega
  have hp : pt11Of (((cfg0.win 11).blk t).view.emb y) = t.val := by
    exact hr
  show (outsAt0 m c t.val t.isLt).1 ((cfg0.win 11).xinj (grid0.coords t) y) = G11 m c (((cfg0.win 11).blk t).view.emb y)
  unfold G11
  rw [dif_pos (by rw [hp]; exact t.isLt), hl, outs_congr m c _ _ _ _ hp.symm]

/-- An index of the array is in point `t`'s block iff each coordinate is in the block's range on its axis. -/
theorem mem_blk11 (t : Fin cfg0.N) (i : S16384x2048.Idx) :
    i ∈ ((cfg0.win 11).blk t).view.set ↔ ∀ a : Fin 2, win0_11.index t a * S256x2048.size a ≤ (i a).val ∧ (i a).val < win0_11.index t a * S256x2048.size a + S256x2048.size a := by
  show i ∈ ((View.whole main_v20_0).slice (win0_11.rect t)).set ↔ _
  rw [View.set_slice_whole, Rect.mem_set_unit]
  exact Iff.rfl

/-- THE COVERED INDICES: in some flushing point's block iff inside the box those blocks fill. -/
theorem covered_iff11 (i : S16384x2048.Idx) :
    (∃ t : Fin cfg0.N, (cfg0.win 11).flush t = true ∧ i ∈ ((cfg0.win 11).blk t).view.set) ↔ 0 ≤ (i 0).val ∧ (i 0).val < 16384 ∧ 0 ≤ (i 1).val ∧ (i 1).val < 2048 := by
  constructor
  · rintro ⟨t, -, hi⟩
    rw [mem_blk11] at hi
    have b0 : win0_11.index t (0 : Fin 2) * 256 ≤ (i 0).val ∧ (i 0).val < win0_11.index t (0 : Fin 2) * 256 + 256 := hi 0
    have b1 : win0_11.index t (1 : Fin 2) * 2048 ≤ (i 1).val ∧ (i 1).val < win0_11.index t (1 : Fin 2) * 2048 + 2048 := hi 1
    obtain ⟨e0, e1, e2⟩ := idx_facts11 t
    omega
  · intro h
    have hi0 : (i 0).val < 16384 := (i 0).isLt
    have hi1 : (i 1).val < 2048 := (i 1).isLt
    obtain ⟨t, hft, ht⟩ := idx_onto11 ⟨(i 0).val / 256 - 0, by omega⟩ ⟨(i 1).val / 2048 - 0, by omega⟩
    have q0 : win0_11.index t (0 : Fin 2) = (i 0).val / 256 - 0 + 0 := congrFun ht 0
    have q1 : win0_11.index t (1 : Fin 2) = (i 1).val / 2048 - 0 + 0 := congrFun ht 1
    refine ⟨t, hft, ?_⟩
    rw [mem_blk11]
    intro a
    match a with
    | ⟨0, _⟩ => show win0_11.index t (0 : Fin 2) * 256 ≤ (i 0).val ∧ (i 0).val < win0_11.index t (0 : Fin 2) * 256 + 256; omega
    | ⟨1, _⟩ => show win0_11.index t (1 : Fin 2) * 2048 ≤ (i 1).val ∧ (i 1).val < win0_11.index t (1 : Fin 2) * 2048 + 2048; omega

/-- THE ARRAY after the run: `G11` (the flushing blocks tile it). -/
theorem final11 (c : Dev nD) : (dats m 0 c).arrAt 11 cfg0.N = G11 m c :=
  (dats m 0 c).arrAt_eq_of_cover 11 _ (fun t hf => flushed11_eq m c t hf) (fun i => (covered_iff11 i).2 (by
    have h0 : (i 0).val < 16384 := (i 0).isLt; have h1 : (i 1).val < 2048 := (i 1).isLt; omega))

/-! ## Output window 12 -/

/-- The block of the array that holds index `i`, numbered in the order the points write the blocks back (one per point),
    `i`'s place in it, and the point that writes it back. -/
abbrev run12Of (i : S4096x4096.Idx) : ℕ := 1 * ((i 0).val / 64 - 0) + 1 * ((i 1).val / 4096 - 0)
set_option backward.proofsInPublic true in
abbrev loc12Of (i : S4096x4096.Idx) : S64x4096.Idx := fun a => match a with
  | ⟨0, _⟩ => ⟨(i 0).val % 64, Nat.mod_lt _ (by decide)⟩
  | ⟨1, _⟩ => ⟨(i 1).val % 4096, Nat.mod_lt _ (by decide)⟩
abbrev pt12Of (i : S4096x4096.Idx) : ℕ := run12Of i

/-- WHAT THE ARRAY ENDS HOLDING at index `i` inside the box the flushing blocks fill: output 12's component of the carried
    state's fold at the point that writes `i`'s block back, at `i`'s place in the block. `G12` states the array's contents
    only inside the box. -/
def G12 (c : Dev nD) : Buf (Elt F) ((c : Thread nD τ).loc main_v20_1) := fun i =>
  if h : pt12Of i < cfg0.N then
    (outsAt0 m c (pt12Of i) h).2.1 (loc12Of i)
  else V m c (Pipeline.arrRef spec0 12) i

/-- The printed index map, decided over the grid: output window 12's block indices stay in the box, and the block number
    read off them is the point's (`t`). -/
theorem idx_facts12 : ∀ t : Fin cfg0.N, 0 ≤ win0_12.index t (0 : Fin 2) ∧ win0_12.index t (0 : Fin 2) ≤ 63
    ∧ 0 ≤ win0_12.index t (1 : Fin 2) ∧ win0_12.index t (1 : Fin 2) ≤ 0
    ∧ 1 * (win0_12.index t (0 : Fin 2) - 0) + 1 * (win0_12.index t (1 : Fin 2) - 0) = t.val :=
  (by decide +kernel : ∀ t : Fin grid0.N, _)

/-- Every block of the box is SOME flushing point's: `onto12Pt`, the point that writes back the block at place `q` of the box. -/
abbrev onto12Pt (q0 : Fin 64) (q1 : Fin 1) : Fin grid0.N :=
  ⟨1 * q0.val + 1 * q1.val, lt_of_lt_of_eq (by omega) N_0.symm⟩
theorem idx_onto12 : ∀ (q0 : Fin 64) (q1 : Fin 1), ∃ t : Fin cfg0.N, (cfg0.win 12).flush t = true ∧ win0_12.index t = ![q0.val + 0, q1.val + 0] :=
  fun q0 q1 => ⟨onto12Pt q0 q1, (by decide +kernel : ∀ (q0 : Fin 64) (q1 : Fin 1), win0_12.flush (onto12Pt q0 q1) = true ∧ win0_12.index (onto12Pt q0 q1) = ![q0.val + 0, q1.val + 0]) q0 q1⟩

/-- WHAT A FLUSHING POINT `t` WRITES BACK is block `t` of `G12`: output 12's component of the fold up to `t`. -/
theorem flushed12_eq (c : Dev nD) (t : Fin cfg0.N) (hf : (cfg0.win 12).flush t = true) :
    (dats m 0 c).flushed 12 t = ((cfg0.win 12).blk t).view.read (Elt F) (G12 m c) := by
  show (cfg0.win 12).cut (grid0.coords t) ((dats m 0 c).after 12 t) = _
  rw [after0_12]
  obtain ⟨e0, e1, e2⟩ := idx_facts12 t
  funext y
  have hy0 : (y 0).val < 64 := (y 0).isLt
  have hy1 : (y 1).val < 4096 := (y 1).isLt
  have hb0 : (((cfg0.win 12).blk t).view.emb y 0).val = win0_12.index t (0 : Fin 2) * 64 + 1 * (y 0).val := rfl
  have hb1 : (((cfg0.win 12).blk t).view.emb y 1).val = win0_12.index t (1 : Fin 2) * 4096 + 1 * (y 1).val := rfl
  have hr : run12Of (((cfg0.win 12).blk t).view.emb y) = t.val := by
    show 1 * ((((cfg0.win 12).blk t).view.emb y 0).val / 64 - 0) + 1 * ((((cfg0.win 12).blk t).view.emb y 1).val / 4096 - 0) = _
    rw [hb0, hb1]
    rw [show (win0_12.index t (0 : Fin 2) * 64 + 1 * (y 0).val) / 64 = win0_12.index t (0 : Fin 2) from by omega]; rw [show (win0_12.index t (1 : Fin 2) * 4096 + 1 * (y 1).val) / 4096 = win0_12.index t (1 : Fin 2) from by omega]
    omega
  have hl : loc12Of (((cfg0.win 12).blk t).view.emb y) = (cfg0.win 12).xinj (grid0.coords t) y := by
    funext a; apply Fin.ext
    match a with
    | ⟨0, _⟩ => show (((cfg0.win 12).blk t).view.emb y 0).val % 64 = (y 0).val; rw [hb0]; omega
    | ⟨1, _⟩ => show (((cfg0.win 12).blk t).view.emb y 1).val % 4096 = (y 1).val; rw [hb1]; omega
  have hp : pt12Of (((cfg0.win 12).blk t).view.emb y) = t.val := by
    exact hr
  show (outsAt0 m c t.val t.isLt).2.1 ((cfg0.win 12).xinj (grid0.coords t) y) = G12 m c (((cfg0.win 12).blk t).view.emb y)
  unfold G12
  rw [dif_pos (by rw [hp]; exact t.isLt), hl, outs_congr m c _ _ _ _ hp.symm]

/-- An index of the array is in point `t`'s block iff each coordinate is in the block's range on its axis. -/
theorem mem_blk12 (t : Fin cfg0.N) (i : S4096x4096.Idx) :
    i ∈ ((cfg0.win 12).blk t).view.set ↔ ∀ a : Fin 2, win0_12.index t a * S64x4096.size a ≤ (i a).val ∧ (i a).val < win0_12.index t a * S64x4096.size a + S64x4096.size a := by
  show i ∈ ((View.whole main_v20_1).slice (win0_12.rect t)).set ↔ _
  rw [View.set_slice_whole, Rect.mem_set_unit]
  exact Iff.rfl

/-- THE COVERED INDICES: in some flushing point's block iff inside the box those blocks fill. -/
theorem covered_iff12 (i : S4096x4096.Idx) :
    (∃ t : Fin cfg0.N, (cfg0.win 12).flush t = true ∧ i ∈ ((cfg0.win 12).blk t).view.set) ↔ 0 ≤ (i 0).val ∧ (i 0).val < 4096 ∧ 0 ≤ (i 1).val ∧ (i 1).val < 4096 := by
  constructor
  · rintro ⟨t, -, hi⟩
    rw [mem_blk12] at hi
    have b0 : win0_12.index t (0 : Fin 2) * 64 ≤ (i 0).val ∧ (i 0).val < win0_12.index t (0 : Fin 2) * 64 + 64 := hi 0
    have b1 : win0_12.index t (1 : Fin 2) * 4096 ≤ (i 1).val ∧ (i 1).val < win0_12.index t (1 : Fin 2) * 4096 + 4096 := hi 1
    obtain ⟨e0, e1, e2⟩ := idx_facts12 t
    omega
  · intro h
    have hi0 : (i 0).val < 4096 := (i 0).isLt
    have hi1 : (i 1).val < 4096 := (i 1).isLt
    obtain ⟨t, hft, ht⟩ := idx_onto12 ⟨(i 0).val / 64 - 0, by omega⟩ ⟨(i 1).val / 4096 - 0, by omega⟩
    have q0 : win0_12.index t (0 : Fin 2) = (i 0).val / 64 - 0 + 0 := congrFun ht 0
    have q1 : win0_12.index t (1 : Fin 2) = (i 1).val / 4096 - 0 + 0 := congrFun ht 1
    refine ⟨t, hft, ?_⟩
    rw [mem_blk12]
    intro a
    match a with
    | ⟨0, _⟩ => show win0_12.index t (0 : Fin 2) * 64 ≤ (i 0).val ∧ (i 0).val < win0_12.index t (0 : Fin 2) * 64 + 64; omega
    | ⟨1, _⟩ => show win0_12.index t (1 : Fin 2) * 4096 ≤ (i 1).val ∧ (i 1).val < win0_12.index t (1 : Fin 2) * 4096 + 4096; omega

/-- THE ARRAY after the run: `G12` (the flushing blocks tile it). -/
theorem final12 (c : Dev nD) : (dats m 0 c).arrAt 12 cfg0.N = G12 m c :=
  (dats m 0 c).arrAt_eq_of_cover 12 _ (fun t hf => flushed12_eq m c t hf) (fun i => (covered_iff12 i).2 (by
    have h0 : (i 0).val < 4096 := (i 0).isLt; have h1 : (i 1).val < 4096 := (i 1).isLt; omega))

/-! ## Output window 13 -/

/-- The block of the array that holds index `i`, numbered in the order the points write the blocks back (one per point),
    `i`'s place in it, and the point that writes it back. -/
abbrev run13Of (i : S4096x2048.Idx) : ℕ := 1 * ((i 0).val / 64 - 0) + 1 * ((i 1).val / 2048 - 0)
set_option backward.proofsInPublic true in
abbrev loc13Of (i : S4096x2048.Idx) : S64x2048.Idx := fun a => match a with
  | ⟨0, _⟩ => ⟨(i 0).val % 64, Nat.mod_lt _ (by decide)⟩
  | ⟨1, _⟩ => ⟨(i 1).val % 2048, Nat.mod_lt _ (by decide)⟩
abbrev pt13Of (i : S4096x2048.Idx) : ℕ := run13Of i

/-- WHAT THE ARRAY ENDS HOLDING at index `i` inside the box the flushing blocks fill: output 13's component of the carried
    state's fold at the point that writes `i`'s block back, at `i`'s place in the block. `G13` states the array's contents
    only inside the box. -/
def G13 (c : Dev nD) : Buf (Elt F) ((c : Thread nD τ).loc main_v20_2) := fun i =>
  if h : pt13Of i < cfg0.N then
    (outsAt0 m c (pt13Of i) h).2.2.1 (loc13Of i)
  else V m c (Pipeline.arrRef spec0 13) i

/-- The printed index map, decided over the grid: output window 13's block indices stay in the box, and the block number
    read off them is the point's (`t`). -/
theorem idx_facts13 : ∀ t : Fin cfg0.N, 0 ≤ win0_13.index t (0 : Fin 2) ∧ win0_13.index t (0 : Fin 2) ≤ 63
    ∧ 0 ≤ win0_13.index t (1 : Fin 2) ∧ win0_13.index t (1 : Fin 2) ≤ 0
    ∧ 1 * (win0_13.index t (0 : Fin 2) - 0) + 1 * (win0_13.index t (1 : Fin 2) - 0) = t.val :=
  (by decide +kernel : ∀ t : Fin grid0.N, _)

/-- Every block of the box is SOME flushing point's: `onto13Pt`, the point that writes back the block at place `q` of the box. -/
abbrev onto13Pt (q0 : Fin 64) (q1 : Fin 1) : Fin grid0.N :=
  ⟨1 * q0.val + 1 * q1.val, lt_of_lt_of_eq (by omega) N_0.symm⟩
theorem idx_onto13 : ∀ (q0 : Fin 64) (q1 : Fin 1), ∃ t : Fin cfg0.N, (cfg0.win 13).flush t = true ∧ win0_13.index t = ![q0.val + 0, q1.val + 0] :=
  fun q0 q1 => ⟨onto13Pt q0 q1, (by decide +kernel : ∀ (q0 : Fin 64) (q1 : Fin 1), win0_13.flush (onto13Pt q0 q1) = true ∧ win0_13.index (onto13Pt q0 q1) = ![q0.val + 0, q1.val + 0]) q0 q1⟩

/-- WHAT A FLUSHING POINT `t` WRITES BACK is block `t` of `G13`: output 13's component of the fold up to `t`. -/
theorem flushed13_eq (c : Dev nD) (t : Fin cfg0.N) (hf : (cfg0.win 13).flush t = true) :
    (dats m 0 c).flushed 13 t = ((cfg0.win 13).blk t).view.read (Elt F) (G13 m c) := by
  show (cfg0.win 13).cut (grid0.coords t) ((dats m 0 c).after 13 t) = _
  rw [after0_13]
  obtain ⟨e0, e1, e2⟩ := idx_facts13 t
  funext y
  have hy0 : (y 0).val < 64 := (y 0).isLt
  have hy1 : (y 1).val < 2048 := (y 1).isLt
  have hb0 : (((cfg0.win 13).blk t).view.emb y 0).val = win0_13.index t (0 : Fin 2) * 64 + 1 * (y 0).val := rfl
  have hb1 : (((cfg0.win 13).blk t).view.emb y 1).val = win0_13.index t (1 : Fin 2) * 2048 + 1 * (y 1).val := rfl
  have hr : run13Of (((cfg0.win 13).blk t).view.emb y) = t.val := by
    show 1 * ((((cfg0.win 13).blk t).view.emb y 0).val / 64 - 0) + 1 * ((((cfg0.win 13).blk t).view.emb y 1).val / 2048 - 0) = _
    rw [hb0, hb1]
    rw [show (win0_13.index t (0 : Fin 2) * 64 + 1 * (y 0).val) / 64 = win0_13.index t (0 : Fin 2) from by omega]; rw [show (win0_13.index t (1 : Fin 2) * 2048 + 1 * (y 1).val) / 2048 = win0_13.index t (1 : Fin 2) from by omega]
    omega
  have hl : loc13Of (((cfg0.win 13).blk t).view.emb y) = (cfg0.win 13).xinj (grid0.coords t) y := by
    funext a; apply Fin.ext
    match a with
    | ⟨0, _⟩ => show (((cfg0.win 13).blk t).view.emb y 0).val % 64 = (y 0).val; rw [hb0]; omega
    | ⟨1, _⟩ => show (((cfg0.win 13).blk t).view.emb y 1).val % 2048 = (y 1).val; rw [hb1]; omega
  have hp : pt13Of (((cfg0.win 13).blk t).view.emb y) = t.val := by
    exact hr
  show (outsAt0 m c t.val t.isLt).2.2.1 ((cfg0.win 13).xinj (grid0.coords t) y) = G13 m c (((cfg0.win 13).blk t).view.emb y)
  unfold G13
  rw [dif_pos (by rw [hp]; exact t.isLt), hl, outs_congr m c _ _ _ _ hp.symm]

/-- An index of the array is in point `t`'s block iff each coordinate is in the block's range on its axis. -/
theorem mem_blk13 (t : Fin cfg0.N) (i : S4096x2048.Idx) :
    i ∈ ((cfg0.win 13).blk t).view.set ↔ ∀ a : Fin 2, win0_13.index t a * S64x2048.size a ≤ (i a).val ∧ (i a).val < win0_13.index t a * S64x2048.size a + S64x2048.size a := by
  show i ∈ ((View.whole main_v20_2).slice (win0_13.rect t)).set ↔ _
  rw [View.set_slice_whole, Rect.mem_set_unit]
  exact Iff.rfl

/-- THE COVERED INDICES: in some flushing point's block iff inside the box those blocks fill. -/
theorem covered_iff13 (i : S4096x2048.Idx) :
    (∃ t : Fin cfg0.N, (cfg0.win 13).flush t = true ∧ i ∈ ((cfg0.win 13).blk t).view.set) ↔ 0 ≤ (i 0).val ∧ (i 0).val < 4096 ∧ 0 ≤ (i 1).val ∧ (i 1).val < 2048 := by
  constructor
  · rintro ⟨t, -, hi⟩
    rw [mem_blk13] at hi
    have b0 : win0_13.index t (0 : Fin 2) * 64 ≤ (i 0).val ∧ (i 0).val < win0_13.index t (0 : Fin 2) * 64 + 64 := hi 0
    have b1 : win0_13.index t (1 : Fin 2) * 2048 ≤ (i 1).val ∧ (i 1).val < win0_13.index t (1 : Fin 2) * 2048 + 2048 := hi 1
    obtain ⟨e0, e1, e2⟩ := idx_facts13 t
    omega
  · intro h
    have hi0 : (i 0).val < 4096 := (i 0).isLt
    have hi1 : (i 1).val < 2048 := (i 1).isLt
    obtain ⟨t, hft, ht⟩ := idx_onto13 ⟨(i 0).val / 64 - 0, by omega⟩ ⟨(i 1).val / 2048 - 0, by omega⟩
    have q0 : win0_13.index t (0 : Fin 2) = (i 0).val / 64 - 0 + 0 := congrFun ht 0
    have q1 : win0_13.index t (1 : Fin 2) = (i 1).val / 2048 - 0 + 0 := congrFun ht 1
    refine ⟨t, hft, ?_⟩
    rw [mem_blk13]
    intro a
    match a with
    | ⟨0, _⟩ => show win0_13.index t (0 : Fin 2) * 64 ≤ (i 0).val ∧ (i 0).val < win0_13.index t (0 : Fin 2) * 64 + 64; omega
    | ⟨1, _⟩ => show win0_13.index t (1 : Fin 2) * 2048 ≤ (i 1).val ∧ (i 1).val < win0_13.index t (1 : Fin 2) * 2048 + 2048; omega

/-- THE ARRAY after the run: `G13` (the flushing blocks tile it). -/
theorem final13 (c : Dev nD) : (dats m 0 c).arrAt 13 cfg0.N = G13 m c :=
  (dats m 0 c).arrAt_eq_of_cover 13 _ (fun t hf => flushed13_eq m c t hf) (fun i => (covered_iff13 i).2 (by
    have h0 : (i 0).val < 4096 := (i 0).isLt; have h1 : (i 1).val < 2048 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v20_0) = G11 m c
      ∧ r.2.mem ((c : Thread nD τ).loc main_v20_1) = G12 m c
      ∧ r.2.mem ((c : Thread nD τ).loc main_v20_2) = G13 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post11 m r h c).trans (final11 m c),
      (post12 m r h c).trans (final12 m c),
      (post13 m r h c).trans (final13 m c),
      kept_main_arg0 m r h c,
      kept_main_arg1 m r h c,
      kept_main_arg2 m r h c,
      kept_main_arg3 m r h c,
      kept_main_arg4 m r h c⟩)
    (run_main m ρ)
end Proof.Launch

end
-- ==== Proof.Softmax.lean ====
/- The arithmetic of one row of attention, over the extended reals.

   The kernel scores a window of 768 keys in base two, leaves `⊥` where a key is outside the band,
   and divides once at the end. The reference scores a band of 576 keys in base e, divides every
   weight, and then sums. This module proves that both give the same number. -/
module

public import Idealize.ShloMosaic.Lib.Pointwise

@[expose] public section

noncomputable section

namespace Proof.Softmax

open Idealize.ShloMosaic

/-- The largest entry of a finite family, read as the fold the reductions print. -/
def top {n : ℕ} (x : Fin n → EReal) : EReal := Finset.univ.fold max ⊥ x

/-- The fold is the supremum. -/
theorem top_eq_sup {n : ℕ} (x : Fin n → EReal) : top x = Finset.univ.sup x := by
  unfold top
  rw [Finset.sup_def, Finset.fold, Multiset.sup]

/-- Every entry is at most the largest one. -/
theorem le_top {n : ℕ} (x : Fin n → EReal) (i : Fin n) : x i ≤ top x := by
  rw [top_eq_sup]; exact Finset.le_sup (Finset.mem_univ i)

/-- The largest entry is one of the entries, if the family is not empty. -/
theorem top_mem {n : ℕ} (x : Fin n → EReal) (i₀ : Fin n) : ∃ i, top x = x i := by
  rw [top_eq_sup]
  obtain ⟨i, _, h⟩ := Finset.exists_mem_eq_sup Finset.univ ⟨i₀, Finset.mem_univ i₀⟩ x
  exact ⟨i, h⟩

/-- What bounds every entry, and is an entry, is the largest. -/
theorem top_eq {n : ℕ} (x : Fin n → EReal) (a : EReal) (h : ∀ i, x i ≤ a) (i : Fin n) (hi : x i = a) : top x = a := by
  apply le_antisymm
  · rw [top_eq_sup]; exact Finset.sup_le fun i _ => h i
  · rw [← hi]; exact le_top x i

/-- The kernel's row: weights in base two, one division at the end. -/
def late {n : ℕ} (x v : Fin n → EReal) : EReal :=
  Ideal.div (∑ c, Ideal.exp2 (x c - top x) * v c) (∑ c, Ideal.exp2 (x c - top x))

/-- The reference's row: weights in base e, each divided by their sum. -/
def early {n : ℕ} (y v : Fin n → EReal) : EReal :=
  ∑ j, v j * Ideal.div (Ideal.exp (y j - top y)) (∑ i, Ideal.exp (y i - top y))

/-- Multiplication by a nonnegative real distributes over any finite sum. -/
theorem sum_mul_coe {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.2 hr) (EReal.coe_ne_top r) _ _

/-- A sum of reals is the real sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Base two at a multiple of `1 / log 2` is base e. -/
theorem exp2_mul_log2e (r : ℝ) : Ideal.exp2 ((r * (Real.log 2)⁻¹ : ℝ) : EReal) = ((Real.exp r : ℝ) : EReal) := by
  rw [Ideal.exp2_coe]
  have h2 : Real.log 2 ≠ 0 := (Real.log_pos one_lt_two).ne'
  change ((2 ^ (r * (Real.log 2)⁻¹) : ℝ) : EReal) = _
  rw [Real.rpow_def_of_pos two_pos, ← mul_assoc, mul_comm (Real.log 2) r, mul_assoc, mul_inv_cancel₀ h2, mul_one]

/-- The real weight of a score: `exp` of its distance below the largest, nothing at `⊥`. -/
def wt (M : ℝ) (y : EReal) : ℝ := if y = ⊥ then 0 else Real.exp (y.toReal - M)

theorem wt_nonneg (M : ℝ) (y : EReal) : 0 ≤ wt M y := by
  unfold wt; split_ifs
  · exact le_rfl
  · exact (Real.exp_pos _).le

/-- The reference's weight is that real. -/
theorem exp_sub (M : ℝ) (y : EReal) (hy : y ≠ ⊤) : Ideal.exp (y - (M : EReal)) = (wt M y : EReal) := by
  unfold wt
  induction y with
  | bot => rw [if_pos rfl, EReal.bot_sub, Ideal.exp_bot, EReal.coe_zero]
  | top => exact absurd rfl hy
  | coe r =>
    rw [if_neg (EReal.coe_ne_bot r), EReal.toReal_coe, ← EReal.coe_sub, Ideal.exp_coe]

/-- The kernel's weight of the rescaled score is that real too. -/
theorem exp2_sub (M : ℝ) (y : EReal) (hy : y ≠ ⊤) :
    Ideal.exp2 (y * ((Real.log 2)⁻¹ : ℝ) - ((M * (Real.log 2)⁻¹ : ℝ) : EReal)) = (wt M y : EReal) := by
  unfold wt
  have h2 : 0 < (Real.log 2)⁻¹ := inv_pos.2 (Real.log_pos one_lt_two)
  induction y with
  | bot => rw [if_pos rfl, EReal.bot_mul_coe_of_pos h2, EReal.bot_sub, Ideal.exp2_bot, EReal.coe_zero]
  | top => exact absurd rfl hy
  | coe r =>
    rw [if_neg (EReal.coe_ne_bot r), EReal.toReal_coe, ← EReal.coe_mul, ← EReal.coe_sub, ← sub_mul, exp2_mul_log2e]

/-- A sum over a long window of a function that is zero off a shorter stretch is the sum over the stretch. -/
theorem sum_stretch {N W : ℕ} (lo : ℕ) (hlo : lo + W ≤ N) (f : Fin N → EReal) (g : Fin W → EReal)
    (hin : ∀ j : Fin W, f ⟨lo + j.val, by omega⟩ = g j)
    (hout : ∀ c : Fin N, ¬(lo ≤ c.val ∧ c.val < lo + W) → f c = 0) : ∑ c, f c = ∑ j, g j := by
  have emb : Function.Injective fun j : Fin W => (⟨lo + j.val, by omega⟩ : Fin N) := fun a b e =>
    Fin.ext (by have := congrArg Fin.val e; simp only at this; omega)
  rw [← Finset.sum_congr rfl fun j _ => hin j]
  symm
  refine (Finset.sum_map Finset.univ ⟨_, emb⟩ f).symm.trans ?_
  refine Finset.sum_subset (Finset.subset_univ _) fun c _ hc => hout c fun h => hc ?_
  rw [Finset.mem_map]
  exact ⟨⟨c.val - lo, by omega⟩, Finset.mem_univ _, Fin.ext (by simp only [Function.Embedding.coeFn_mk]; omega)⟩

/-- THE ROW: a window in base two whose entries are the band's entries times `1 / log 2`, and `⊥` off
    the band, gives what the band gives in base e. The values need agree only where the score is not `⊥`. -/
theorem late_eq_early {N W : ℕ} (lo : ℕ) (hlo : lo + W ≤ N) (x v : Fin N → EReal) (y w : Fin W → EReal)
    (hin : ∀ j : Fin W, x ⟨lo + j.val, by omega⟩ = y j * ((Real.log 2)⁻¹ : ℝ))
    (hout : ∀ c : Fin N, ¬(lo ≤ c.val ∧ c.val < lo + W) → x c = ⊥)
    (htop : ∀ j, y j ≠ ⊤) (j₀ : Fin W) (hj₀ : y j₀ ≠ ⊥)
    (hv : ∀ j : Fin W, y j ≠ ⊥ → v ⟨lo + j.val, by omega⟩ = w j) : late x v = early y w := by
  have h2 : 0 < (Real.log 2)⁻¹ := inv_pos.2 (Real.log_pos one_lt_two)
  obtain ⟨jm, hjm⟩ := top_mem y j₀
  have hM : ∃ M : ℝ, top y = (M : EReal) := by
    have h1 : top y ≠ ⊤ := by rw [hjm]; exact htop jm
    have h3 : top y ≠ ⊥ := fun h => hj₀ (le_bot_iff.1 (h ▸ le_top y j₀))
    exact ⟨(top y).toReal, (EReal.coe_toReal h1 h3).symm⟩
  obtain ⟨M, hM⟩ := hM
  have hMx : top x = ((M * (Real.log 2)⁻¹ : ℝ) : EReal) := by
    refine top_eq x _ (fun c => ?_) ⟨lo + jm.val, by omega⟩ ?_
    · by_cases hc : lo ≤ c.val ∧ c.val < lo + W
      · have hce : c = ⟨lo + (⟨c.val - lo, by omega⟩ : Fin W).val, by simp only; omega⟩ := Fin.ext (by simp only; omega)
        rw [hce, hin, EReal.coe_mul, ← hM]
        exact mul_le_mul_of_nonneg_right (le_top y _) (EReal.coe_nonneg.2 h2.le)
      · rw [hout c hc]; exact bot_le
    · rw [hin, ← hjm, hM, ← EReal.coe_mul]
  have hexp : ∀ j, Ideal.exp (y j - top y) = (wt M (y j) : EReal) := fun j => by rw [hM, exp_sub M _ (htop j)]
  have hexp2 : ∀ j : Fin W, Ideal.exp2 (x ⟨lo + j.val, by omega⟩ - top x) = (wt M (y j) : EReal) := fun j => by
    rw [hMx, hin, exp2_sub M _ (htop j)]
  have hoff : ∀ c : Fin N, ¬(lo ≤ c.val ∧ c.val < lo + W) → Ideal.exp2 (x c - top x) = 0 := fun c hc => by
    rw [hout c hc, EReal.bot_sub, Ideal.exp2_bot]
  have hden : ∑ c, Ideal.exp2 (x c - top x) = ((∑ j, wt M (y j) : ℝ) : EReal) := by
    rw [← coe_sum]; exact sum_stretch lo hlo _ _ hexp2 hoff
  have hnum : ∑ c, Ideal.exp2 (x c - top x) * v c = ∑ j, (wt M (y j) : EReal) * w j := by
    refine sum_stretch lo hlo _ _ (fun j => ?_) fun c hc => by rw [hoff c hc, zero_mul]
    rw [hexp2]
    by_cases hy : y j = ⊥
    · rw [hy, wt, if_pos rfl, EReal.coe_zero, zero_mul, zero_mul]
    · rw [hv j hy]
  have hL : 0 < ∑ j, wt M (y j) := by
    refine Finset.sum_pos' (fun j _ => wt_nonneg M _) ⟨j₀, Finset.mem_univ _, ?_⟩
    rw [wt, if_neg hj₀]; exact Real.exp_pos _
  have hLne : ((∑ j, wt M (y j) : ℝ) : EReal) ≠ 0 := by
    rw [Ne, EReal.coe_eq_zero]; exact hL.ne'
  unfold late early
  rw [hden, hnum]
  simp only [hexp, coe_sum, Ideal.div, if_neg hLne]
  rw [← EReal.coe_inv, sum_mul_coe _ _ _ (inv_nonneg.2 hL.le)]
  refine Finset.sum_congr rfl fun j _ => ?_
  rw [mul_comm (wt M (y j) : EReal) (w j), mul_assoc]

end Proof.Softmax

end

end
-- ==== Proof.Consts.lean ====
/- The constants the two programs spell, as the extended reals they denote. -/
module

public import Idealize.ShloMosaic.PureOps.Ideal

@[expose] public section

noncomputable section

namespace Proof.Consts

open Idealize.ShloMosaic

/-- `128.0` denotes 128. -/
theorem ofBits_128 : Ideal.ofBits .f32 0x43000000#32 = ((128 : ℝ) : EReal) := by
  simp [Ideal.ofBits, Ideal.ieee, -EReal.coe_mul]; norm_num

/-- Minus infinity denotes `⊥`. -/
theorem ofBits_ninf : Ideal.ofBits .f32 0xFF800000#32 = ⊥ := by
  simp [Ideal.ofBits, Ideal.ieee]

end Proof.Consts

end

end
-- ==== Proof.Head.lean ====
/- One head of one block of queries, as the kernel computes it: its scores against the three key blocks
   that its window covers, its weights in base two, and its one division, read at an index. -/
module

public import proofs.«01_k».proof.Proof.Gen.KernelIdeal.Skeleton
public import proofs.«01_k».proof.Proof.Softmax
public import proofs.«01_k».proof.Proof.Consts
public import Idealize.ShloMosaic.Lib.WordCmp

@[expose] public section

set_option maxRecDepth 16384

noncomputable section

namespace Proof.Head

open Idealize.ShloMosaic Idealize.ShloMosaic.TcCoe Idealize.SL.Sem
open Cert.KernelIdeal Cert.KernelIdeal.Gen
open Proof.Softmax Proof.Consts

/-- Three blocks of 256 rows, one after the other. -/
def stack (a b c : Vec Ideal S256x128 .bf16) (i : Fin 768) (d : Fin 128) : EReal :=
  if h : (i : ℕ) < 256 then a (ix2 ⟨i, h⟩ d)
  else if h' : (i : ℕ) - 256 < 256 then b (ix2 ⟨(i : ℕ) - 256, h'⟩ d) else c (ix2 ⟨(i : ℕ) - 256 - 256, by omega⟩ d)

/-- The factor of the scores. -/
def scale2 : EReal := Named.named (F := Ideal) (φ := .f32) κ "scale2" 0x3E0293EE#32

/-- The factor is `1 / √128` times `1 / log 2`. -/
theorem scale2_eq : scale2 = (((Real.sqrt 128)⁻¹ * (Real.log 2)⁻¹ : ℝ) : EReal) :=
  IdealRules.named_const.ideal_named_scalar _ _ _ _ rfl

/-- The fill of the masks is `⊥`. -/
theorem mask_eq : Named.named (F := Ideal) (φ := .f32) κ "mask" 0xF149F2CA#32 = (⊥ : EReal) :=
  IdealRules.named_const.ideal_named_scalar _ _ _ _ rfl

/-- The table's factor is `1 / log 2`. -/
theorem log2e_eq : Named.named (F := Ideal) (φ := .f32) κ "log2e" 0x3FB8AA3B#32 = (((Real.log 2)⁻¹ : ℝ) : EReal) :=
  IdealRules.named_const.ideal_named_scalar _ _ _ _ rfl

/-- The score of query row `r` against window row `c`, with the table's entry added. -/
def score (q k2 k1 k0 : Vec Ideal S256x128 .bf16) (tb : Vec Ideal S1x256x768 .f32) (r : Fin 256) (c : Fin 768) : EReal :=
  (∑ e : Fin 128, q (ix2 r e) * stack k2 k1 k0 c e) * scale2 + tb (ix3 0 r c)

/-- A head whose window lies inside the sequence. -/
theorem plain_apply (k2 k1 k0 v2 v1 v0 q : Vec Ideal S256x128 .bf16) (tb : Vec Ideal S1x256x768 .f32)
    (r : Fin 256) (d : Fin 128) :
    k0_pay58 (F := Ideal) k2 k1 k0 v2 v1 v0 q tb (ix2 r d)
      = late (fun c => score q k2 k1 k0 tb r c) (fun c => stack v2 v1 v0 c d) := by
  pointwise [k0_pay58, late, score, stack, top, scale2, ofBits_ninf]
  rfl

/-- A head whose window begins before the sequence: `mk` says which window rows are real. -/
theorem masked_apply (mk : IVec S256x768 1) (k2 k1 k0 v2 v1 v0 q : Vec Ideal S256x128 .bf16) (tb : Vec Ideal S1x256x768 .f32)
    (r : Fin 256) (d : Fin 128) :
    k0_pay27 (F := Ideal) mk k2 k1 k0 v2 v1 v0 q tb (ix2 r d)
      = late (fun c => Scalar.select (mk (ix2 r c)) (score q k2 k1 k0 tb r c) ⊥) (fun c => stack v2 v1 v0 c d) := by
  pointwise [k0_pay27, late, score, stack, top, scale2, ofBits_ninf, mask_eq]
  rfl

/-- Which window rows are real when the block is number `b` of its sequence, `b` less than two. -/
theorem mask_apply (b : BitVec 32) (n : ℕ) (hn : n < 2) (hb : b = BitVec.ofNat 32 n) (r : Fin 256) (c : Fin 768) :
    k0_pay24 b (ix2 r c) = BitVec.ofBool (decide ((2 - n) * 256 ≤ (c : ℕ))) := by
  subst hb
  pointwise [k0_pay24]
  interval_cases n <;> revert c <;> decide +kernel

end Proof.Head

end

end
-- ==== Proof.Rows.lean ====
/- The sixteen heads of a block side by side, and the norm of a block's rows. -/
module

public import proofs.«01_k».proof.Proof.Head
public import Idealize.ShloMosaic.Lib.Pipeline.ValueKit

@[expose] public section

set_option maxRecDepth 16384

noncomputable section

namespace Proof.Rows

open Idealize.ShloMosaic Idealize.ShloMosaic.TcCoe Idealize.SL.Sem
open Cert.KernelIdeal Cert.KernelIdeal.Gen
open Proof.Softmax Proof.Consts Proof.Head

/-- The 128 columns of head `h`. -/
def cols (X : Vec Ideal S256x2048 .bf16) (h : Fin 16) : Vec Ideal S256x128 .bf16 :=
  fun i => X (ix2 (i 0) ⟨(h : ℕ) * 128 + (i 1).val, by have h1 := h.isLt; have h2 : (i 1).val < 128 := (i 1).isLt; omega⟩)

/-- The table of head `h`. -/
def sheet (T : Vec Ideal S16x256x768 .f32) (h : Fin 16) : Vec Ideal S1x256x768 .f32 := fun i => T (ix3 h (i 1) (i 2))

/-- The heads' outputs side by side, window rows below `lo` left out. -/
def rowsOf (lo : ℕ) (X1 X2 X3 X4 X5 X6 X0 : Vec Ideal S256x2048 .bf16) (T : Vec Ideal S16x256x768 .f32) : Vec Ideal S256x2048 .f32 :=
  fun y =>
    have hy : (y 1).val < 2048 := (y 1).isLt
    late (fun c : Fin 768 => if lo ≤ (c : ℕ) then
        score (cols X0 ⟨(y 1).val / 128, by omega⟩) (cols X1 ⟨(y 1).val / 128, by omega⟩) (cols X2 ⟨(y 1).val / 128, by omega⟩)
          (cols X3 ⟨(y 1).val / 128, by omega⟩) (sheet T ⟨(y 1).val / 128, by omega⟩) (y 0) c
      else ⊥)
      (fun c => stack (cols X4 ⟨(y 1).val / 128, by omega⟩) (cols X5 ⟨(y 1).val / 128, by omega⟩) (cols X6 ⟨(y 1).val / 128, by omega⟩) c
        ⟨(y 1).val % 128, by omega⟩)

/-- Loading a head's columns. -/
theorem ld_cols (X : Vec Ideal S256x2048 .bf16) (h : Fin 16) (o : ℕ) (ho : o = (h : ℕ) * 128)
    (inb : ∀ a, (![0, o] : Fin 2 → ℕ) a + (![256, 128] : Fin 2 → ℕ) a ≤ S256x2048.size a) :
    (View.ld X (Rect.unit (s := S256x2048) ![0, o] ![256, 128] inb) : Vec Ideal S256x128 .bf16) = cols X h := by
  subst ho
  funext i
  show X _ = X _
  refine congrArg X ?_
  funext a
  refine Fin.ext ?_
  match a with
  | ⟨0, _⟩ => show 0 + 1 * (i 0).val = (i 0).val; omega
  | ⟨1, _⟩ => show (h : ℕ) * 128 + 1 * (i 1).val = (h : ℕ) * 128 + (i 1).val; omega

/-- Loading a head's table. -/
theorem ld_sheet (T : Vec Ideal S16x256x768 .f32) (h : Fin 16) (o : ℕ) (ho : o = (h : ℕ))
    (inb : ∀ a, (![o, 0, 0] : Fin 3 → ℕ) a + (![1, 256, 768] : Fin 3 → ℕ) a ≤ S16x256x768.size a) (r : Fin 256) (c : Fin 768) :
    (View.ld T (Rect.unit (s := S16x256x768) ![o, 0, 0] ![1, 256, 768] inb) : Vec Ideal S1x256x768 .f32) (ix3 0 r c) = T (ix3 h r c) := by
  subst ho
  show T _ = T _
  refine congrArg T ?_
  funext a
  refine Fin.ext ?_
  match a with
  | ⟨0, _⟩ => show (h : ℕ) + 1 * 0 = (h : ℕ); omega
  | ⟨1, _⟩ => show 0 + 1 * r.val = r.val; omega
  | ⟨2, _⟩ => show 0 + 1 * c.val = c.val; omega

/-- One piece of the rows whose window lies inside the sequence. -/
theorem plain_piece (h : Fin 16) (o : ℕ) (ho : o = (h : ℕ) * 128)
    (inb : ∀ a, (![0, o] : Fin 2 → ℕ) a + (![256, 128] : Fin 2 → ℕ) a ≤ S256x2048.size a)
    (X1 X2 X3 X4 X5 X6 X0 : Vec Ideal S256x2048 .bf16) (T : Vec Ideal S16x256x768 .f32) (tb : Vec Ideal S1x256x768 .f32)
    (htb : ∀ r c, tb (ix3 0 r c) = T (ix3 h r c)) (y : S256x2048.Idx) (x : S256x128.Idx)
    (h0 : (y 0).val = (x 0).val) (h1 : (y 1).val = o + (x 1).val) :
    k0_pay58 (F := Ideal) (View.ld X1 (Rect.unit (s := S256x2048) ![0, o] ![256, 128] inb)) (View.ld X2 (Rect.unit (s := S256x2048) ![0, o] ![256, 128] inb))
      (View.ld X3 (Rect.unit (s := S256x2048) ![0, o] ![256, 128] inb)) (View.ld X4 (Rect.unit (s := S256x2048) ![0, o] ![256, 128] inb))
      (View.ld X5 (Rect.unit (s := S256x2048) ![0, o] ![256, 128] inb)) (View.ld X6 (Rect.unit (s := S256x2048) ![0, o] ![256, 128] inb))
      (View.ld X0 (Rect.unit (s := S256x2048) ![0, o] ![256, 128] inb)) tb x
      = rowsOf 0 X1 X2 X3 X4 X5 X6 X0 T y := by
  rw [ld_cols X1 h o ho inb, ld_cols X2 h o ho inb, ld_cols X3 h o ho inb, ld_cols X4 h o ho inb, ld_cols X5 h o ho inb,
    ld_cols X6 h o ho inb, ld_cols X0 h o ho inb]
  obtain ⟨r, d, rfl⟩ : ∃ r d, x = ix2 r d := ⟨x 0, x 1, by funext a; match a with | ⟨0, _⟩ => rfl | ⟨1, _⟩ => rfl⟩
  rw [plain_apply]
  have hd : d.val < 128 := d.isLt
  have h0' : (y 0).val = r.val := h0
  have h1' : (y 1).val = o + d.val := h1
  have eh : (⟨(y 1).val / 128, by have hy : (y 1).val < 2048 := (y 1).isLt; omega⟩ : Fin 16) = h := Fin.ext (by show (y 1).val / 128 = h.val; omega)
  have ed : (⟨(y 1).val % 128, by omega⟩ : Fin 128) = d := Fin.ext (by show (y 1).val % 128 = d.val; omega)
  have er : (y 0 : Fin 256) = r := Fin.ext h0'
  unfold rowsOf
  simp only [Nat.zero_le, if_true, eh, ed, er]
  refine congrArg (fun s => late s _) (funext fun c => ?_)
  unfold score
  rw [htb]
  rfl

/-- One piece of the rows whose window begins before the sequence, in the block numbered `n` of its sequence. -/
theorem masked_piece (n : ℕ) (hn : n < 2) (b : BitVec 32) (hb : b = BitVec.ofNat 32 n) (h : Fin 16) (o : ℕ) (ho : o = (h : ℕ) * 128)
    (inb : ∀ a, (![0, o] : Fin 2 → ℕ) a + (![256, 128] : Fin 2 → ℕ) a ≤ S256x2048.size a)
    (X1 X2 X3 X4 X5 X6 X0 : Vec Ideal S256x2048 .bf16) (T : Vec Ideal S16x256x768 .f32) (tb : Vec Ideal S1x256x768 .f32)
    (htb : ∀ r c, tb (ix3 0 r c) = T (ix3 h r c)) (y : S256x2048.Idx) (x : S256x128.Idx)
    (h0 : (y 0).val = (x 0).val) (h1 : (y 1).val = o + (x 1).val) :
    k0_pay27 (F := Ideal) (k0_pay24 b) (View.ld X1 (Rect.unit (s := S256x2048) ![0, o] ![256, 128] inb)) (View.ld X2 (Rect.unit (s := S256x2048) ![0, o] ![256, 128] inb))
      (View.ld X3 (Rect.unit (s := S256x2048) ![0, o] ![256, 128] inb)) (View.ld X4 (Rect.unit (s := S256x2048) ![0, o] ![256, 128] inb))
      (View.ld X5 (Rect.unit (s := S256x2048) ![0, o] ![256, 128] inb)) (View.ld X6 (Rect.unit (s := S256x2048) ![0, o] ![256, 128] inb))
      (View.ld X0 (Rect.unit (s := S256x2048) ![0, o] ![256, 128] inb)) tb x
      = rowsOf ((2 - n) * 256) X1 X2 X3 X4 X5 X6 X0 T y := by
  rw [ld_cols X1 h o ho inb, ld_cols X2 h o ho inb, ld_cols X3 h o ho inb, ld_cols X4 h o ho inb, ld_cols X5 h o ho inb,
    ld_cols X6 h o ho inb, ld_cols X0 h o ho inb]
  obtain ⟨r, d, rfl⟩ : ∃ r d, x = ix2 r d := ⟨x 0, x 1, by funext a; match a with | ⟨0, _⟩ => rfl | ⟨1, _⟩ => rfl⟩
  rw [masked_apply]
  have hd : d.val < 128 := d.isLt
  have h0' : (y 0).val = r.val := h0
  have h1' : (y 1).val = o + d.val := h1
  have eh : (⟨(y 1).val / 128, by have hy : (y 1).val < 2048 := (y 1).isLt; omega⟩ : Fin 16) = h := Fin.ext (by show (y 1).val / 128 = h.val; omega)
  have ed : (⟨(y 1).val % 128, by omega⟩ : Fin 128) = d := Fin.ext (by show (y 1).val % 128 = d.val; omega)
  have er : (y 0 : Fin 256) = r := Fin.ext h0'
  unfold rowsOf
  simp only [eh, ed, er]
  refine congrArg (fun s => late s _) (funext fun c => ?_)
  rw [mask_apply b n hn hb]
  have hs : score (cols X0 h) (cols X1 h) (cols X2 h) (cols X3 h) tb r c = score (cols X0 h) (cols X1 h) (cols X2 h) (cols X3 h) (sheet T h) r c := by
    unfold score
    rw [htb]
    rfl
  rw [hs]
  by_cases hc : (2 - n) * 256 ≤ (c : ℕ)
  · simp [Scalar.select, hc]
  · simp [Scalar.select, hc]

/-- The norm of a block's rows. -/
def normOf (A : Vec Ideal S256x2048 .f32) (g : Vec Ideal S1x2048 .f32) : Vec Ideal S256x2048 .bf16 :=
  k0_pay1 (F := Ideal) A (k0_pay97 A) k0_pay98 g

/-- The norm at an index. -/
theorem normOf_apply (A : Vec Ideal S256x2048 .f32) (g : Vec Ideal S1x2048 .f32) (r : Fin 256) (l : Fin 2048) :
    normOf A g (ix2 r l) = A (ix2 r l) * Ideal.rsqrt (Ideal.div (∑ i, A (ix2 r i) * A (ix2 r i)) (Ideal.ofBits .f32 0x45000000#32)
      + Ideal.ofBits .f32 0x358637BD#32) * g (ix2 0 l) := by
  pointwise [normOf, k0_pay1, k0_pay97, k0_pay98]

end Proof.Rows

end

end
-- ==== Proof.Table.lean ====
/- The table that the first grid point leaves for all the others: for every head and every pair of a
   query row and a window row, the bias in base two inside the band, and `⊥` off it. -/
module

public import proofs.«01_k».proof.Proof.Head

@[expose] public section

set_option maxRecDepth 16384

noncomputable section

namespace Proof.Table

open Idealize.ShloMosaic Idealize.ShloMosaic.TcCoe Idealize.SL.Sem
open Cert.KernelIdeal Cert.KernelIdeal.Gen
open Proof.Head

/-- Window row `c` is in the band of query row `r`: the nine chunks of 64 rows that end with the query's own. -/
def inBand (r : Fin 256) (c : Fin 768) : Prop := (r : ℕ) / 64 * 64 ≤ c ∧ (c : ℕ) < (r : ℕ) / 64 * 64 + 576

instance (r : Fin 256) (c : Fin 768) : Decidable (inBand r c) := by unfold inBand; infer_instance

/-- Division by 64 that rounds down, as the kernel spells it for signed words. -/
def chunk (n : ℕ) : BitVec 32 :=
  Scalar.select
    (IntOp.andi
      (IntOp.cmpi .ne
        (IntOp.subi (BitVec.setWidth 32 (IntOp.cmpi .sgt (BitVec.ofNat 32 n) 0#32))
          (BitVec.setWidth 32 (IntOp.cmpi .slt (BitVec.ofNat 32 n) 0#32)))
        (Scalar.subi (Scalar.extui (Scalar.cmpi .sgt 64#32 0#32)) (Scalar.extui (Scalar.cmpi .slt 64#32 0#32))))
      (IntOp.cmpi .ne (IntOp.remsi .vector (BitVec.ofNat 32 n) 64#32) 0#32))
    (IntOp.subi (IntOp.divsi .vector (BitVec.ofNat 32 n) 64#32) 1#32)
    (IntOp.divsi .vector (BitVec.ofNat 32 n) 64#32)

/-- It is the quotient. -/
theorem chunk_eq (n : Fin 768) : chunk n = BitVec.ofNat 32 (n.val / 64) := by
  revert n; decide +kernel

/-- The test between two chunk numbers. -/
theorem chunk_test (a : Fin 4) (b : Fin 12) :
    IntOp.andi (IntOp.cmpi .sge (IntOp.addi (IntOp.subi (BitVec.ofNat 32 a.val) (BitVec.ofNat 32 b.val)) 8#32) 0#32)
        (IntOp.cmpi .sle (IntOp.addi (IntOp.subi (BitVec.ofNat 32 a.val) (BitVec.ofNat 32 b.val)) 8#32) 8#32)
      = BitVec.ofBool (decide (a.val ≤ b.val ∧ b.val < a.val + 9)) := by
  revert a b; decide +kernel

/-- The kernel's test of the band, in whole chunks, is that. -/
theorem band_apply (r : Fin 256) (c : Fin 768) :
    k0_pay5 k0_pay2 k0_pay3 k0_pay4 (ix2 r c) = BitVec.ofBool (decide (inBand r c)) := by
  pointwise [k0_pay5, k0_pay2, k0_pay3, k0_pay4]
  refine (congrArg₂ (fun a b : BitVec 32 => IntOp.andi (IntOp.cmpi .sge (IntOp.addi (IntOp.subi a b) 8#32) 0#32)
    (IntOp.cmpi .sle (IntOp.addi (IntOp.subi a b) 8#32) 8#32)) (chunk_eq ⟨r, by omega⟩) (chunk_eq c)).trans ?_
  refine (chunk_test ⟨r.val / 64, by omega⟩ ⟨c.val / 64, by omega⟩).trans ?_
  congr 1
  rw [decide_eq_decide]
  unfold inBand
  simp only
  omega

/-- One head's table, from its row of biases by distance. -/
theorem table_apply (v : Vec Ideal S1x1x1024 .f32) (r : Fin 256) (c : Fin 768) :
    k0_pay6 (F := Ideal) k0_pay2 k0_pay3 k0_pay4 v (ix3 0 r c)
      = if inBand r c then v (ix3 0 0 ⟨(c.val + 1024 - r.val) % 1024, Nat.mod_lt _ (by decide)⟩) * (((Real.log 2)⁻¹ : ℝ) : EReal) else ⊥ := by
  pointwise [k0_pay6, band_apply, mask_eq, log2e_eq]
  simp only [Nat.mod_eq_of_lt (show r.val < 1024 by omega)]

end Proof.Table

end

end
-- ==== Proof.Block.lean ====
/- What a grid point leaves besides its rows: the table, and the weights carried into their types; and
   the plain facts about a block that the three kinds of grid point share. -/
module

public import proofs.«01_k».proof.Proof.Launch
public import proofs.«01_k».proof.Proof.Rows
public import proofs.«01_k».proof.Proof.Table
public import Idealize.ShloMosaic.Lib.Pipeline.ValueKit
public import Idealize.ShloMosaic.Lib.Pipeline.ReadBack

@[expose] public section

set_option maxRecDepth 16384

noncomputable section

namespace Proof.Block

open Idealize.ShloMosaic Idealize.ShloMosaic.TcCoe Idealize.SL.Sem
open Cert.KernelIdeal Cert.KernelIdeal.Gen
open Proof.Rows Proof.Table Proof.Head

variable (m : (ℓ : Loc nD τ sig) → Buf (Elt Ideal) ℓ)

/-- The norm of two equal arrays of rows. -/
theorem norm_congr {A B : Vec Ideal S256x2048 .f32} (h : A = B) (g : Vec Ideal S1x2048 .f32) :
    k0_pay1 (F := Ideal) A (k0_pay97 A) k0_pay98 g = normOf B g := by
  subst h; rfl

/-- A place in the whole rectangle is itself. -/
theorem whole_idx (inb : ∀ a, (![0, 0] : Fin 2 → ℕ) a + (![256, 2048] : Fin 2 → ℕ) a ≤ S256x2048.size a) (y : S256x2048.Idx) :
    (Rect.unit (s := S256x2048) ![0, 0] ![256, 2048] inb).toLoadRect.idx y = y := by
  funext a
  refine Fin.ext ?_
  match a with
  | ⟨0, _⟩ => show 0 + 1 * (y 0).val = (y 0).val; omega
  | ⟨1, _⟩ => show 0 + 1 * (y 1).val = (y 1).val; omega

/-- Reading all the rows back: what the pieces hold, place by place. -/
theorem rows_congr {A : Vec Ideal S256x2048 .f32} (v : View sig .tc .vmem S256x2048 .f32) (L : List (View.Piece (Elt Ideal) S256x2048 .f32))
    (inb : ∀ a, (![0, 0] : Fin 2 → ℕ) a + (![256, 2048] : Fin 2 → ℕ) a ≤ S256x2048.size a)
    (h : ∀ y, View.canon L y = A y) : v.readCov L (Rect.unit (s := S256x2048) ![0, 0] ![256, 2048] inb).toLoadRect = A := by
  rw [View.readCov_eq_canon']
  funext y
  exact (congrArg (View.canon L) (whole_idx inb y)).trans (h y)

/-- A grid point's number within its sequence, as the kernel spells the remainder by 16. -/
def rem16 (n : ℕ) : BitVec 32 :=
  Scalar.select
    (Scalar.andi
      (Scalar.xori (Scalar.cmpi CmpIPredicate.slt (Scalar.remsi (BitVec.ofNat 32 n) 16#32) 0#32) 0#1)
      (Scalar.cmpi CmpIPredicate.ne (Scalar.remsi (BitVec.ofNat 32 n) 16#32) 0#32))
    (Scalar.addi (Scalar.remsi (BitVec.ofNat 32 n) 16#32) 16#32)
    (Scalar.remsi (BitVec.ofNat 32 n) 16#32)

/-- It is the remainder. -/
theorem rem16_eq (n : Fin 64) : rem16 n = BitVec.ofNat 32 (n.val % 16) := by
  revert n; decide +kernel

/-- The same at a grid point. -/
theorem rem_word (t : Fin cfg0.N) : rem16 (grid0.coords t 0) = BitVec.ofNat 32 (t.val % 16) := by
  have ht : t.val < 64 := t.isLt
  have hc : ((grid0.coords t 0 : ℕ)) = t.val := by
    show t.val / 1 % 64 = t.val
    omega
  rw [hc]
  exact rem16_eq ⟨t.val, ht⟩

/-- The table's cell: the bias in base two inside the band, `⊥` off it. -/
def cell (X : Vec Ideal S16x1x1024 .f32) (h : Fin 16) (r : Fin 256) (c : Fin 768) : EReal :=
  if inBand r c then X (ix3 h 0 ⟨(c.val + 1024 - r.val) % 1024, Nat.mod_lt _ (by decide)⟩) * (((Real.log 2)⁻¹ : ℝ) : EReal) else ⊥

/-- The whole table, from the biases by distance. -/
def tableOf (X : Vec Ideal S16x1x1024 .f32) : Vec Ideal S16x256x768 .f32 := fun y => cell X (y 0) (y 1) (y 2)

/-- One head's table is its sheet. -/
theorem table_piece (X : Vec Ideal S16x1x1024 .f32) (h : Fin 16) (o : ℕ) (ho : o = h)
    (inb : ∀ a, (![o, 0, 0] : Fin 3 → ℕ) a + (![1, 1, 1024] : Fin 3 → ℕ) a ≤ S16x1x1024.size a) (r : Fin 256) (c : Fin 768) :
    k0_pay6 (F := Ideal) k0_pay2 k0_pay3 k0_pay4 (View.ld X (Rect.unit (s := S16x1x1024) ![o, 0, 0] ![1, 1, 1024] inb)) (ix3 0 r c) = tableOf X (ix3 h r c) := by
  subst ho
  rw [table_apply]
  show _ = cell X h r c
  unfold cell
  refine if_congr Iff.rfl (congrArg (· * _) ?_) rfl
  show X _ = X _
  refine congrArg X (funext fun a => Fin.ext ?_)
  match a with
  | ⟨0, _⟩ => show h.val + 1 * 0 = h.val; omega
  | ⟨1, _⟩ => rfl
  | ⟨2, _⟩ => show 0 + 1 * _ = _; simp only [Nat.zero_add, Nat.one_mul]; rfl

/-- The same piece, at its place in the whole table. -/
theorem table_tile (X : Vec Ideal S16x1x1024 .f32) (h : Fin 16) (o : ℕ) (ho : o = h)
    (inb : ∀ a, (![o, 0, 0] : Fin 3 → ℕ) a + (![1, 1, 1024] : Fin 3 → ℕ) a ≤ S16x1x1024.size a) (y : S16x256x768.Idx) (x : S1x256x768.Idx)
    (h0 : (y 0).val = o + (x 0).val) (h1 : (y 1).val = (x 1).val) (h2 : (y 2).val = (x 2).val) :
    k0_pay6 (F := Ideal) k0_pay2 k0_pay3 k0_pay4 (View.ld X (Rect.unit (s := S16x1x1024) ![o, 0, 0] ![1, 1, 1024] inb)) x = tableOf X y := by
  have hx : x = ix3 0 (x 1) (x 2) := by
    funext a
    match a with
    | ⟨0, _⟩ => exact Fin.ext (by show (x 0).val = 0; have hx : (x 0).val < 1 := (x 0).isLt; omega)
    | ⟨1, _⟩ => rfl
    | ⟨2, _⟩ => rfl
  have hy : y = ix3 h (x 1) (x 2) := by
    funext a
    match a with
    | ⟨0, _⟩ => exact Fin.ext (by show (y 0).val = h.val; have hz : (x 0).val < 1 := (x 0).isLt; omega)
    | ⟨1, _⟩ => exact Fin.ext h1
    | ⟨2, _⟩ => exact Fin.ext h2
  rw [hx, hy]
  exact table_piece X h o ho inb (x 1) (x 2)

set_option maxHeartbeats 4000000 in
set_option maxRecDepth 100000 in
/-- The table that the first block leaves. -/
theorem table_A (c : Dev nD) (t : Fin cfg0.N) (h0 : t.val % 64 = 0) (h1 : t.val % 16 = 0 ∨ t.val % 16 = 1) (h2 : ¬¬(t.val % 16 = 0 ∨ t.val % 16 = 1)) :
    (outsAt0 m c t.val t.isLt).2.2.2 = tableOf (iblk m c 7 t) := by
  rw [outsAt0_A m c t h0 h1 h2]
  frame_out
  funext y
  canon_tiles x g
  · exact table_tile (iblk m c 7 t) 15 15 rfl _ y x g0 g1 g2
  · exact table_tile (iblk m c 7 t) 14 14 rfl _ y x g0 g1 g2
  · exact table_tile (iblk m c 7 t) 13 13 rfl _ y x g0 g1 g2
  · exact table_tile (iblk m c 7 t) 12 12 rfl _ y x g0 g1 g2
  · exact table_tile (iblk m c 7 t) 11 11 rfl _ y x g0 g1 g2
  · exact table_tile (iblk m c 7 t) 10 10 rfl _ y x g0 g1 g2
  · exact table_tile (iblk m c 7 t) 9 9 rfl _ y x g0 g1 g2
  · exact table_tile (iblk m c 7 t) 8 8 rfl _ y x g0 g1 g2
  · exact table_tile (iblk m c 7 t) 7 7 rfl _ y x g0 g1 g2
  · exact table_tile (iblk m c 7 t) 6 6 rfl _ y x g0 g1 g2
  · exact table_tile (iblk m c 7 t) 5 5 rfl _ y x g0 g1 g2
  · exact table_tile (iblk m c 7 t) 4 4 rfl _ y x g0 g1 g2
  · exact table_tile (iblk m c 7 t) 3 3 rfl _ y x g0 g1 g2
  · exact table_tile (iblk m c 7 t) 2 2 rfl _ y x g0 g1 g2
  · exact table_tile (iblk m c 7 t) 1 1 rfl _ y x g0 g1 g2
  · exact table_tile (iblk m c 7 t) 0 0 rfl _ y x (g0.trans (Nat.zero_add _).symm) g1 g2

/-- The other blocks leave it as it was. -/
theorem table_B (c : Dev nD) (t : Fin cfg0.N) (h0 : ¬t.val % 64 = 0) (h1 : t.val % 16 = 0 ∨ t.val % 16 = 1) (h2 : ¬¬(t.val % 16 = 0 ∨ t.val % 16 = 1)) :
    (outsAt0 m c t.val t.isLt).2.2.2 = (outsAt0 m c (t.val - 1) (by omega)).2.2.2 := by
  rw [outsAt0_B m c t h0 h1 h2]
  unfold sout0_B_0
  rfl

/-- The same of the blocks that mask nothing. -/
theorem table_C (c : Dev nD) (t : Fin cfg0.N) (h0 : ¬t.val % 64 = 0) (h1 : ¬(t.val % 16 = 0 ∨ t.val % 16 = 1)) (h2 : ¬(t.val % 16 = 0 ∨ t.val % 16 = 1)) :
    (outsAt0 m c t.val t.isLt).2.2.2 = (outsAt0 m c (t.val - 1) (by omega)).2.2.2 := by
  rw [outsAt0_C m c t h0 h1 h2]
  unfold sout0_C_0
  rfl

/-- A block of the second result: the first weights again. -/
theorem out12 (c : Dev nD) (t : Fin cfg0.N) : (outsAt0 m c t.val t.isLt).2.1 = k0_pay92 (iblk m c 9 t) := by
  by_cases h0 : t.val % 64 = 0
  · have h1 : (t.val % 16 = 0 ∨ t.val % 16 = 1) := by omega
    rw [outsAt0_A m c t h0 h1 (not_not.2 h1)]; frame_out
  · by_cases h1 : (t.val % 16 = 0 ∨ t.val % 16 = 1)
    · rw [outsAt0_B m c t h0 h1 (not_not.2 h1)]; frame_out
    · rw [outsAt0_C m c t h0 h1 h1]; frame_out

/-- A block of the third result: the second weights again. -/
theorem out13 (c : Dev nD) (t : Fin cfg0.N) : (outsAt0 m c t.val t.isLt).2.2.1 = k0_pay93 (iblk m c 10 t) := by
  by_cases h0 : t.val % 64 = 0
  · have h1 : (t.val % 16 = 0 ∨ t.val % 16 = 1) := by omega
    rw [outsAt0_A m c t h0 h1 (not_not.2 h1)]; frame_out
  · by_cases h1 : (t.val % 16 = 0 ∨ t.val % 16 = 1)
    · rw [outsAt0_B m c t h0 h1 (not_not.2 h1)]; frame_out
    · rw [outsAt0_C m c t h0 h1 h1]; frame_out

end Proof.Block

end

end
-- ==== Proof.FirstBlock.lean ====
/- The rows the first grid point stores. -/
module

public import proofs.«01_k».proof.Proof.Block
public import Idealize.ShloMosaic.Lib.Pipeline.ValueKit
public import Idealize.ShloMosaic.Lib.Pipeline.ReadBack

@[expose] public section

set_option maxRecDepth 16384

noncomputable section

namespace Proof.Block

open Idealize.ShloMosaic Idealize.ShloMosaic.TcCoe Idealize.SL.Sem
open Cert.KernelIdeal Cert.KernelIdeal.Gen
open Proof.Rows Proof.Table Proof.Head

variable (m : (ℓ : Loc nD τ sig) → Buf (Elt Ideal) ℓ)

set_option maxHeartbeats 4000000 in
set_option maxRecDepth 100000 in
/-- The first block, which makes the table. -/
theorem out11_A (c : Dev nD) (t : Fin cfg0.N) (h0 : t.val % 64 = 0) (h1 : t.val % 16 = 0 ∨ t.val % 16 = 1) (h2 : ¬¬(t.val % 16 = 0 ∨ t.val % 16 = 1)) :
    (outsAt0 m c t.val t.isLt).1
      = normOf (rowsOf ((2 - t.val % 16) * 256) (iblk m c 1 t) (iblk m c 2 t) (iblk m c 3 t) (iblk m c 4 t) (iblk m c 5 t) (iblk m c 6 t) (iblk m c 0 t)
          (tableOf (iblk m c 7 t))) (iblk m c 8 t) := by
  rw [outsAt0_A m c t h0 h1 h2]
  frame_open
  simp (disch := decide) only [↓ View.readCov_skip, ↓ View.readCov_cons_toLoadRect, ↓ View.readCov_fill]
  frame_out
  try simp only [read_unread_whole]
  refine norm_congr ?_ _
  refine rows_congr _ _ _ fun y => ?_
  canon_tiles x g
  · exact masked_piece (t.val % 16) (by omega) (rem16 (grid0.coords t 0)) (rem_word t) 15 1920 rfl _ (iblk m c 1 t) (iblk m c 2 t) (iblk m c 3 t) (iblk m c 4 t) (iblk m c 5 t) (iblk m c 6 t) (iblk m c 0 t) (tableOf (iblk m c 7 t))
      (k0_pay6 (F := Ideal) k0_pay2 k0_pay3 k0_pay4 (View.ld (iblk m c 7 t) (Rect.unit (s := S16x1x1024) ![15, 0, 0] ![1, 1, 1024] inb_S16x1x1024_S1x1x1024_15_0_0)))
      (table_piece (iblk m c 7 t) 15 15 rfl _) y x g0 g1
  · exact masked_piece (t.val % 16) (by omega) (rem16 (grid0.coords t 0)) (rem_word t) 14 1792 rfl _ (iblk m c 1 t) (iblk m c 2 t) (iblk m c 3 t) (iblk m c 4 t) (iblk m c 5 t) (iblk m c 6 t) (iblk m c 0 t) (tableOf (iblk m c 7 t))
      (k0_pay6 (F := Ideal) k0_pay2 k0_pay3 k0_pay4 (View.ld (iblk m c 7 t) (Rect.unit (s := S16x1x1024) ![14, 0, 0] ![1, 1, 1024] inb_S16x1x1024_S1x1x1024_14_0_0)))
      (table_piece (iblk m c 7 t) 14 14 rfl _) y x g0 g1
  · exact masked_piece (t.val % 16) (by omega) (rem16 (grid0.coords t 0)) (rem_word t) 13 1664 rfl _ (iblk m c 1 t) (iblk m c 2 t) (iblk m c 3 t) (iblk m c 4 t) (iblk m c 5 t) (iblk m c 6 t) (iblk m c 0 t) (tableOf (iblk m c 7 t))
      (k0_pay6 (F := Ideal) k0_pay2 k0_pay3 k0_pay4 (View.ld (iblk m c 7 t) (Rect.unit (s := S16x1x1024) ![13, 0, 0] ![1, 1, 1024] inb_S16x1x1024_S1x1x1024_13_0_0)))
      (table_piece (iblk m c 7 t) 13 13 rfl _) y x g0 g1
  · exact masked_piece (t.val % 16) (by omega) (rem16 (grid0.coords t 0)) (rem_word t) 12 1536 rfl _ (iblk m c 1 t) (iblk m c 2 t) (iblk m c 3 t) (iblk m c 4 t) (iblk m c 5 t) (iblk m c 6 t) (iblk m c 0 t) (tableOf (iblk m c 7 t))
      (k0_pay6 (F := Ideal) k0_pay2 k0_pay3 k0_pay4 (View.ld (iblk m c 7 t) (Rect.unit (s := S16x1x1024) ![12, 0, 0] ![1, 1, 1024] inb_S16x1x1024_S1x1x1024_12_0_0)))
      (table_piece (iblk m c 7 t) 12 12 rfl _) y x g0 g1
  · exact masked_piece (t.val % 16) (by omega) (rem16 (grid0.coords t 0)) (rem_word t) 11 1408 rfl _ (iblk m c 1 t) (iblk m c 2 t) (iblk m c 3 t) (iblk m c 4 t) (iblk m c 5 t) (iblk m c 6 t) (iblk m c 0 t) (tableOf (iblk m c 7 t))
      (k0_pay6 (F := Ideal) k0_pay2 k0_pay3 k0_pay4 (View.ld (iblk m c 7 t) (Rect.unit (s := S16x1x1024) ![11, 0, 0] ![1, 1, 1024] inb_S16x1x1024_S1x1x1024_11_0_0)))
      (table_piece (iblk m c 7 t) 11 11 rfl _) y x g0 g1
  · exact masked_piece (t.val % 16) (by omega) (rem16 (grid0.coords t 0)) (rem_word t) 10 1280 rfl _ (iblk m c 1 t) (iblk m c 2 t) (iblk m c 3 t) (iblk m c 4 t) (iblk m c 5 t) (iblk m c 6 t) (iblk m c 0 t) (tableOf (iblk m c 7 t))
      (k0_pay6 (F := Ideal) k0_pay2 k0_pay3 k0_pay4 (View.ld (iblk m c 7 t) (Rect.unit (s := S16x1x1024) ![10, 0, 0] ![1, 1, 1024] inb_S16x1x1024_S1x1x1024_10_0_0)))
      (table_piece (iblk m c 7 t) 10 10 rfl _) y x g0 g1
  · exact masked_piece (t.val % 16) (by omega) (rem16 (grid0.coords t 0)) (rem_word t) 9 1152 rfl _ (iblk m c 1 t) (iblk m c 2 t) (iblk m c 3 t) (iblk m c 4 t) (iblk m c 5 t) (iblk m c 6 t) (iblk m c 0 t) (tableOf (iblk m c 7 t))
      (k0_pay6 (F := Ideal) k0_pay2 k0_pay3 k0_pay4 (View.ld (iblk m c 7 t) (Rect.unit (s := S16x1x1024) ![9, 0, 0] ![1, 1, 1024] inb_S16x1x1024_S1x1x1024_9_0_0)))
      (table_piece (iblk m c 7 t) 9 9 rfl _) y x g0 g1
  · exact masked_piece (t.val % 16) (by omega) (rem16 (grid0.coords t 0)) (rem_word t) 8 1024 rfl _ (iblk m c 1 t) (iblk m c 2 t) (iblk m c 3 t) (iblk m c 4 t) (iblk m c 5 t) (iblk m c 6 t) (iblk m c 0 t) (tableOf (iblk m c 7 t))
      (k0_pay6 (F := Ideal) k0_pay2 k0_pay3 k0_pay4 (View.ld (iblk m c 7 t) (Rect.unit (s := S16x1x1024) ![8, 0, 0] ![1, 1, 1024] inb_S16x1x1024_S1x1x1024_8_0_0)))
      (table_piece (iblk m c 7 t) 8 8 rfl _) y x g0 g1
  · exact masked_piece (t.val % 16) (by omega) (rem16 (grid0.coords t 0)) (rem_word t) 7 896 rfl _ (iblk m c 1 t) (iblk m c 2 t) (iblk m c 3 t) (iblk m c 4 t) (iblk m c 5 t) (iblk m c 6 t) (iblk m c 0 t) (tableOf (iblk m c 7 t))
      (k0_pay6 (F := Ideal) k0_pay2 k0_pay3 k0_pay4 (View.ld (iblk m c 7 t) (Rect.unit (s := S16x1x1024) ![7, 0, 0] ![1, 1, 1024] inb_S16x1x1024_S1x1x1024_7_0_0)))
      (table_piece (iblk m c 7 t) 7 7 rfl _) y x g0 g1
  · exact masked_piece (t.val % 16) (by omega) (rem16 (grid0.coords t 0)) (rem_word t) 6 768 rfl _ (iblk m c 1 t) (iblk m c 2 t) (iblk m c 3 t) (iblk m c 4 t) (iblk m c 5 t) (iblk m c 6 t) (iblk m c 0 t) (tableOf (iblk m c 7 t))
      (k0_pay6 (F := Ideal) k0_pay2 k0_pay3 k0_pay4 (View.ld (iblk m c 7 t) (Rect.unit (s := S16x1x1024) ![6, 0, 0] ![1, 1, 1024] inb_S16x1x1024_S1x1x1024_6_0_0)))
      (table_piece (iblk m c 7 t) 6 6 rfl _) y x g0 g1
  · exact masked_piece (t.val % 16) (by omega) (rem16 (grid0.coords t 0)) (rem_word t) 5 640 rfl _ (iblk m c 1 t) (iblk m c 2 t) (iblk m c 3 t) (iblk m c 4 t) (iblk m c 5 t) (iblk m c 6 t) (iblk m c 0 t) (tableOf (iblk m c 7 t))
      (k0_pay6 (F := Ideal) k0_pay2 k0_pay3 k0_pay4 (View.ld (iblk m c 7 t) (Rect.unit (s := S16x1x1024) ![5, 0, 0] ![1, 1, 1024] inb_S16x1x1024_S1x1x1024_5_0_0)))
      (table_piece (iblk m c 7 t) 5 5 rfl _) y x g0 g1
  · exact masked_piece (t.val % 16) (by omega) (rem16 (grid0.coords t 0)) (rem_word t) 4 512 rfl _ (iblk m c 1 t) (iblk m c 2 t) (iblk m c 3 t) (iblk m c 4 t) (iblk m c 5 t) (iblk m c 6 t) (iblk m c 0 t) (tableOf (iblk m c 7 t))
      (k0_pay6 (F := Ideal) k0_pay2 k0_pay3 k0_pay4 (View.ld (iblk m c 7 t) (Rect.unit (s := S16x1x1024) ![4, 0, 0] ![1, 1, 1024] inb_S16x1x1024_S1x1x1024_4_0_0)))
      (table_piece (iblk m c 7 t) 4 4 rfl _) y x g0 g1
  · exact masked_piece (t.val % 16) (by omega) (rem16 (grid0.coords t 0)) (rem_word t) 3 384 rfl _ (iblk m c 1 t) (iblk m c 2 t) (iblk m c 3 t) (iblk m c 4 t) (iblk m c 5 t) (iblk m c 6 t) (iblk m c 0 t) (tableOf (iblk m c 7 t))
      (k0_pay6 (F := Ideal) k0_pay2 k0_pay3 k0_pay4 (View.ld (iblk m c 7 t) (Rect.unit (s := S16x1x1024) ![3, 0, 0] ![1, 1, 1024] inb_S16x1x1024_S1x1x1024_3_0_0)))
      (table_piece (iblk m c 7 t) 3 3 rfl _) y x g0 g1
  · exact masked_piece (t.val % 16) (by omega) (rem16 (grid0.coords t 0)) (rem_word t) 2 256 rfl _ (iblk m c 1 t) (iblk m c 2 t) (iblk m c 3 t) (iblk m c 4 t) (iblk m c 5 t) (iblk m c 6 t) (iblk m c 0 t) (tableOf (iblk m c 7 t))
      (k0_pay6 (F := Ideal) k0_pay2 k0_pay3 k0_pay4 (View.ld (iblk m c 7 t) (Rect.unit (s := S16x1x1024) ![2, 0, 0] ![1, 1, 1024] inb_S16x1x1024_S1x1x1024_2_0_0)))
      (table_piece (iblk m c 7 t) 2 2 rfl _) y x g0 g1
  · exact masked_piece (t.val % 16) (by omega) (rem16 (grid0.coords t 0)) (rem_word t) 1 128 rfl _ (iblk m c 1 t) (iblk m c 2 t) (iblk m c 3 t) (iblk m c 4 t) (iblk m c 5 t) (iblk m c 6 t) (iblk m c 0 t) (tableOf (iblk m c 7 t))
      (k0_pay6 (F := Ideal) k0_pay2 k0_pay3 k0_pay4 (View.ld (iblk m c 7 t) (Rect.unit (s := S16x1x1024) ![1, 0, 0] ![1, 1, 1024] inb_S16x1x1024_S1x1x1024_1_0_0)))
      (table_piece (iblk m c 7 t) 1 1 rfl _) y x g0 g1
  · exact masked_piece (t.val % 16) (by omega) (rem16 (grid0.coords t 0)) (rem_word t) 0 0 rfl _ (iblk m c 1 t) (iblk m c 2 t) (iblk m c 3 t) (iblk m c 4 t) (iblk m c 5 t) (iblk m c 6 t) (iblk m c 0 t) (tableOf (iblk m c 7 t))
      (k0_pay6 (F := Ideal) k0_pay2 k0_pay3 k0_pay4 (View.ld (iblk m c 7 t) (Rect.unit (s := S16x1x1024) ![0, 0, 0] ![1, 1, 1024] inb_S16x1x1024_S1x1x1024_0_0_0)))
      (table_piece (iblk m c 7 t) 0 0 rfl _) y x g0 (g1.trans (Nat.zero_add _).symm)

end Proof.Block

end

end
-- ==== Proof.EarlyBlock.lean ====
/- The rows stored by a grid point whose window begins before its sequence. -/
module

public import proofs.«01_k».proof.Proof.Block
public import Idealize.ShloMosaic.Lib.Pipeline.ValueKit
public import Idealize.ShloMosaic.Lib.Pipeline.ReadBack

@[expose] public section

set_option maxRecDepth 16384

noncomputable section

namespace Proof.Block

open Idealize.ShloMosaic Idealize.ShloMosaic.TcCoe Idealize.SL.Sem
open Cert.KernelIdeal Cert.KernelIdeal.Gen
open Proof.Rows Proof.Table Proof.Head

variable (m : (ℓ : Loc nD τ sig) → Buf (Elt Ideal) ℓ)

set_option maxHeartbeats 4000000 in
set_option maxRecDepth 100000 in
/-- A block whose window begins before its sequence, after the first. -/
theorem out11_B (c : Dev nD) (t : Fin cfg0.N) (h0 : ¬t.val % 64 = 0) (h1 : t.val % 16 = 0 ∨ t.val % 16 = 1) (h2 : ¬¬(t.val % 16 = 0 ∨ t.val % 16 = 1)) :
    (outsAt0 m c t.val t.isLt).1
      = normOf (rowsOf ((2 - t.val % 16) * 256) (iblk m c 1 t) (iblk m c 2 t) (iblk m c 3 t) (iblk m c 4 t) (iblk m c 5 t) (iblk m c 6 t) (iblk m c 0 t)
          (outsAt0 m c (t.val - 1) (by omega)).2.2.2) (iblk m c 8 t) := by
  rw [outsAt0_B m c t h0 h1 h2]
  frame_open
  simp (disch := decide) only [↓ View.readCov_skip, ↓ View.readCov_cons_toLoadRect, ↓ View.readCov_fill]
  frame_out
  try simp only [read_unread_whole]
  refine norm_congr ?_ _
  refine rows_congr _ _ _ fun y => ?_
  canon_tiles x g
  · exact masked_piece (t.val % 16) (by omega) (rem16 (grid0.coords t 0)) (rem_word t) 15 1920 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![15, 0, 0] ![1, 256, 768] inb_S16x256x768_S1x256x768_15_0_0)) (ld_sheet (outsAt0 m c (t.val - 1) (by omega)).2.2.2 15 15 rfl _) y x g0 g1
  · exact masked_piece (t.val % 16) (by omega) (rem16 (grid0.coords t 0)) (rem_word t) 14 1792 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![14, 0, 0] ![1, 256, 768] inb_S16x256x768_S1x256x768_14_0_0)) (ld_sheet (outsAt0 m c (t.val - 1) (by omega)).2.2.2 14 14 rfl _) y x g0 g1
  · exact masked_piece (t.val % 16) (by omega) (rem16 (grid0.coords t 0)) (rem_word t) 13 1664 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![13, 0, 0] ![1, 256, 768] inb_S16x256x768_S1x256x768_13_0_0)) (ld_sheet (outsAt0 m c (t.val - 1) (by omega)).2.2.2 13 13 rfl _) y x g0 g1
  · exact masked_piece (t.val % 16) (by omega) (rem16 (grid0.coords t 0)) (rem_word t) 12 1536 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![12, 0, 0] ![1, 256, 768] inb_S16x256x768_S1x256x768_12_0_0)) (ld_sheet (outsAt0 m c (t.val - 1) (by omega)).2.2.2 12 12 rfl _) y x g0 g1
  · exact masked_piece (t.val % 16) (by omega) (rem16 (grid0.coords t 0)) (rem_word t) 11 1408 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![11, 0, 0] ![1, 256, 768] inb_S16x256x768_S1x256x768_11_0_0)) (ld_sheet (outsAt0 m c (t.val - 1) (by omega)).2.2.2 11 11 rfl _) y x g0 g1
  · exact masked_piece (t.val % 16) (by omega) (rem16 (grid0.coords t 0)) (rem_word t) 10 1280 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![10, 0, 0] ![1, 256, 768] inb_S16x256x768_S1x256x768_10_0_0)) (ld_sheet (outsAt0 m c (t.val - 1) (by omega)).2.2.2 10 10 rfl _) y x g0 g1
  · exact masked_piece (t.val % 16) (by omega) (rem16 (grid0.coords t 0)) (rem_word t) 9 1152 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![9, 0, 0] ![1, 256, 768] inb_S16x256x768_S1x256x768_9_0_0)) (ld_sheet (outsAt0 m c (t.val - 1) (by omega)).2.2.2 9 9 rfl _) y x g0 g1
  · exact masked_piece (t.val % 16) (by omega) (rem16 (grid0.coords t 0)) (rem_word t) 8 1024 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![8, 0, 0] ![1, 256, 768] inb_S16x256x768_S1x256x768_8_0_0)) (ld_sheet (outsAt0 m c (t.val - 1) (by omega)).2.2.2 8 8 rfl _) y x g0 g1
  · exact masked_piece (t.val % 16) (by omega) (rem16 (grid0.coords t 0)) (rem_word t) 7 896 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![7, 0, 0] ![1, 256, 768] inb_S16x256x768_S1x256x768_7_0_0)) (ld_sheet (outsAt0 m c (t.val - 1) (by omega)).2.2.2 7 7 rfl _) y x g0 g1
  · exact masked_piece (t.val % 16) (by omega) (rem16 (grid0.coords t 0)) (rem_word t) 6 768 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![6, 0, 0] ![1, 256, 768] inb_S16x256x768_S1x256x768_6_0_0)) (ld_sheet (outsAt0 m c (t.val - 1) (by omega)).2.2.2 6 6 rfl _) y x g0 g1
  · exact masked_piece (t.val % 16) (by omega) (rem16 (grid0.coords t 0)) (rem_word t) 5 640 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![5, 0, 0] ![1, 256, 768] inb_S16x256x768_S1x256x768_5_0_0)) (ld_sheet (outsAt0 m c (t.val - 1) (by omega)).2.2.2 5 5 rfl _) y x g0 g1
  · exact masked_piece (t.val % 16) (by omega) (rem16 (grid0.coords t 0)) (rem_word t) 4 512 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![4, 0, 0] ![1, 256, 768] inb_S16x256x768_S1x256x768_4_0_0)) (ld_sheet (outsAt0 m c (t.val - 1) (by omega)).2.2.2 4 4 rfl _) y x g0 g1
  · exact masked_piece (t.val % 16) (by omega) (rem16 (grid0.coords t 0)) (rem_word t) 3 384 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![3, 0, 0] ![1, 256, 768] inb_S16x256x768_S1x256x768_3_0_0)) (ld_sheet (outsAt0 m c (t.val - 1) (by omega)).2.2.2 3 3 rfl _) y x g0 g1
  · exact masked_piece (t.val % 16) (by omega) (rem16 (grid0.coords t 0)) (rem_word t) 2 256 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![2, 0, 0] ![1, 256, 768] inb_S16x256x768_S1x256x768_2_0_0)) (ld_sheet (outsAt0 m c (t.val - 1) (by omega)).2.2.2 2 2 rfl _) y x g0 g1
  · exact masked_piece (t.val % 16) (by omega) (rem16 (grid0.coords t 0)) (rem_word t) 1 128 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![1, 0, 0] ![1, 256, 768] inb_S16x256x768_S1x256x768_1_0_0)) (ld_sheet (outsAt0 m c (t.val - 1) (by omega)).2.2.2 1 1 rfl _) y x g0 g1
  · exact masked_piece (t.val % 16) (by omega) (rem16 (grid0.coords t 0)) (rem_word t) 0 0 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![0, 0, 0] ![1, 256, 768] inb_S16x256x768_S1x256x768_0_0_0)) (ld_sheet (outsAt0 m c (t.val - 1) (by omega)).2.2.2 0 0 rfl _) y x g0 (g1.trans (Nat.zero_add _).symm)

end Proof.Block

end

end
-- ==== Proof.InnerBlock.lean ====
/- The rows stored by a grid point whose window is all inside its sequence. -/
module

public import proofs.«01_k».proof.Proof.Block
public import Idealize.ShloMosaic.Lib.Pipeline.ValueKit
public import Idealize.ShloMosaic.Lib.Pipeline.ReadBack

@[expose] public section

set_option maxRecDepth 16384

noncomputable section

namespace Proof.Block

open Idealize.ShloMosaic Idealize.ShloMosaic.TcCoe Idealize.SL.Sem
open Cert.KernelIdeal Cert.KernelIdeal.Gen
open Proof.Rows Proof.Table Proof.Head

variable (m : (ℓ : Loc nD τ sig) → Buf (Elt Ideal) ℓ)

/-- The seventh head's piece, which the printer cut in three, is a head's as the others. -/
theorem seventh (a1 a2 a3 a4 a5 a6 a0 : Vec Ideal S256x128 .bf16) (tb : Vec Ideal S1x256x768 .f32) :
    k0_pay73 (F := Ideal) (k0_pay70 a4 a5 a6) (k0_pay71 a1 a2 a3 a0 tb) (k0_pay72 a1 a2 a3 a0 tb) = k0_pay58 a1 a2 a3 a4 a5 a6 a0 tb := by
  unfold k0_pay73 k0_pay72 k0_pay71 k0_pay70 k0_pay58
  rfl

set_option maxHeartbeats 4000000 in
set_option maxRecDepth 100000 in
/-- A block whose window is all inside its sequence. -/
theorem out11_C (c : Dev nD) (t : Fin cfg0.N) (h0 : ¬t.val % 64 = 0) (h1 : ¬(t.val % 16 = 0 ∨ t.val % 16 = 1)) (h2 : ¬(t.val % 16 = 0 ∨ t.val % 16 = 1)) :
    (outsAt0 m c t.val t.isLt).1
      = normOf (rowsOf 0 (iblk m c 1 t) (iblk m c 2 t) (iblk m c 3 t) (iblk m c 4 t) (iblk m c 5 t) (iblk m c 6 t) (iblk m c 0 t)
          (outsAt0 m c (t.val - 1) (by omega)).2.2.2) (iblk m c 8 t) := by
  rw [outsAt0_C m c t h0 h1 h2]
  frame_open
  simp (disch := decide) only [↓ View.readCov_skip, ↓ View.readCov_cons_toLoadRect, ↓ View.readCov_fill]
  frame_out
  try simp only [read_unread_whole]
  refine norm_congr ?_ _
  refine rows_congr _ _ _ fun y => ?_
  canon_tiles x g
  · exact plain_piece 15 1920 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![15, 0, 0] ![1, 256, 768] inb_S16x256x768_S1x256x768_15_0_0)) (ld_sheet (outsAt0 m c (t.val - 1) (by omega)).2.2.2 15 15 rfl _) y x g0 g1
  · exact plain_piece 14 1792 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![14, 0, 0] ![1, 256, 768] inb_S16x256x768_S1x256x768_14_0_0)) (ld_sheet (outsAt0 m c (t.val - 1) (by omega)).2.2.2 14 14 rfl _) y x g0 g1
  · exact plain_piece 13 1664 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![13, 0, 0] ![1, 256, 768] inb_S16x256x768_S1x256x768_13_0_0)) (ld_sheet (outsAt0 m c (t.val - 1) (by omega)).2.2.2 13 13 rfl _) y x g0 g1
  · exact plain_piece 12 1536 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![12, 0, 0] ![1, 256, 768] inb_S16x256x768_S1x256x768_12_0_0)) (ld_sheet (outsAt0 m c (t.val - 1) (by omega)).2.2.2 12 12 rfl _) y x g0 g1
  · exact plain_piece 11 1408 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![11, 0, 0] ![1, 256, 768] inb_S16x256x768_S1x256x768_11_0_0)) (ld_sheet (outsAt0 m c (t.val - 1) (by omega)).2.2.2 11 11 rfl _) y x g0 g1
  · exact plain_piece 10 1280 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![10, 0, 0] ![1, 256, 768] inb_S16x256x768_S1x256x768_10_0_0)) (ld_sheet (outsAt0 m c (t.val - 1) (by omega)).2.2.2 10 10 rfl _) y x g0 g1
  · exact plain_piece 9 1152 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![9, 0, 0] ![1, 256, 768] inb_S16x256x768_S1x256x768_9_0_0)) (ld_sheet (outsAt0 m c (t.val - 1) (by omega)).2.2.2 9 9 rfl _) y x g0 g1
  · exact plain_piece 8 1024 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![8, 0, 0] ![1, 256, 768] inb_S16x256x768_S1x256x768_8_0_0)) (ld_sheet (outsAt0 m c (t.val - 1) (by omega)).2.2.2 8 8 rfl _) y x g0 g1
  · exact plain_piece 7 896 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![7, 0, 0] ![1, 256, 768] inb_S16x256x768_S1x256x768_7_0_0)) (ld_sheet (outsAt0 m c (t.val - 1) (by omega)).2.2.2 7 7 rfl _) y x g0 g1
  · rw [seventh]
    exact plain_piece 6 768 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![6, 0, 0] ![1, 256, 768] inb_S16x256x768_S1x256x768_6_0_0)) (ld_sheet (outsAt0 m c (t.val - 1) (by omega)).2.2.2 6 6 rfl _) y x g0 g1
  · exact plain_piece 5 640 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![5, 0, 0] ![1, 256, 768] inb_S16x256x768_S1x256x768_5_0_0)) (ld_sheet (outsAt0 m c (t.val - 1) (by omega)).2.2.2 5 5 rfl _) y x g0 g1
  · exact plain_piece 4 512 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![4, 0, 0] ![1, 256, 768] inb_S16x256x768_S1x256x768_4_0_0)) (ld_sheet (outsAt0 m c (t.val - 1) (by omega)).2.2.2 4 4 rfl _) y x g0 g1
  · exact plain_piece 3 384 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![3, 0, 0] ![1, 256, 768] inb_S16x256x768_S1x256x768_3_0_0)) (ld_sheet (outsAt0 m c (t.val - 1) (by omega)).2.2.2 3 3 rfl _) y x g0 g1
  · exact plain_piece 2 256 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![2, 0, 0] ![1, 256, 768] inb_S16x256x768_S1x256x768_2_0_0)) (ld_sheet (outsAt0 m c (t.val - 1) (by omega)).2.2.2 2 2 rfl _) y x g0 g1
  · exact plain_piece 1 128 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![1, 0, 0] ![1, 256, 768] inb_S16x256x768_S1x256x768_1_0_0)) (ld_sheet (outsAt0 m c (t.val - 1) (by omega)).2.2.2 1 1 rfl _) y x g0 g1
  · exact plain_piece 0 0 rfl _ (iblk m c 1 t) (iblk m c 2 t) (iblk m c 3 t) (iblk m c 4 t) (iblk m c 5 t) (iblk m c 6 t) (iblk m c 0 t) (outsAt0 m c (t.val - 1) (by omega)).2.2.2
      (View.ld (outsAt0 m c (t.val - 1) (by omega)).2.2.2 (Rect.unit (s := S16x256x768) ![0, 0, 0] ![1, 256, 768] inb_S16x256x768_S1x256x768_0_0_0)) (ld_sheet (outsAt0 m c (t.val - 1) (by omega)).2.2.2 0 0 rfl _) y x g0 (g1.trans (Nat.zero_add _).symm)

end Proof.Block

end

end
-- ==== Proof.Gathers.lean ====
/- The reference's two lookups, read at an index: the band of keys out of the padded sequence, and the
   biases by distance. -/
module

public import proofs.«01_k».proof.Proof.Gen.ReferenceIdeal
public import Idealize.ShloMosaic.Lib.Pointwise

@[expose] public section

set_option maxRecDepth 16384

noncomputable section

namespace Proof.Gathers

open Idealize.ShloMosaic Idealize.ShloMosaic.TcCoe Idealize.SL.Sem
open Cert.ReferenceIdeal Cert.ReferenceIdeal.Gen

/-- The band's gather at an index: the padded sequence at the row the index names, clamped. -/
theorem band_apply {α : Type} (x : S4x4608x16x128.Idx → α) (idx : IVec S64x576x1 32)
    (b : Fin 4) (n : Fin 64) (j : Fin 576) (h : Fin 16) (d : Fin 128) :
    Host.gather gather_S4x4608x16x128_S64x576x1_S4x64x576x16x128_034_1_n_n_1_2_4116128 x idx (ix5 b n j h d)
      = x (ix4 b ⟨min (idx (ix3 n j 0)).toInt.toNat 4607, by omega⟩ h d) := by
  unfold Host.gather
  refine congrArg x ?_
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ (by decide)]
    unfold GatherDims.start GatherDims.offCoord
    rw [dif_neg (by decide), dif_pos (by decide)]
    simp only [Nat.zero_add, Nat.add_zero]
    rfl
  | ⟨1, _⟩ =>
    show GatherDims.start _ _ idx 1 + GatherDims.batchCoord _ _ 1 + GatherDims.offCoord _ _ 1 = _
    rw [GatherDims.batchCoord_eq_zero _ _ _ (by decide), GatherDims.offCoord_eq_zero _ _ _ (by decide)]
    simp only [Nat.add_zero]
    unfold GatherDims.start
    rw [dif_pos (by decide)]
    refine congrArg (fun i => min (idx i).toInt.toNat 4607) ?_
    funext c; refine Fin.ext ?_
    match c with
    | ⟨0, _⟩ => rfl
    | ⟨1, _⟩ => rfl
    | ⟨2, _⟩ => rfl
  | ⟨2, _⟩ =>
    show GatherDims.start _ _ idx 2 + GatherDims.batchCoord _ _ 2 + GatherDims.offCoord _ _ 2 = _
    rw [GatherDims.batchCoord_eq_zero _ _ _ (by decide)]
    unfold GatherDims.start GatherDims.offCoord
    rw [dif_neg (by decide), dif_pos (by decide)]
    simp only [Nat.zero_add, Nat.add_zero]
    rfl
  | ⟨3, _⟩ =>
    show GatherDims.start _ _ idx 3 + GatherDims.batchCoord _ _ 3 + GatherDims.offCoord _ _ 3 = _
    rw [GatherDims.batchCoord_eq_zero _ _ _ (by decide)]
    unfold GatherDims.start GatherDims.offCoord
    rw [dif_neg (by decide), dif_pos (by decide)]
    simp only [Nat.zero_add, Nat.add_zero]
    rfl

/-- The biases' gather at an index: the bias of head `h` at the distance the index names, clamped. -/
theorem bias_apply {α : Type} (x : S16x513.Idx → α) (idx : IVec S64x576x1 32) (h : Fin 16) (r : Fin 64) (j : Fin 576) :
    Host.gather gather_S16x513_S64x576x1_S16x64x576_0_1_n_n_1_2_161 x idx (ix3 h r j)
      = x (ix2 h ⟨min (idx (ix3 r j 0)).toInt.toNat 512, by omega⟩) := by
  unfold Host.gather
  refine congrArg x ?_
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ (by decide)]
    unfold GatherDims.start GatherDims.offCoord
    rw [dif_neg (by decide), dif_pos (by decide)]
    simp only [Nat.zero_add, Nat.add_zero]
    rfl
  | ⟨1, _⟩ =>
    show GatherDims.start _ _ idx 1 + GatherDims.batchCoord _ _ 1 + GatherDims.offCoord _ _ 1 = _
    rw [GatherDims.batchCoord_eq_zero _ _ _ (by decide), GatherDims.offCoord_eq_zero _ _ _ (by decide)]
    simp only [Nat.add_zero]
    unfold GatherDims.start
    rw [dif_pos (by decide)]
    refine congrArg (fun i => min (idx i).toInt.toNat 512) ?_
    funext c; refine Fin.ext ?_
    match c with
    | ⟨0, _⟩ => rfl
    | ⟨1, _⟩ => rfl
    | ⟨2, _⟩ => rfl

end Proof.Gathers

end

end
-- ==== Proof.Reference.lean ====
/- The reference, stage by stage: the band of keys and values, the biases, the scores, the weights, the
   heads, and the norm of the whole row. -/
module

public import proofs.«01_k».proof.Proof.Gathers
public import proofs.«01_k».proof.Proof.Gen.ReferenceIdeal.Run
public import proofs.«01_k».proof.Proof.Softmax
public import proofs.«01_k».proof.Proof.Consts
public import Idealize.ShloMosaic.Lib.WordCmp

@[expose] public section

set_option maxRecDepth 16384

noncomputable section

namespace Proof.Reference

open Idealize.ShloMosaic Idealize.ShloMosaic.TcCoe Idealize.SL.Sem
open Cert.ReferenceIdeal Cert.ReferenceIdeal.Gen
open Proof.Softmax Proof.Consts Proof.Gathers

/-- The queries, by sequence, chunk, row, head and lane. -/
def query (x : Vec Ideal S16384x6144 .bf16) : Vec Ideal S4x64x64x16x128 .f32 :=
  shapeCast _ (extractStridedSlice S16384x2048 ![0, 0] (extf (F := Ideal) .f32 x bitsLt_bf16_f32)
    slices_S16384x6144_S16384x2048_0_0) shapeCasts_S16384x2048_S4x64x64x16x128

/-- The keys, with 512 rows of zeros before each sequence. -/
def keys (x : Vec Ideal S16384x6144 .bf16) : Vec Ideal S4x4608x16x128 .f32 :=
  pad S4x4608x16x128 ![0, 512, 0, 0] ![0, 0, 0, 0] ![0, 0, 0, 0]
    (shapeCast _ (extractStridedSlice S16384x2048 ![0, 2048] (extf (F := Ideal) .f32 x bitsLt_bf16_f32)
      slices_S16384x6144_S16384x2048_0_2048) shapeCasts_S16384x2048_S4x4096x16x128)
    (sitofp (F := Ideal) .f32 (constantI S_ 32 0#32)) pads_S4x4096x16x128_S4x4608x16x128_000_51200_000_000 h_S_

/-- The values, with 512 rows of zeros before each sequence. -/
def values (x : Vec Ideal S16384x6144 .bf16) : Vec Ideal S4x4608x16x128 .f32 :=
  pad S4x4608x16x128 ![0, 512, 0, 0] ![0, 0, 0, 0] ![0, 0, 0, 0]
    (shapeCast _ (extractStridedSlice S16384x2048 ![0, 4096] (extf (F := Ideal) .f32 x bitsLt_bf16_f32)
      slices_S16384x6144_S16384x2048_0_4096) shapeCasts_S16384x2048_S4x4096x16x128)
    (sitofp (F := Ideal) .f32 (constantI S_ 32 0#32)) pads_S4x4096x16x128_S4x4608x16x128_000_51200_000_000 h_S_

/-- The padded position of each band entry of each chunk. -/
def pos : IVec S64x576 32 :=
  addi (broadcastInDim S64x576 ![0, 1] bcast_S64x1_S64x576_0_1
      (muli (broadcastInDim S64x1 ![0] bcast_S64_S64x1_0 (iotaInDim S64 32 0))
        (broadcastInDim S64x1 ![] bcast_S_S64x1 (constantI S_ 32 64#32))))
    (broadcastInDim S64x576 ![0, 1] bcast_S1x576_S64x576_0_1
      (broadcastInDim S1x576 ![1] bcast_S576_S1x576_1 (iotaInDim S576 32 0)))

/-- The same, as the lookup's start indices. -/
def posIx : IVec S64x576x1 32 :=
  broadcastInDim S64x576x1 ![0, 1] bcast_S64x576_S64x576x1_0_1
    (select (cmpi .slt pos (broadcastInDim S64x576 ![] bcast_S_S64x576 (constantI S_ 32 0#32)))
      (addi pos (broadcastInDim S64x576 ![] bcast_S_S64x576 (constantI S_ 32 4608#32))) pos)

/-- The distance from each row of a chunk to each band entry, clipped and counted from zero. -/
def dist : IVec S64x576 32 :=
  addi (minsi (broadcastInDim S64x576 ![] bcast_S_S64x576 (id (constantI S_ 32 256#32)))
      (maxsi (broadcastInDim S64x576 ![] bcast_S_S64x576 (id (constantI S_ 32 4294967040#32)))
        (subi (broadcastInDim S64x576 ![0, 1] bcast_S64x1_S64x576_0_1
            (broadcastInDim S64x1 ![0] bcast_S64_S64x1_0 (iotaInDim S64 32 0)))
          (broadcastInDim S64x576 ![0, 1] bcast_S1x576_S64x576_0_1
            (subi (broadcastInDim S1x576 ![1] bcast_S576_S1x576_1 (iotaInDim S576 32 0))
              (broadcastInDim S1x576 ![] bcast_S_S1x576 (constantI S_ 32 512#32)))))))
    (broadcastInDim S64x576 ![] bcast_S_S64x576 (constantI S_ 32 256#32))

/-- The same, as the lookup's start indices. -/
def distIx : IVec S64x576x1 32 :=
  broadcastInDim S64x576x1 ![0, 1] bcast_S64x576_S64x576x1_0_1
    (select (cmpi .slt dist (broadcastInDim S64x576 ![] bcast_S_S64x576 (constantI S_ 32 0#32)))
      (addi dist (broadcastInDim S64x576 ![] bcast_S_S64x576 (constantI S_ 32 513#32))) dist)

/-- The band of rows of each chunk. -/
def band (z : Vec Ideal S4x4608x16x128 .f32) : Vec Ideal S4x64x576x16x128 .f32 :=
  Host.gather gather_S4x4608x16x128_S64x576x1_S4x64x576x16x128_034_1_n_n_1_2_4116128 z posIx

/-- The bias of each head, row and band entry. -/
def bias (b : Vec Ideal S16x513 .f32) : Vec Ideal S16x64x576 .f32 :=
  Host.gather gather_S16x513_S64x576x1_S16x64x576_0_1_n_n_1_2_161 b distIx

/-- The scores before the mask, from the queries, the band of keys and the biases. -/
def score (q : Vec Ideal S4x64x64x16x128 .f32) (k : Vec Ideal S4x64x576x16x128 .f32) (b : Vec Ideal S16x64x576 .f32) :
    Vec Ideal S4x64x16x64x576 .f32 :=
  addf (F := Ideal) (Host.divf (F := Ideal) (Host.dotGeneral (F := Ideal) (φ₁ := .f32) (φ₂ := .f32) dot_S4x64x64x16x128_S4x64x576x16x128_S4x64x16x64x576_4_4_2_2_013_013 none q k)
      (broadcastInDim S4x64x16x64x576 ![] bcast_S_S4x64x16x64x576 (Host.sqrt (F := Ideal) (constant S_ .f32 0x43000000#32))))
    (broadcastInDim S4x64x16x64x576 ![0, 1, 2, 3, 4] bcast_S1x1x16x64x576_S4x64x16x64x576_0_1_2_3_4
      (broadcastInDim S1x1x16x64x576 ![2, 3, 4] bcast_S16x64x576_S1x1x16x64x576_2_3_4 b))

/-- The scores with `-∞` where the band entry lies before the sequence. -/
def masked (s : Vec Ideal S4x64x16x64x576 .f32) : Vec Ideal S4x64x16x64x576 .f32 :=
  select (broadcastInDim S4x64x16x64x576 ![0, 1, 2, 3, 4] bcast_S1x64x1x1x576_S4x64x16x64x576_0_1_2_3_4
      (broadcastInDim S1x64x1x1x576 ![1, 4] bcast_S64x576_S1x64x1x1x576_1_4
        (cmpi .sge pos (broadcastInDim S64x576 ![] bcast_S_S64x576 (constantI S_ 32 512#32)))))
    s (broadcastInDim S4x64x16x64x576 ![] bcast_S_S4x64x16x64x576 (id (constant (F := Ideal) S_ .f32 0xFF800000#32)))

/-- Each row's greatest score. -/
def peak (s : Vec Ideal S4x64x16x64x576 .f32) : Vec Ideal S4x64x16x64 .f32 :=
  Host.reduce (FloatOps.maximumf (F := Ideal) (φ := .f32)) s (constant (F := Ideal) S_ .f32 0xFF800000#32) reducesTo_S4x64x16x64x576_S4x64x16x64_d4 h_S_

/-- The greatest scores, none below `-∞`. -/
def crest (p : Vec Ideal S4x64x16x64 .f32) : Vec Ideal S4x64x16x64 .f32 :=
  maximumf (F := Ideal) (broadcastInDim S4x64x16x64 ![] bcast_S_S4x64x16x64 (constant (F := Ideal) S_ .f32 0xFF800000#32)) p

/-- The exponentials of the scores less a level for each row. -/
def power (s : Vec Ideal S4x64x16x64x576 .f32) (p : Vec Ideal S4x64x16x64 .f32) : Vec Ideal S4x64x16x64x576 .f32 :=
  Host.exp (F := Ideal) (φ := .f32) (subf (F := Ideal) (φ := .f32) s (broadcastInDim S4x64x16x64x576 ![0, 1, 2, 3, 4] bcast_S4x64x16x64x1_S4x64x16x64x576_0_1_2_3_4
    (broadcastInDim S4x64x16x64x1 ![0, 1, 2, 3] bcast_S4x64x16x64_S4x64x16x64x1_0_1_2_3 p)))

/-- The weights: each exponential divided by its row's sum. -/
def weights (e : Vec Ideal S4x64x16x64x576 .f32) : Vec Ideal S4x64x16x64x576 .f32 :=
  Host.divf (F := Ideal) e (broadcastInDim S4x64x16x64x576 ![0, 1, 2, 3, 4] bcast_S4x64x16x64x1_S4x64x16x64x576_0_1_2_3_4
    (broadcastInDim S4x64x16x64x1 ![0, 1, 2, 3] bcast_S4x64x16x64_S4x64x16x64x1_0_1_2_3
      (Host.reduceAdd (F := Ideal) e (constant (F := Ideal) S_ .f32 0x00000000#32) reducesTo_S4x64x16x64x576_S4x64x16x64_d4 h_S_)))

/-- The heads' outputs, before the heads are laid side by side. -/
def heads (v : Vec Ideal S4x64x576x16x128 .f32) (p : Vec Ideal S4x64x16x64x576 .f32) : Vec Ideal S4x64x16x128x64 .f32 :=
  Host.dotGeneral (F := Ideal) (φ₁ := .f32) (φ₂ := .f32) dot_S4x64x576x16x128_S4x64x16x64x576_S4x64x16x128x64_2_4_4_3_013_012 none v p

/-- The heads side by side, one row for each token. -/
def rows (o : Vec Ideal S4x64x16x128x64 .f32) : Vec Ideal S16384x2048 .f32 :=
  shapeCast _ (transpose S4x64x64x16x128 [0, 1, 4, 2, 3] o transposes_S4x64x16x128x64_S4x64x64x16x128_0_1_4_2_3)
    shapeCasts_S4x64x64x16x128_S16384x2048

/-- The norm of each token's row, with the scale of each lane. -/
def normed (a : Vec Ideal S16384x2048 .f32) (g : Vec Ideal S2048 .f32) : Vec Ideal S16384x2048 .bf16 :=
  truncf (F := Ideal) .bf16 (mulf (F := Ideal) (mulf (F := Ideal) a
      (broadcastInDim S16384x2048 ![0, 1] bcast_S16384x1_S16384x2048_0_1
        (Host.rsqrt (F := Ideal) (addf (F := Ideal) (Host.divf (F := Ideal)
            (broadcastInDim S16384x1 ![0] bcast_S16384_S16384x1_0
              (Host.reduceAdd (F := Ideal) (mulf (F := Ideal) a a) (constant (F := Ideal) S_ .f32 0x00000000#32) reducesTo_S16384x2048_S16384_d1 h_S_))
            (broadcastInDim S16384x1 ![] bcast_S_S16384x1 (constant (F := Ideal) S_ .f32 0x45000000#32)))
          (broadcastInDim S16384x1 ![] bcast_S_S16384x1 (constant (F := Ideal) S_ .f32 0x358637BD#32))))))
    (broadcastInDim S16384x2048 ![0, 1] bcast_S1x2048_S16384x2048_0_1 (broadcastInDim S1x2048 ![1] bcast_S2048_S1x2048_1 g)))
    bitsLt_bf16_f32

/-- The masked scores of every head. -/
def logits (x : Vec Ideal S16384x6144 .bf16) (b : Vec Ideal S16x513 .f32) : Vec Ideal S4x64x16x64x576 .f32 :=
  masked (score (query x) (band (keys x)) (bias b))

/-- The attention's rows before the norm. -/
def attn (x : Vec Ideal S16384x6144 .bf16) (b : Vec Ideal S16x513 .f32) : Vec Ideal S16384x2048 .f32 :=
  rows (heads (band (values x)) (weights (power (logits x b) (crest (peak (logits x b))))))

/-- The reference's first result is these stages in turn. -/
theorem result (m : (ℓ : Loc nD τ sig) → Buf (Elt Ideal) ℓ) (c : Dev nD) :
    Cert.ReferenceIdeal.Value.res_out0 m c
      = normed (attn (m ((c.tc : Thread nD τ).loc main_arg0)) (m ((c.tc : Thread nD τ).loc main_arg1)))
          (m ((c.tc : Thread nD τ).loc main_arg2)) := rfl

end Proof.Reference

end

end
-- ==== Proof.RefIndex.lean ====
/- The reference's stages, read at an index. -/
module

public import proofs.«01_k».proof.Proof.Reference

@[expose] public section

set_option maxRecDepth 16384

noncomputable section

namespace Proof.Reference

open Idealize.ShloMosaic Idealize.ShloMosaic.TcCoe Idealize.SL.Sem
open Cert.ReferenceIdeal Cert.ReferenceIdeal.Gen
open Proof.Softmax Proof.Consts Proof.Gathers

/-- The queries at an index: the columns of the queries, unchanged. -/
theorem query_apply (x : Vec Ideal S16384x6144 .bf16) (b : Fin 4) (n : Fin 64) (r : Fin 64) (h : Fin 16) (e : Fin 128) :
    query x (ix5 b n r h e) = x (ix2 ⟨(b : ℕ) * 4096 + (n : ℕ) * 64 + r, by omega⟩ ⟨(h : ℕ) * 128 + e, by omega⟩) := by
  pointwise [query]

/-- The keys at an index that lies in the sequence. -/
theorem keys_apply (x : Vec Ideal S16384x6144 .bf16) (b : Fin 4) (p : Fin 4608) (h : Fin 16) (e : Fin 128) (hp : 512 ≤ (p : ℕ)) :
    keys x (ix4 b p h e) = x (ix2 ⟨(b : ℕ) * 4096 + ((p : ℕ) - 512), by omega⟩ ⟨2048 + ((h : ℕ) * 128 + e), by omega⟩) := by
  pointwise [keys]
  rw [dif_pos ⟨hp, by omega⟩]

/-- The values at an index that lies in the sequence. -/
theorem values_apply (x : Vec Ideal S16384x6144 .bf16) (b : Fin 4) (p : Fin 4608) (h : Fin 16) (e : Fin 128) (hp : 512 ≤ (p : ℕ)) :
    values x (ix4 b p h e) = x (ix2 ⟨(b : ℕ) * 4096 + ((p : ℕ) - 512), by omega⟩ ⟨4096 + ((h : ℕ) * 128 + e), by omega⟩) := by
  pointwise [values]
  rw [dif_pos ⟨hp, by omega⟩]

/-- The word of a number below `2 ^ 31` reads back as the number. -/
theorem toInt_word (k : ℕ) (hk : k < 2147483648) : (BitVec.ofNat 32 k).toInt = k := by
  rw [BitVec.toInt_eq_toNat_of_lt (by rw [BitVec.toNat_ofNat]; omega), BitVec.toNat_ofNat]
  omega

/-- A word below `2 ^ 31` is not less than zero, so the second choice is taken. -/
theorem select_slt_zero {α : Type} (k : ℕ) (hk : k < 2147483648) (a b : α) :
    Scalar.select (IntOp.cmpi .slt (BitVec.ofNat 32 k) 0#32) a b = b := by
  have h : (BitVec.ofNat 32 k).slt 0#32 = false := by
    rw [BitVec.slt, decide_eq_false_iff_not, toInt_word k hk, show (0#32 : BitVec 32).toInt = 0 from rfl]
    omega
  simp [Scalar.select, IntOp.cmpi, h]

/-- A position's word. -/
theorem pos_apply (n : Fin 64) (j : Fin 576) : pos (ix2 n j) = BitVec.ofNat 32 ((n : ℕ) * 64 + j) := by
  pointwise [pos]
  simp only [IntOp.addi, IntOp.muli]
  rw [show (64#32) = BitVec.ofNat 32 64 from rfl, ← BitVec.ofNat_mul, ← BitVec.ofNat_add]

/-- The lookup's start index is the position. -/
theorem posIx_apply (n : Fin 64) (j : Fin 576) : (posIx (ix3 n j 0)).toInt.toNat = (n : ℕ) * 64 + j := by
  have hp := pos_apply n j
  pointwise [posIx]
  rw [hp, select_slt_zero _ (by omega), toInt_word _ (by omega)]
  omega

/-- The clipped distance, counted from zero. -/
theorem clip_word (r : Fin 64) (j : Fin 576) :
    IntOp.addi (IntOp.minsi (256#32) (IntOp.maxsi (4294967040#32) (IntOp.subi (BitVec.ofNat 32 r) (IntOp.subi (BitVec.ofNat 32 j) 512#32)))) 256#32
      = BitVec.ofNat 32 (min 512 ((r : ℕ) + 768 - j)) := by
  revert r j
  decide +kernel

/-- The distance's word. -/
theorem dist_apply (r : Fin 64) (j : Fin 576) : dist (ix2 r j) = BitVec.ofNat 32 (min 512 ((r : ℕ) + 768 - j)) := by
  rw [← clip_word]
  pointwise [dist, id_eq, constantI_apply]

/-- The lookup's start index is the distance. -/
theorem distIx_apply (r : Fin 64) (j : Fin 576) : (distIx (ix3 r j 0)).toInt.toNat = min 512 ((r : ℕ) + 768 - j) := by
  have hp := dist_apply r j
  pointwise [distIx]
  rw [hp, select_slt_zero _ (by omega), toInt_word _ (by omega)]
  omega

/-- The band of rows at an index. -/
theorem band_at (z : Vec Ideal S4x4608x16x128 .f32) (b : Fin 4) (n : Fin 64) (j : Fin 576) (h : Fin 16) (e : Fin 128) :
    band z (ix5 b n j h e) = z (ix4 b ⟨(n : ℕ) * 64 + j, by omega⟩ h e) := by
  unfold band
  rw [band_apply]
  refine congrArg z ?_
  refine congrArg (fun p => ix4 b p h e) (Fin.ext ?_)
  simp only [posIx_apply]
  omega

/-- The bias at an index. -/
theorem bias_at (z : Vec Ideal S16x513 .f32) (h : Fin 16) (r : Fin 64) (j : Fin 576) :
    bias z (ix3 h r j) = z (ix2 h ⟨min 512 ((r : ℕ) + 768 - j), by omega⟩) := by
  unfold bias
  rw [bias_apply]
  refine congrArg z ?_
  refine congrArg (fun p => ix2 h p) (Fin.ext ?_)
  simp only [distIx_apply]
  omega

/-- The scores at an index. -/
theorem score_apply (q : Vec Ideal S4x64x64x16x128 .f32) (k : Vec Ideal S4x64x576x16x128 .f32) (bi : Vec Ideal S16x64x576 .f32)
    (b : Fin 4) (n : Fin 64) (h : Fin 16) (r : Fin 64) (j : Fin 576) :
    score q k bi (ix5 b n h r j)
      = Ideal.div (∑ e, q (ix5 b n r h e) * k (ix5 b n j h e)) (Ideal.sqrt (Ideal.ofBits .f32 0x43000000#32)) + bi (ix3 h r j) := by
  pointwise [score]

/-- The masked scores at an index. -/
theorem masked_apply (s : Vec Ideal S4x64x16x64x576 .f32) (b : Fin 4) (n : Fin 64) (h : Fin 16) (r : Fin 64) (j : Fin 576) :
    masked s (ix5 b n h r j) = Scalar.select (IntOp.cmpi .sge (pos (ix2 n j)) 512#32) (s (ix5 b n h r j)) (Ideal.ofBits .f32 0xFF800000#32) := by
  generalize hp : pos = p
  pointwise [masked]
  rw [hp]
  rfl

/-- The greatest scores at an index. -/
theorem peak_apply (s : Vec Ideal S4x64x16x64x576 .f32) (b : Fin 4) (n : Fin 64) (h : Fin 16) (r : Fin 64) :
    peak s (ix4 b n h r) = top (fun j => s (ix5 b n h r j)) := by
  pointwise [peak, top, ofBits_ninf]

/-- No score lies below `-∞`. -/
theorem crest_apply (p : Vec Ideal S4x64x16x64 .f32) (b : Fin 4) (n : Fin 64) (h : Fin 16) (r : Fin 64) :
    crest p (ix4 b n h r) = p (ix4 b n h r) := by
  show max (Ideal.ofBits .f32 0xFF800000#32) (p (ix4 b n h r)) = _
  rw [ofBits_ninf, max_eq_right bot_le]

/-- The exponentials at an index. -/
theorem power_apply (s : Vec Ideal S4x64x16x64x576 .f32) (p : Vec Ideal S4x64x16x64 .f32) (b : Fin 4) (n : Fin 64) (h : Fin 16) (r : Fin 64) (j : Fin 576) :
    power s p (ix5 b n h r j) = Ideal.exp (s (ix5 b n h r j) - p (ix4 b n h r)) := by
  pointwise [power]

/-- The weights at an index. -/
theorem weights_apply (s : Vec Ideal S4x64x16x64x576 .f32) (b : Fin 4) (n : Fin 64) (h : Fin 16) (r : Fin 64) (j : Fin 576) :
    weights s (ix5 b n h r j) = Ideal.div (s (ix5 b n h r j)) (∑ i, s (ix5 b n h r i)) := by
  pointwise [weights]

/-- The heads at an index. -/
theorem heads_apply (v : Vec Ideal S4x64x576x16x128 .f32) (p : Vec Ideal S4x64x16x64x576 .f32) (b : Fin 4) (n : Fin 64) (h : Fin 16) (r : Fin 64) (e : Fin 128) :
    heads v p (ix5 b n h e r) = ∑ j, v (ix5 b n j h e) * p (ix5 b n h r j) := by
  pointwise [heads]

/-- The rows at an index. -/
theorem rows_apply (o : Vec Ideal S4x64x16x128x64 .f32) (t : Fin 16384) (l : Fin 2048) :
    rows o (ix2 t l) = o (ix5 ⟨(t : ℕ) / 4096, by omega⟩ ⟨(t : ℕ) / 64 % 64, by omega⟩ ⟨(l : ℕ) / 128, by omega⟩ ⟨(l : ℕ) % 128, by omega⟩
      ⟨(t : ℕ) % 64, by omega⟩) := by
  pointwise [rows]

/-- The norm at an index. -/
theorem normed_apply (a : Vec Ideal S16384x2048 .f32) (g : Vec Ideal S2048 .f32) (t : Fin 16384) (l : Fin 2048) :
    normed a g (ix2 t l) = a (ix2 t l) * Ideal.rsqrt (Ideal.div (∑ i, a (ix2 t i) * a (ix2 t i)) (Ideal.ofBits .f32 0x45000000#32)
      + Ideal.ofBits .f32 0x358637BD#32) * g (ix1 l) := by
  pointwise [normed]

/-- The masked score of a token's query with entry `j` of its band, for one head. -/
def logit (x : Vec Ideal S16384x6144 .bf16) (z : Vec Ideal S16x513 .f32) (t : Fin 16384) (h : Fin 16) (j : Fin 576) : EReal :=
  if hj : 512 ≤ (t : ℕ) / 64 % 64 * 64 + j then
    Ideal.div (∑ e : Fin 128, x (ix2 t ⟨(h : ℕ) * 128 + e, by omega⟩)
        * x (ix2 ⟨(t : ℕ) / 4096 * 4096 + ((t : ℕ) / 64 % 64 * 64 + j - 512), by omega⟩ ⟨2048 + ((h : ℕ) * 128 + e), by omega⟩))
      (Ideal.sqrt (Ideal.ofBits .f32 0x43000000#32)) + z (ix2 h ⟨min 512 ((t : ℕ) % 64 + 768 - j), by omega⟩)
  else ⊥

/-- The value that a token's weight for entry `j` of its band multiplies. -/
def worth (x : Vec Ideal S16384x6144 .bf16) (t : Fin 16384) (h : Fin 16) (e : Fin 128) (j : Fin 576) : EReal :=
  values x (ix4 ⟨(t : ℕ) / 4096, by omega⟩ ⟨(t : ℕ) / 64 % 64 * 64 + j, by omega⟩ h e)

/-- A comparison of a position with 512, as the choice it makes. -/
theorem select_sge (k : ℕ) (hk : k < 2147483648) (a b : EReal) :
    Scalar.select (IntOp.cmpi .sge (BitVec.ofNat 32 k) 512#32) a b = if 512 ≤ k then a else b := by
  have h : (512#32 : BitVec 32).sle (BitVec.ofNat 32 k) = decide (512 ≤ k) := by
    rw [BitVec.sle, toInt_word k hk, show (512#32 : BitVec 32).toInt = 512 from rfl]
    exact decide_eq_decide.mpr (by omega)
  by_cases hk' : 512 ≤ k <;> simp [Scalar.select, IntOp.cmpi, h, hk']

/-- The masked scores are `logit`. -/
theorem logits_apply (x : Vec Ideal S16384x6144 .bf16) (z : Vec Ideal S16x513 .f32) (t : Fin 16384) (h : Fin 16) (j : Fin 576) :
    logits x z (ix5 ⟨(t : ℕ) / 4096, by omega⟩ ⟨(t : ℕ) / 64 % 64, by omega⟩ h ⟨(t : ℕ) % 64, by omega⟩ j) = logit x z t h j := by
  unfold logits logit
  rw [masked_apply, pos_apply, select_sge _ (by show (t : ℕ) / 64 % 64 * 64 + j < _; omega), ofBits_ninf]
  by_cases hj : 512 ≤ (t : ℕ) / 64 % 64 * 64 + j
  · rw [if_pos hj, dif_pos hj, score_apply, bias_at]
    congr 2
    refine Finset.sum_congr rfl fun e _ => ?_
    rw [query_apply, band_at, keys_apply _ _ _ _ _ hj]
    congr 3
    refine Fin.ext ?_
    show (t : ℕ) / 4096 * 4096 + (t : ℕ) / 64 % 64 * 64 + (t : ℕ) % 64 = t
    omega
  · rw [if_neg hj, dif_neg hj]

/-- The attention's rows at an index: a token's values, weighted. -/
theorem attn_apply (x : Vec Ideal S16384x6144 .bf16) (z : Vec Ideal S16x513 .f32) (t : Fin 16384) (l : Fin 2048) :
    attn x z (ix2 t l) = early (fun j => logit x z t ⟨(l : ℕ) / 128, by omega⟩ j) (fun j => worth x t ⟨(l : ℕ) / 128, by omega⟩ ⟨(l : ℕ) % 128, by omega⟩ j) := by
  unfold attn early
  rw [rows_apply, heads_apply]
  simp only [weights_apply, power_apply, crest_apply, peak_apply, logits_apply, band_at]
  rfl

end Proof.Reference

end

end
-- ==== Proof.HostBias.lean ====
/- The biases by distance that the host hands the kernel, as one expression. -/
module

public import proofs.«01_k».proof.Proof.Launch
public import Idealize.ShloMosaic.Lib.Pipeline.ValueKit

@[expose] public section

set_option maxRecDepth 16384

noncomputable section

namespace Proof.HostBias

open Idealize.ShloMosaic Idealize.ShloMosaic.TcCoe Idealize.SL.Sem
open Cert.KernelIdeal Cert.KernelIdeal.Gen

variable (m : (ℓ : Loc nD τ sig) → Buf (Elt Ideal) ℓ)

/-- The words that name the bias of each distance: 512 less the distance, kept within 256 of zero, counted from zero. -/
def relIx : IVec S1024 32 :=
  let i : IVec S1024 32 := iotaInDim S1024 32 0
  let d : IVec S1024 32 := select (cmpi .slt i (broadcastInDim S1024 ![] bcast_S_S1024 (constantI S_ 32 768#32))) i (subi i (broadcastInDim S1024 ![] bcast_S_S1024 (constantI S_ 32 1024#32)))
  let e : IVec S1024 32 := subi (broadcastInDim S1024 ![] bcast_S_S1024 (constantI S_ 32 512#32)) d
  let e' : IVec S1024 32 := minsi (broadcastInDim S1024 ![] bcast_S_S1024 (constantI S_ 32 256#32)) (maxsi (broadcastInDim S1024 ![] bcast_S_S1024 (constantI S_ 32 4294967040#32)) e)
  let f : IVec S1024 32 := addi e' (broadcastInDim S1024 ![] bcast_S_S1024 (constantI S_ 32 256#32))
  select (cmpi .slt f (broadcastInDim S1024 ![] bcast_S_S1024 (constantI S_ 32 0#32))) (addi f (broadcastInDim S1024 ![] bcast_S_S1024 (constantI S_ 32 513#32))) f

set_option maxHeartbeats 1000000 in
/-- The operand that carries the biases. -/
theorem v18 (c : Dev nD) : V m c main_v18 = broadcastInDim S16x1x1024 ![0, 2] bcast_S16x1024_S16x1x1024_0_2
    (Host.gather gather_S16x513_S1024x1_S16x1024_0_1_n_n_1_1_161 (m ((c : Thread nD τ).loc main_arg1)) (broadcastInDim S1024x1 ![0] bcast_S1024_S1024x1_0 relIx)) := by
  show StableHlo.after (hostOps0 ++ (hostOps0_1 ++ (hostOps0_2 ++ (hostOps0_3 ++ (hostOps0_4 ++ []))))) (fun b => m (c, b)) (Proc.tc.devRef main_v18) = _
  simp only [hostOps0, hostOps0_1, hostOps0_2, hostOps0_3, hostOps0_4, List.cons_append, List.nil_append, List.append_nil]
  after_results_simp
  unfold relIx
  rfl

end Proof.HostBias

end

end
-- ==== Proof.Operands.lean ====
/- What a grid point's input blocks hold, entry by entry, in terms of the call's arguments. -/
module

public import proofs.«01_k».proof.Proof.HostBias
public import Idealize.ShloMosaic.Lib.Pipeline.ValueKit

@[expose] public section

set_option maxRecDepth 16384

noncomputable section

namespace Proof.Operands

open Idealize.ShloMosaic Idealize.ShloMosaic.TcCoe Idealize.SL.Sem
open Cert.KernelIdeal Cert.KernelIdeal.Gen
open Proof.HostBias

variable (m : (ℓ : Loc nD τ sig) → Buf (Elt Ideal) ℓ)

/-- Where window 0's block lies. -/
theorem idx0 : ∀ t : Fin cfg0.N, win0_0.index t = ![t.val, 0] :=
  (by decide +kernel : ∀ t : Fin grid0.N, win0_0.index t = ![t.val, 0])

/-- Its entries. -/
theorem blk0 (c : Dev nD) (t : Fin cfg0.N) (r : Fin 256) (l : Fin 2048) (y : S16384x6144.Idx)
    (h0 : (y 0).val = (t.val) * 256 + r.val) (h1 : (y 1).val = 0 * 2048 + l.val) :
    iblk m c 0 t (ix2 r l) = m ((c : Thread nD τ).loc main_arg0) y := by
  blk_ext [iblk, V, idx0 t]

/-- Where window 1's block lies. -/
theorem idx1 : ∀ t : Fin cfg0.N, win0_1.index t = ![max (t.val - 2) (t.val / 16 * 16), 1] :=
  (by decide +kernel : ∀ t : Fin grid0.N, win0_1.index t = ![max (t.val - 2) (t.val / 16 * 16), 1])

/-- Its entries. -/
theorem blk1 (c : Dev nD) (t : Fin cfg0.N) (r : Fin 256) (l : Fin 2048) (y : S16384x6144.Idx)
    (h0 : (y 0).val = (max (t.val - 2) (t.val / 16 * 16)) * 256 + r.val) (h1 : (y 1).val = 1 * 2048 + l.val) :
    iblk m c 1 t (ix2 r l) = m ((c : Thread nD τ).loc main_arg0) y := by
  blk_ext [iblk, V, idx1 t]

/-- Where window 2's block lies. -/
theorem idx2 : ∀ t : Fin cfg0.N, win0_2.index t = ![max (t.val - 1) (t.val / 16 * 16), 1] :=
  (by decide +kernel : ∀ t : Fin grid0.N, win0_2.index t = ![max (t.val - 1) (t.val / 16 * 16), 1])

/-- Its entries. -/
theorem blk2 (c : Dev nD) (t : Fin cfg0.N) (r : Fin 256) (l : Fin 2048) (y : S16384x6144.Idx)
    (h0 : (y 0).val = (max (t.val - 1) (t.val / 16 * 16)) * 256 + r.val) (h1 : (y 1).val = 1 * 2048 + l.val) :
    iblk m c 2 t (ix2 r l) = m ((c : Thread nD τ).loc main_arg0) y := by
  blk_ext [iblk, V, idx2 t]

/-- Where window 3's block lies. -/
theorem idx3 : ∀ t : Fin cfg0.N, win0_3.index t = ![t.val, 1] :=
  (by decide +kernel : ∀ t : Fin grid0.N, win0_3.index t = ![t.val, 1])

/-- Its entries. -/
theorem blk3 (c : Dev nD) (t : Fin cfg0.N) (r : Fin 256) (l : Fin 2048) (y : S16384x6144.Idx)
    (h0 : (y 0).val = (t.val) * 256 + r.val) (h1 : (y 1).val = 1 * 2048 + l.val) :
    iblk m c 3 t (ix2 r l) = m ((c : Thread nD τ).loc main_arg0) y := by
  blk_ext [iblk, V, idx3 t]

/-- Where window 4's block lies. -/
theorem idx4 : ∀ t : Fin cfg0.N, win0_4.index t = ![max (t.val - 2) (t.val / 16 * 16), 2] :=
  (by decide +kernel : ∀ t : Fin grid0.N, win0_4.index t = ![max (t.val - 2) (t.val / 16 * 16), 2])

/-- Its entries. -/
theorem blk4 (c : Dev nD) (t : Fin cfg0.N) (r : Fin 256) (l : Fin 2048) (y : S16384x6144.Idx)
    (h0 : (y 0).val = (max (t.val - 2) (t.val / 16 * 16)) * 256 + r.val) (h1 : (y 1).val = 2 * 2048 + l.val) :
    iblk m c 4 t (ix2 r l) = m ((c : Thread nD τ).loc main_arg0) y := by
  blk_ext [iblk, V, idx4 t]

/-- Where window 5's block lies. -/
theorem idx5 : ∀ t : Fin cfg0.N, win0_5.index t = ![max (t.val - 1) (t.val / 16 * 16), 2] :=
  (by decide +kernel : ∀ t : Fin grid0.N, win0_5.index t = ![max (t.val - 1) (t.val / 16 * 16), 2])

/-- Its entries. -/
theorem blk5 (c : Dev nD) (t : Fin cfg0.N) (r : Fin 256) (l : Fin 2048) (y : S16384x6144.Idx)
    (h0 : (y 0).val = (max (t.val - 1) (t.val / 16 * 16)) * 256 + r.val) (h1 : (y 1).val = 2 * 2048 + l.val) :
    iblk m c 5 t (ix2 r l) = m ((c : Thread nD τ).loc main_arg0) y := by
  blk_ext [iblk, V, idx5 t]

/-- Where window 6's block lies. -/
theorem idx6 : ∀ t : Fin cfg0.N, win0_6.index t = ![t.val, 2] :=
  (by decide +kernel : ∀ t : Fin grid0.N, win0_6.index t = ![t.val, 2])

/-- Its entries. -/
theorem blk6 (c : Dev nD) (t : Fin cfg0.N) (r : Fin 256) (l : Fin 2048) (y : S16384x6144.Idx)
    (h0 : (y 0).val = (t.val) * 256 + r.val) (h1 : (y 1).val = 2 * 2048 + l.val) :
    iblk m c 6 t (ix2 r l) = m ((c : Thread nD τ).loc main_arg0) y := by
  blk_ext [iblk, V, idx6 t]

/-- The third result's and the second's source blocks. -/
theorem idx9 : ∀ t : Fin cfg0.N, win0_9.index t = ![t.val, 0] := (by decide +kernel : ∀ t : Fin grid0.N, win0_9.index t = ![t.val, 0])
theorem blk9 (c : Dev nD) (t : Fin cfg0.N) (r : Fin 64) (l : Fin 4096) (y : S4096x4096.Idx)
    (h0 : (y 0).val = t.val * 64 + r.val) (h1 : (y 1).val = l.val) : iblk m c 9 t (ix2 r l) = m ((c : Thread nD τ).loc main_arg3) y := by
  blk_ext [iblk, V, idx9 t]
theorem idx10 : ∀ t : Fin cfg0.N, win0_10.index t = ![t.val, 0] := (by decide +kernel : ∀ t : Fin grid0.N, win0_10.index t = ![t.val, 0])
theorem blk10 (c : Dev nD) (t : Fin cfg0.N) (r : Fin 64) (l : Fin 2048) (y : S4096x2048.Idx)
    (h0 : (y 0).val = t.val * 64 + r.val) (h1 : (y 1).val = l.val) : iblk m c 10 t (ix2 r l) = m ((c : Thread nD τ).loc main_arg4) y := by
  blk_ext [iblk, V, idx10 t]

/-- The gains' block. -/
theorem idx8 : ∀ t : Fin cfg0.N, win0_8.index t = ![0, 0] := (by decide +kernel : ∀ t : Fin grid0.N, win0_8.index t = ![0, 0])
theorem gains (c : Dev nD) : V m c main_v19 = shapeCast S1x2048 (m ((c : Thread nD τ).loc main_arg2)) shapeCasts_S2048_S1x2048 := rfl
theorem blk8 (c : Dev nD) (t : Fin cfg0.N) (l : Fin 2048) : iblk m c 8 t (ix2 0 l) = m ((c : Thread nD τ).loc main_arg2) (ix1 l) := by
  have e : iblk m c 8 t (ix2 0 l) = V m c main_v19 (ix2 0 l) := by blk_ext [iblk, idx8 t]
  rw [e, gains]
  pointwise

/-- The biases' gather at an index. -/
theorem bias_apply {α : Type} (x : S16x513.Idx → α) (idx : IVec S1024x1 32) (h : Fin 16) (k : Fin 1024) :
    Host.gather gather_S16x513_S1024x1_S16x1024_0_1_n_n_1_1_161 x idx (ix2 h k)
      = x (ix2 h ⟨min (idx (ix2 k 0)).toInt.toNat 512, by omega⟩) := by
  unfold Host.gather
  refine congrArg x ?_
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ (by decide)]
    unfold GatherDims.start GatherDims.offCoord
    rw [dif_neg (by decide), dif_pos (by decide)]
    simp only [Nat.zero_add, Nat.add_zero]
    rfl
  | ⟨1, _⟩ =>
    show GatherDims.start _ _ idx 1 + GatherDims.batchCoord _ _ 1 + GatherDims.offCoord _ _ 1 = _
    rw [GatherDims.batchCoord_eq_zero _ _ _ (by decide), GatherDims.offCoord_eq_zero _ _ _ (by decide)]
    simp only [Nat.add_zero]
    unfold GatherDims.start
    rw [dif_pos (by decide)]
    refine congrArg (fun i => min (idx i).toInt.toNat 512) ?_
    funext c; refine Fin.ext ?_
    match c with
    | ⟨0, _⟩ => rfl
    | ⟨1, _⟩ => rfl

/-- The place, among a head's biases, of the one for window rows `x` after the first row of the window (`x - 1024` from 768 on). -/
def place (x : ℕ) : ℕ := if x < 768 then min 512 (768 - x) else 512

/-- The word that names it, as the host spells it. -/
def word (n : ℕ) : BitVec 32 :=
  let d := Scalar.select (IntOp.cmpi .slt (BitVec.ofNat 32 n) 768#32) (BitVec.ofNat 32 n) (IntOp.subi (BitVec.ofNat 32 n) 1024#32)
  let f := IntOp.addi (IntOp.minsi 256#32 (IntOp.maxsi 4294967040#32 (IntOp.subi 512#32 d))) 256#32
  Scalar.select (IntOp.cmpi .slt f 0#32) (IntOp.addi f 513#32) f

/-- It names that place. -/
theorem word_eq : ∀ x : Fin 1024, min (word x.val).toInt.toNat 512 = place x.val := by decide +kernel

/-- The host's word at an index. -/
theorem relIx_apply (x : Fin 1024) : relIx (ix1 x) = word x.val := by
  pointwise [relIx, word]

/-- The biases' block. -/
theorem idx7 : ∀ t : Fin cfg0.N, win0_7.index t = ![0, 0, 0] := (by decide +kernel : ∀ t : Fin grid0.N, win0_7.index t = ![0, 0, 0])
theorem blk7_whole (c : Dev nD) (t : Fin cfg0.N) (h : Fin 16) (x : Fin 1024) : iblk m c 7 t (ix3 h 0 x) = V m c main_v18 (ix3 h 0 x) := by
  blk_ext [iblk, idx7 t]
theorem blk7 (c : Dev nD) (t : Fin cfg0.N) (h : Fin 16) (x : Fin 1024) (n : Fin 513) (hn : n.val = place x.val) :
    iblk m c 7 t (ix3 h 0 x) = m ((c : Thread nD τ).loc main_arg1) (ix2 h n) := by
  rw [blk7_whole, v18]
  refine Eq.trans (b := Host.gather gather_S16x513_S1024x1_S16x1024_0_1_n_n_1_1_161 (m ((c : Thread nD τ).loc main_arg1)) (broadcastInDim S1024x1 ![0] bcast_S1024_S1024x1_0 relIx) (ix2 h x)) ?_ ?_
  · refine congrArg (Host.gather _ _ _) (funext fun a => Fin.ext ?_)
    match a with
    | ⟨0, _⟩ => rfl
    | ⟨1, _⟩ => rfl
  · rw [bias_apply]
    refine congrArg (fun k => m ((c : Thread nD τ).loc main_arg1) (ix2 h k)) (Fin.ext ?_)
    rw [hn, ← word_eq x, ← relIx_apply x]
    refine congrArg (fun i => min (BitVec.toInt (relIx i)).toNat 512) (funext fun a => Fin.ext ?_)
    match a with
    | ⟨0, _⟩ => rfl

end Proof.Operands

end

end
-- ==== Proof.Entry.lean ====
/- One entry of a block's rows is the reference's attention at the same token and column. -/
module

public import proofs.«01_k».proof.Proof.Rows
public import proofs.«01_k».proof.Proof.Block
public import proofs.«01_k».proof.Proof.RefIndex
public import proofs.«01_k».proof.Proof.Operands

@[expose] public section

set_option maxRecDepth 16384

noncomputable section

namespace Proof.Entry

open Idealize.ShloMosaic Idealize.ShloMosaic.TcCoe Idealize.SL.Sem
open Cert.KernelIdeal Cert.KernelIdeal.Gen
open Proof.Rows Proof.Table Proof.Head Proof.Softmax Proof.Operands

/-- The window's three blocks, stacked, are the array's rows from 512 before the block on, where they lie in the sequence. -/
theorem stack_read (A : Vec Ideal S16384x6144 .bf16) (X1 X2 X3 : Vec Ideal S256x2048 .bf16) (b t : ℕ)
    (r1 : ∀ (r : Fin 256) (l : Fin 2048) (y : S16384x6144.Idx), (y 0).val = max (t - 2) (t / 16 * 16) * 256 + r.val → (y 1).val = b * 2048 + l.val → X1 (ix2 r l) = A y)
    (r2 : ∀ (r : Fin 256) (l : Fin 2048) (y : S16384x6144.Idx), (y 0).val = max (t - 1) (t / 16 * 16) * 256 + r.val → (y 1).val = b * 2048 + l.val → X2 (ix2 r l) = A y)
    (r3 : ∀ (r : Fin 256) (l : Fin 2048) (y : S16384x6144.Idx), (y 0).val = t * 256 + r.val → (y 1).val = b * 2048 + l.val → X3 (ix2 r l) = A y)
    (h : Fin 16) (c : Fin 768) (e : Fin 128) (hc : (2 - t % 16) * 256 ≤ c.val) (y : S16384x6144.Idx)
    (h0 : (y 0).val + 512 = t * 256 + c.val) (h1 : (y 1).val = b * 2048 + (h.val * 128 + e.val)) :
    stack (cols X1 h) (cols X2 h) (cols X3 h) c e = A y := by
  unfold stack
  split_ifs with ha hb
  · exact r1 _ _ y (by show _ = _ + c.val; omega) h1
  · exact r2 _ _ y (by show _ = _ + (c.val - 256); omega) h1
  · exact r3 _ _ y (by show _ = _ + (c.val - 256 - 256); omega) h1

/-- A finite sum of products of reals is a real. -/
theorem real_sum {n : ℕ} (f g : Fin n → EReal) (hf : ∀ i, ∃ a : ℝ, f i = a) (hg : ∀ i, ∃ a : ℝ, g i = a) :
    ∃ s : ℝ, ∑ i, f i * g i = s := by
  choose a ha using hf
  choose b hb using hg
  refine ⟨∑ i, a i * b i, ?_⟩
  rw [← coe_sum]
  exact Finset.sum_congr rfl fun i _ => by rw [ha, hb, EReal.coe_mul]

/-- The kernel's score, from the reference's: the same number in base two. -/
theorem score_eq (S z : EReal) (hS : ∃ s : ℝ, S = s) (hz : ∃ a : ℝ, z = a) :
    S * scale2 + z * (((Real.log 2)⁻¹ : ℝ) : EReal)
      = (Ideal.div S (Ideal.sqrt (Ideal.ofBits .f32 0x43000000#32)) + z) * (((Real.log 2)⁻¹ : ℝ) : EReal) := by
  obtain ⟨s, rfl⟩ := hS
  obtain ⟨a, rfl⟩ := hz
  rw [scale2_eq, Proof.Consts.ofBits_128, Ideal.sqrt_coe, if_neg (by norm_num : ¬(128 : ℝ) < 0), Ideal.div_coe (show Real.sqrt 128 ≠ 0 by positivity)]
  rw [one_div, ← EReal.coe_mul, ← EReal.coe_mul, ← EReal.coe_mul, ← EReal.coe_add, ← EReal.coe_add, ← EReal.coe_mul]
  congr 1
  ring

/-- The entry. -/
theorem entry (A : Vec Ideal S16384x6144 .bf16) (z : Vec Ideal S16x513 .f32) (X1 X2 X3 X4 X5 X6 X0 : Vec Ideal S256x2048 .bf16) (T : Vec Ideal S16x256x768 .f32)
    (t : ℕ) (ht : t < 64)
    (r0 : ∀ (r : Fin 256) (l : Fin 2048) (y : S16384x6144.Idx), (y 0).val = t * 256 + r.val → (y 1).val = 0 * 2048 + l.val → X0 (ix2 r l) = A y)
    (r1 : ∀ (r : Fin 256) (l : Fin 2048) (y : S16384x6144.Idx), (y 0).val = max (t - 2) (t / 16 * 16) * 256 + r.val → (y 1).val = 1 * 2048 + l.val → X1 (ix2 r l) = A y)
    (r2 : ∀ (r : Fin 256) (l : Fin 2048) (y : S16384x6144.Idx), (y 0).val = max (t - 1) (t / 16 * 16) * 256 + r.val → (y 1).val = 1 * 2048 + l.val → X2 (ix2 r l) = A y)
    (r3 : ∀ (r : Fin 256) (l : Fin 2048) (y : S16384x6144.Idx), (y 0).val = t * 256 + r.val → (y 1).val = 1 * 2048 + l.val → X3 (ix2 r l) = A y)
    (r4 : ∀ (r : Fin 256) (l : Fin 2048) (y : S16384x6144.Idx), (y 0).val = max (t - 2) (t / 16 * 16) * 256 + r.val → (y 1).val = 2 * 2048 + l.val → X4 (ix2 r l) = A y)
    (r5 : ∀ (r : Fin 256) (l : Fin 2048) (y : S16384x6144.Idx), (y 0).val = max (t - 1) (t / 16 * 16) * 256 + r.val → (y 1).val = 2 * 2048 + l.val → X5 (ix2 r l) = A y)
    (r6 : ∀ (r : Fin 256) (l : Fin 2048) (y : S16384x6144.Idx), (y 0).val = t * 256 + r.val → (y 1).val = 2 * 2048 + l.val → X6 (ix2 r l) = A y)
    (tin : ∀ (h : Fin 16) (r : Fin 256) (c : Fin 768) (n : Fin 513), inBand r c → n.val = place ((c.val + 1024 - r.val) % 1024) →
      T (ix3 h r c) = z (ix2 h n) * (((Real.log 2)⁻¹ : ℝ) : EReal))
    (tout : ∀ (h : Fin 16) (r : Fin 256) (c : Fin 768), ¬ inBand r c → T (ix3 h r c) = ⊥)
    (hA : ∀ y : S16384x6144.Idx, (y 1).val < 4096 → ∃ a : ℝ, A y = a) (hz : ∀ y, ∃ a : ℝ, z y = a)
    (r : Fin 256) (l : Fin 2048) (g : Fin 16384) (hg : g.val = t * 256 + r.val) :
    rowsOf ((2 - t % 16) * 256) X1 X2 X3 X4 X5 X6 X0 T (ix2 r l) = Proof.Reference.attn A z (ix2 g l) := by
  have hl := l.isLt
  have hr := r.isLt
  rw [Proof.Reference.attn_apply]
  unfold rowsOf
  show late (fun c : Fin 768 => if (2 - t % 16) * 256 ≤ (c : ℕ) then
      score (cols X0 ⟨l.val / 128, by omega⟩) (cols X1 ⟨l.val / 128, by omega⟩) (cols X2 ⟨l.val / 128, by omega⟩)
          (cols X3 ⟨l.val / 128, by omega⟩) (sheet T ⟨l.val / 128, by omega⟩) r c
      else ⊥)
      (fun c => stack (cols X4 ⟨l.val / 128, by omega⟩) (cols X5 ⟨l.val / 128, by omega⟩) (cols X6 ⟨l.val / 128, by omega⟩) c
        ⟨l.val % 128, by omega⟩) = _
  generalize (⟨l.val / 128, by omega⟩ : Fin 16) = h
  generalize (⟨l.val % 128, by omega⟩ : Fin 128) = d
  have hsum : ∀ y0 y1 : Fin 16384, ∃ s : ℝ, ∑ e : Fin 128, A (ix2 y0 ⟨h.val * 128 + e.val, by omega⟩) * A (ix2 y1 ⟨2048 + (h.val * 128 + e.val), by omega⟩) = s :=
    fun y0 y1 => real_sum _ _ (fun e => hA _ (by show h.val * 128 + e.val < 4096; omega)) (fun e => hA _ (by show 2048 + (h.val * 128 + e.val) < 4096; omega))
  have hreal : ∀ j : Fin 576, 512 ≤ g.val / 64 % 64 * 64 + j.val → ∃ s : ℝ, Proof.Reference.logit A z g h j = s := by
    intro j hj
    unfold Proof.Reference.logit
    rw [dif_pos hj]
    obtain ⟨s, hs⟩ := hsum g ⟨(g : ℕ) / 4096 * 4096 + ((g : ℕ) / 64 % 64 * 64 + j - 512), by omega⟩
    obtain ⟨a, ha⟩ := hz (ix2 h ⟨min 512 ((g : ℕ) % 64 + 768 - j), by omega⟩)
    rw [hs, ha, Proof.Consts.ofBits_128, Ideal.sqrt_coe, if_neg (by norm_num : ¬(128 : ℝ) < 0), Ideal.div_coe (show Real.sqrt 128 ≠ 0 by positivity)]
    exact ⟨s * (1 / √128) + a, by rw [EReal.coe_add, EReal.coe_mul]⟩
  refine late_eq_early (r.val / 64 * 64) (by omega) _ _ _ _ ?_ ?_ ?_ ⟨512 + r.val % 64, by omega⟩ ?_ ?_
  · intro j
    by_cases hj : 512 ≤ g.val / 64 % 64 * 64 + j.val
    · have hj' : (2 - t % 16) * 256 ≤ r.val / 64 * 64 + j.val := by omega
      simp only [hj', if_true]
      unfold Proof.Reference.logit score
      rw [dif_pos hj, ← score_eq _ _ (hsum _ _) (hz _)]
      refine congrArg₂ (· + ·) (congrArg (· * scale2) (Finset.sum_congr rfl fun e _ => congrArg₂ (· * ·) ?_ ?_)) ?_
      · exact r0 r _ _ (by show g.val = _; omega) (by show h.val * 128 + e.val = 0 * 2048 + (h.val * 128 + e.val); omega)
      · exact stack_read A X1 X2 X3 1 t r1 r2 r3 h _ e hj' _ (by show g.val / 4096 * 4096 + (g.val / 64 % 64 * 64 + j.val - 512) + 512 = _ + (r.val / 64 * 64 + j.val); omega) rfl
      · exact tin h r _ _ ⟨by show _ ≤ r.val / 64 * 64 + j.val; omega, by show r.val / 64 * 64 + j.val < _; omega⟩
          (by show min 512 (g.val % 64 + 768 - j.val) = place ((r.val / 64 * 64 + j.val + 1024 - r.val) % 1024); unfold place; split_ifs <;> omega)
    · have hj' : ¬ (2 - t % 16) * 256 ≤ r.val / 64 * 64 + j.val := by omega
      simp only [hj', if_false]
      unfold Proof.Reference.logit
      rw [dif_neg hj]
      exact (EReal.bot_mul_coe_of_pos (inv_pos.2 (Real.log_pos one_lt_two))).symm
  · intro c hc
    split_ifs
    · unfold score
      refine (congrArg (_ + ·) (tout h r c fun hb => hc ?_)).trans (EReal.add_bot _)
      exact hb
    · rfl
  · intro j
    by_cases hj : 512 ≤ g.val / 64 % 64 * 64 + j.val
    · obtain ⟨s, hs⟩ := hreal j hj
      rw [hs]; exact EReal.coe_ne_top s
    · unfold Proof.Reference.logit
      rw [dif_neg hj]; exact bot_ne_top
  · obtain ⟨s, hs⟩ := hreal ⟨512 + r.val % 64, by omega⟩ (by show 512 ≤ _ + (512 + r.val % 64); omega)
    rw [hs]; exact EReal.coe_ne_bot s
  · intro j hne
    have hj : 512 ≤ g.val / 64 % 64 * 64 + j.val := by
      by_contra hj
      exact hne (by unfold Proof.Reference.logit; rw [dif_neg hj])
    unfold Proof.Reference.worth
    rw [Proof.Reference.values_apply _ _ _ _ _ hj]
    exact stack_read A X4 X5 X6 2 t r4 r5 r6 h _ d (by show _ ≤ r.val / 64 * 64 + j.val; omega) _
      (by show g.val / 4096 * 4096 + (g.val / 64 % 64 * 64 + j.val - 512) + 512 = _ + (r.val / 64 * 64 + j.val); omega) rfl

end Proof.Entry

end

end
-- ==== Proof.Array.lean ====
/- The arrays the kernel leaves, index by index: the reference's attention under its norm, and the two weight matrices again. -/
module

public import proofs.«01_k».proof.Proof.FirstBlock
public import proofs.«01_k».proof.Proof.EarlyBlock
public import proofs.«01_k».proof.Proof.InnerBlock
public import proofs.«01_k».proof.Proof.Entry

@[expose] public section

set_option maxRecDepth 16384

noncomputable section

namespace Proof.Arrays

open Idealize.ShloMosaic Idealize.ShloMosaic.TcCoe Idealize.SL.Sem
open Cert.KernelIdeal Cert.KernelIdeal.Gen
open Proof.Rows Proof.Table Proof.Head Proof.Block Proof.Operands Proof.Launch

variable (m : (ℓ : Loc nD τ sig) → Buf (Elt Ideal) ℓ)

/-- An entry of the table inside the band. -/
theorem cell_in (X : Vec Ideal S16x1x1024 .f32) (h : Fin 16) (r : Fin 256) (k : Fin 768) (hb : inBand r k) :
    tableOf X (ix3 h r k) = X (ix3 h 0 ⟨(k.val + 1024 - r.val) % 1024, Nat.mod_lt _ (by decide)⟩) * (((Real.log 2)⁻¹ : ℝ) : EReal) := if_pos hb

/-- An entry outside it. -/
theorem cell_out (X : Vec Ideal S16x1x1024 .f32) (h : Fin 16) (r : Fin 256) (k : Fin 768) (hb : ¬inBand r k) : tableOf X (ix3 h r k) = ⊥ := if_neg hb

/-- An entry depends only on the biases it reads. -/
theorem cell_congr (X Y : Vec Ideal S16x1x1024 .f32) (e : ∀ (h : Fin 16) (x : Fin 1024), X (ix3 h 0 x) = Y (ix3 h 0 x)) (h : Fin 16) (r : Fin 256) (k : Fin 768) :
    cell X h r k = cell Y h r k := by
  unfold cell
  exact if_congr Iff.rfl (congrArg (· * _) (e _ _)) rfl

/-- The table's source block is the same at every point, so the table made of it is too. -/
theorem tableOf_const (c : Dev nD) (t u : Fin cfg0.N) : tableOf (iblk m c 7 t) = tableOf (iblk m c 7 u) := by
  funext y
  exact cell_congr _ _ (fun h x => (blk7_whole m c t h x).trans (blk7_whole m c u h x).symm) (y 0) (y 1) (y 2)

/-- The table carried from point to point is always the first point's. -/
theorem table_all (c : Dev nD) : ∀ (n : ℕ) (h : n < cfg0.N), (outsAt0 m c n h).2.2.2 = tableOf (iblk m c 7 ⟨n, h⟩) := by
  intro n
  induction n with
  | zero =>
    intro h
    exact table_A m c ⟨0, h⟩ rfl (Or.inl rfl) (not_not.2 (Or.inl rfl))
  | succ n ih =>
    intro h
    have h64 : n + 1 < 64 := h
    have hn : n < cfg0.N := show n < 64 by omega
    have h0 : ¬ (n + 1) % 64 = 0 := by omega
    refine Eq.trans ?_ ((ih hn).trans (tableOf_const m c ⟨n, hn⟩ ⟨n + 1, h⟩))
    by_cases h1 : ((n + 1) % 16 = 0 ∨ (n + 1) % 16 = 1)
    · exact table_B m c ⟨n + 1, h⟩ h0 h1 (not_not.2 h1)
    · exact table_C m c ⟨n + 1, h⟩ h0 h1 h1

/-- The rows every point stores. -/
theorem out11 (c : Dev nD) (t : Fin cfg0.N) :
    (outsAt0 m c t.val t.isLt).1
      = normOf (rowsOf ((2 - t.val % 16) * 256) (iblk m c 1 t) (iblk m c 2 t) (iblk m c 3 t) (iblk m c 4 t) (iblk m c 5 t) (iblk m c 6 t) (iblk m c 0 t)
          (tableOf (iblk m c 7 t))) (iblk m c 8 t) := by
  have ht : t.val < 64 := t.isLt
  by_cases h0 : t.val % 64 = 0
  · have h1 : (t.val % 16 = 0 ∨ t.val % 16 = 1) := by omega
    exact out11_A m c t h0 h1 (not_not.2 h1)
  · have hp : t.val - 1 < cfg0.N := show t.val - 1 < 64 by omega
    have e : (outsAt0 m c (t.val - 1) hp).2.2.2 = tableOf (iblk m c 7 t) :=
      (table_all m c (t.val - 1) hp).trans (tableOf_const m c _ _)
    by_cases h1 : (t.val % 16 = 0 ∨ t.val % 16 = 1)
    · exact (out11_B m c t h0 h1 (not_not.2 h1)).trans (by rw [e])
    · have z : (2 - t.val % 16) * 256 = 0 := by omega
      rw [z]
      exact (out11_C m c t h0 h1 h1).trans (by rw [e])

/-- One index of a point's rows: the reference's value there. -/
theorem block_entry (c : Dev nD) (t : Fin cfg0.N)
    (hA : ∀ y : S16384x6144.Idx, (y 1).val < 4096 → ∃ a : ℝ, m ((c : Thread nD τ).loc main_arg0) y = (a : EReal))
    (hz : ∀ y : S16x513.Idx, ∃ a : ℝ, m ((c : Thread nD τ).loc main_arg1) y = (a : EReal))
    (r : Fin 256) (l : Fin 2048) (g : Fin 16384) (hg : g.val = t.val * 256 + r.val) :
    (outsAt0 m c t.val t.isLt).1 (ix2 r l)
      = Proof.Reference.normed (Proof.Reference.attn (m ((c : Thread nD τ).loc main_arg0)) (m ((c : Thread nD τ).loc main_arg1)))
          (m ((c : Thread nD τ).loc main_arg2)) (ix2 g l) := by
  have e : ∀ l : Fin 2048, rowsOf ((2 - t.val % 16) * 256) (iblk m c 1 t) (iblk m c 2 t) (iblk m c 3 t) (iblk m c 4 t) (iblk m c 5 t) (iblk m c 6 t) (iblk m c 0 t)
      (tableOf (iblk m c 7 t)) (ix2 r l)
        = Proof.Reference.attn (m ((c : Thread nD τ).loc main_arg0)) (m ((c : Thread nD τ).loc main_arg1)) (ix2 g l) := by
    intro l
    refine Proof.Entry.entry (m ((c : Thread nD τ).loc main_arg0)) (m ((c : Thread nD τ).loc main_arg1)) _ _ _ _ _ _ _ _ t.val t.isLt
      (blk0 m c t) (blk1 m c t) (blk2 m c t) (blk3 m c t) (blk4 m c t) (blk5 m c t) (blk6 m c t) ?_ ?_ hA hz r l g hg
    · intro h r k n hb hn
      rw [cell_in _ h r k hb, blk7 m c t h _ n hn]
    · intro h r k hb
      exact cell_out _ h r k hb
  rw [out11, normOf_apply, Proof.Reference.normed_apply, blk8]
  simp only [e]

/-- The first result. -/
theorem first (c : Dev nD)
    (hA : ∀ y : S16384x6144.Idx, (y 1).val < 4096 → ∃ a : ℝ, m ((c : Thread nD τ).loc main_arg0) y = (a : EReal))
    (hz : ∀ y : S16x513.Idx, ∃ a : ℝ, m ((c : Thread nD τ).loc main_arg1) y = (a : EReal)) :
    G11 m c = Proof.Reference.normed (Proof.Reference.attn (m ((c : Thread nD τ).loc main_arg0)) (m ((c : Thread nD τ).loc main_arg1)))
          (m ((c : Thread nD τ).loc main_arg2)) := by
  funext i
  have hi0 : (i 0).val < 16384 := (i 0).isLt
  have hi1 : (i 1).val < 2048 := (i 1).isLt
  have hp : pt11Of i = (i 0).val / 256 := by show 1 * ((i 0).val / 256 - 0) + 1 * ((i 1).val / 2048 - 0) = _; omega
  have hN : pt11Of i < cfg0.N := show pt11Of i < 64 by omega
  have hl : loc11Of i = ix2 ⟨(i 0).val % 256, by omega⟩ (i 1) := by
    funext a
    match a with
    | ⟨0, _⟩ => rfl
    | ⟨1, _⟩ => exact Fin.ext (Nat.mod_eq_of_lt hi1)
  unfold G11
  rw [dif_pos hN, hl]
  refine (block_entry m c ⟨pt11Of i, hN⟩ hA hz _ (i 1) (i 0) (by show (i 0).val = pt11Of i * 256 + (i 0).val % 256; omega)).trans ?_
  refine congrArg _ ?_
  funext a
  match a with
  | ⟨0, _⟩ => rfl
  | ⟨1, _⟩ => rfl

/-- The second result. -/
theorem second (c : Dev nD) : G12 m c = (truncf (F := Ideal) (s := S4096x4096) (φ := .f32) .bf16 (m ((c : Thread nD τ).loc main_arg3)) bitsLt_bf16_f32 : Vec Ideal S4096x4096 .bf16) := by
  funext i
  have hi0 : (i 0).val < 4096 := (i 0).isLt
  have hi1 : (i 1).val < 4096 := (i 1).isLt
  have hp : pt12Of i = (i 0).val / 64 := by show 1 * ((i 0).val / 64 - 0) + 1 * ((i 1).val / 4096 - 0) = _; omega
  have hN : pt12Of i < cfg0.N := show pt12Of i < 64 by omega
  have hl : loc12Of i = ix2 ⟨(i 0).val % 64, by omega⟩ (i 1) := by
    funext a
    match a with
    | ⟨0, _⟩ => rfl
    | ⟨1, _⟩ => exact Fin.ext (Nat.mod_eq_of_lt hi1)
  unfold G12
  rw [dif_pos hN, hl, out12 m c ⟨pt12Of i, hN⟩]
  exact blk9 m c ⟨pt12Of i, hN⟩ _ (i 1) i (by show (i 0).val = pt12Of i * 64 + (i 0).val % 64; omega) rfl

/-- The third result. -/
theorem third (c : Dev nD) : G13 m c = (truncf (F := Ideal) (s := S4096x2048) (φ := .f32) .bf16 (m ((c : Thread nD τ).loc main_arg4)) bitsLt_bf16_f32 : Vec Ideal S4096x2048 .bf16) := by
  funext i
  have hi0 : (i 0).val < 4096 := (i 0).isLt
  have hi1 : (i 1).val < 2048 := (i 1).isLt
  have hp : pt13Of i = (i 0).val / 64 := by show 1 * ((i 0).val / 64 - 0) + 1 * ((i 1).val / 2048 - 0) = _; omega
  have hN : pt13Of i < cfg0.N := show pt13Of i < 64 by omega
  have hl : loc13Of i = ix2 ⟨(i 0).val % 64, by omega⟩ (i 1) := by
    funext a
    match a with
    | ⟨0, _⟩ => rfl
    | ⟨1, _⟩ => exact Fin.ext (Nat.mod_eq_of_lt hi1)
  unfold G13
  rw [dif_pos hN, hl, out13 m c ⟨pt13Of i, hN⟩]
  exact blk10 m c ⟨pt13Of i, hN⟩ _ (i 1) i (by show (i 0).val = pt13Of i * 64 + (i 0).val % 64; omega) rfl

end Proof.Arrays

end

end
-- ==== Proof.Finite.lean ====
/- What the precondition says of the arguments: the queries, the keys and the biases are real numbers. -/
module

public import proofs.«01_k».proof.Defs
public import Idealize.ShloMosaic.Lib.ReduceAll
public import Idealize.ShloMosaic.Lib.KernelVsHost
public import Idealize.ShloMosaic.Lib.Pointwise

@[expose] public section

noncomputable section

namespace Proof.Finite

open Idealize.ShloMosaic Idealize.SL.Sem
open Cert.Pre_finite

/-- The side conditions the precondition's operations take. -/
theorem facts : Cert.Pre_finite.Facts where
  slices_S16384x6144_S16384x4096_0_0 := by decide
  bitsLt_bf16_f32 := by decide
  bcast_S_S16384x4096 := by decide
  reducesTo_S16384x4096_S_d0_1 := by decide
  h_S_ := by decide
  bcast_S_S16x513 := by decide
  reducesTo_S16x513_S_d0_1 := by decide

/-- Plus infinity denotes `⊤`. -/
theorem top_word : Ideal.ofBits .f32 0x7F800000#32 = ⊤ := by
  simp [Ideal.ofBits, Ideal.ieee]

/-- An extended real whose absolute value is below infinity is a real number. -/
theorem real_of_lt {x : EReal} (h : Ideal.cmp .olt (max x (-x)) (Ideal.ofBits .f32 0x7F800000#32) = 1#1) : ∃ a : ℝ, x = (a : EReal) := by
  rw [top_word] at h
  have h' := (Ideal.cmp_olt_eq_one _ _).1 h
  rw [max_lt_iff] at h'
  induction x with
  | bot => exact absurd h'.2 (by simp)
  | coe a => exact ⟨a, rfl⟩
  | top => exact absurd h'.1 (by simp)

variable [hF : Cert.Pre_finite.Facts]

/-- The precondition's two clauses, element by element. -/
theorem decode (a0 : FVec Ideal S16384x6144 .bf16) (a1 : FVec Ideal S16x513 .f32) (a2 : FVec Ideal S2048 .f32) (a3 : FVec Ideal S4096x4096 .f32)
    (a4 : FVec Ideal S4096x2048 .f32) (h : fn (F := Ideal) a0 a1 a2 a3 a4 = fun _ => 1#1) :
    (∀ y : S16384x6144.Idx, (y 1).val < 4096 → ∃ a : ℝ, a0 y = (a : EReal)) ∧ (∀ y : S16x513.Idx, ∃ a : ℝ, a1 y = (a : EReal)) := by
  have h0 := congrFun h (Shape.Idx.first Facts.h_S_)
  have h1 := IntOp.andi_eq_one.1 h0
  haveI : Subsingleton S_.Idx := ⟨fun a b => funext fun i => i.elim0⟩
  constructor
  · intro y hy
    have e := Host.reduce_andi_all _ _ _ _ _ h1.1 (ix2 (y 0) ⟨(y 1).val, hy⟩)
    have e' := real_of_lt e
    obtain ⟨a, ha⟩ := e'
    refine ⟨a, Eq.trans (congrArg a0 ?_) ha⟩
    funext i
    refine Fin.ext ?_
    match i with
    | ⟨0, _⟩ => show (y 0).val = 0 + (y 0).val; omega
    | ⟨1, _⟩ => show (y 1).val = 0 + (y 1).val; omega
  · intro y
    exact real_of_lt (Host.reduce_andi_all _ _ _ _ _ h1.2 y)

end Proof.Finite

end

end
-- ==== Proof.HeadNorm.lean ====
/- A head's norm, and the projection of a token on a column. -/
module

public import Idealize.ShloMosaic.Lib.Pipeline.ValueKit
public import Idealize.ShloMosaic.Lib.Pointwise

@[expose] public section

set_option maxRecDepth 16384

noncomputable section

namespace Proof.HeadNorm

open Idealize.ShloMosaic Idealize.ShloMosaic.TcCoe Idealize.SL.Sem

/-- Entry `l` of a head `f` over the root of its mean square, times a gain. -/
def headOf (f : Fin 128 → EReal) (g : EReal) (l : Fin 128) : EReal :=
  f l * Ideal.rsqrt (Ideal.div (∑ i, f i * f i) (Ideal.ofBits .f32 0x43000000#32) + Ideal.ofBits .f32 0x358637BD#32) * g

/-- A projected row of queries, keys and values: the queries and the keys normed head by head, the values as they are. -/
def entryOf (p : Fin 6144 → EReal) (gq gk : Fin 128 → EReal) (n : Fin 6144) : EReal :=
  if n.val < 4096 then
    headOf (fun k => p ⟨n.val / 128 * 128 + k.val, by omega⟩)
      (if n.val < 2048 then gq ⟨n.val % 128, by omega⟩ else gk ⟨n.val % 128, by omega⟩) ⟨n.val % 128, by omega⟩
  else p n

end Proof.HeadNorm

end

end
-- ==== Proof.QkvBlock.lean ====
/- What one block of the queries, keys and values holds. -/
module

public import proofs.«01_k».proof.Proof.HeadNorm
public import proofs.«01_k».proof.Proof.Gen.Kernel2Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Proof.QkvBlock

open Idealize.ShloMosaic Idealize.ShloMosaic.TcCoe Idealize.SL.Sem
open Cert.Kernel2Ideal Cert.Kernel2Ideal.Gen Cert.Kernel2Ideal.Value
open Proof.HeadNorm

variable (m : (ℓ : Loc nD τ sig) → Buf (Elt Ideal) ℓ)

/-- A block of heads normed, each over its 128 columns. -/
def normed (A : Vec Ideal S1024x1024 .f32) (g : Vec Ideal S1x1x128 .f32) (r l : Fin 1024) : EReal :=
  headOf (fun k => A (ix2 r ⟨l.val / 128 * 128 + k.val, by omega⟩)) (g (ix3 0 0 ⟨l.val % 128, by omega⟩)) ⟨l.val % 128, by omega⟩

/-- A head that spells the norm of its 128 columns holds the normed block's entries there. -/
theorem normed_piece (A : Vec Ideal S1024x1024 .f32) (g : Vec Ideal S1x1x128 .f32) (h : Fin 8) (o : ℕ) (ho : o = h.val * 128)
    (P : Vec Ideal S1024x128 .bf16) (hP : ∀ r l, P (ix2 r l) = headOf (fun k => A (ix2 r ⟨o + k.val, by omega⟩)) (g (ix3 0 0 l)) l)
    (y : S1024x1024.Idx) (x : S1024x128.Idx) (h0 : (y 0).val = (x 0).val) (h1 : (y 1).val = o + (x 1).val) : P x = normed A g (y 0) (y 1) := by
  obtain ⟨r, l, rfl⟩ : ∃ r l, x = ix2 r l := ⟨x 0, x 1, by funext a; match a with | ⟨0, _⟩ => rfl | ⟨1, _⟩ => rfl⟩
  obtain ⟨r', l', rfl⟩ : ∃ r l, y = ix2 r l := ⟨y 0, y 1, by funext a; match a with | ⟨0, _⟩ => rfl | ⟨1, _⟩ => rfl⟩
  have e0 : r' = r := Fin.ext h0
  have e1 : l'.val = o + l.val := h1
  have hl : l.val < 128 := l.isLt
  have q : l'.val / 128 * 128 = o := by omega
  have s : l'.val % 128 = l.val := by omega
  show P (ix2 r l) = normed A g r' l'
  rw [hP, e0]
  unfold normed
  simp only [q, s]

/-- The first head of a block. -/
theorem head0 (A : Vec Ideal S1024x1024 .f32) (g : Vec Ideal S1x1x128 .f32) (r : Fin 1024) (l : Fin 128) :
    k0_pay7 (F := Ideal) A g (ix2 r l) = headOf (fun k => A (ix2 r ⟨0 + k.val, by omega⟩)) (g (ix3 0 0 l)) l := by
  pointwise [k0_pay7, k0_pay6, headOf]
/-- The second head of a block. -/
theorem head1 (A : Vec Ideal S1024x1024 .f32) (g : Vec Ideal S1x1x128 .f32) (r : Fin 1024) (l : Fin 128) :
    k0_pay8 (F := Ideal) A g (ix2 r l) = headOf (fun k => A (ix2 r ⟨128 + k.val, by omega⟩)) (g (ix3 0 0 l)) l := by
  pointwise [k0_pay8, k0_pay6, headOf]
/-- The third head of a block. -/
theorem head2 (A : Vec Ideal S1024x1024 .f32) (g : Vec Ideal S1x1x128 .f32) (r : Fin 1024) (l : Fin 128) :
    k0_pay11 (F := Ideal) (k0_pay6 g) (k0_pay9 A) (k0_pay10 A) (ix2 r l) = headOf (fun k => A (ix2 r ⟨256 + k.val, by omega⟩)) (g (ix3 0 0 l)) l := by
  pointwise [k0_pay11, k0_pay9, k0_pay10, k0_pay6, headOf]
/-- The fourth head of a block. -/
theorem head3 (A : Vec Ideal S1024x1024 .f32) (g : Vec Ideal S1x1x128 .f32) (r : Fin 1024) (l : Fin 128) :
    k0_pay12 (F := Ideal) A (k0_pay6 g) (ix2 r l) = headOf (fun k => A (ix2 r ⟨384 + k.val, by omega⟩)) (g (ix3 0 0 l)) l := by
  pointwise [k0_pay12, k0_pay6, headOf]
/-- The fifth head of a block. -/
theorem head4 (A : Vec Ideal S1024x1024 .f32) (g : Vec Ideal S1x1x128 .f32) (r : Fin 1024) (l : Fin 128) :
    k0_pay13 (F := Ideal) A (k0_pay6 g) (ix2 r l) = headOf (fun k => A (ix2 r ⟨512 + k.val, by omega⟩)) (g (ix3 0 0 l)) l := by
  pointwise [k0_pay13, k0_pay6, headOf]
/-- The sixth head of a block. -/
theorem head5 (A : Vec Ideal S1024x1024 .f32) (g : Vec Ideal S1x1x128 .f32) (r : Fin 1024) (l : Fin 128) :
    k0_pay2 (F := Ideal) (k0_pay6 g) (k0_pay14 A) (k0_pay15 A) k0_pay16 (ix2 r l) = headOf (fun k => A (ix2 r ⟨640 + k.val, by omega⟩)) (g (ix3 0 0 l)) l := by
  pointwise [k0_pay2, k0_pay14, k0_pay15, k0_pay16, k0_pay6, headOf]
/-- The seventh head of a block. -/
theorem head6 (x : Vec Ideal S1024x4096 .bf16) (w : Vec Ideal S4096x1024 .bf16) (g : Vec Ideal S1x1x128 .f32) (r : Fin 1024) (l : Fin 128) :
    k0_pay3 (F := Ideal) x w (k0_pay6 g) (ix2 r l) = headOf (fun k => k0_pay1 (F := Ideal) x w (ix2 r ⟨768 + k.val, by omega⟩)) (g (ix3 0 0 l)) l := by
  unfold k0_pay3
  generalize k0_pay1 (F := Ideal) x w = A
  pointwise [k0_pay6, headOf]
/-- The eighth head of a block. -/
theorem head7 (x : Vec Ideal S1024x4096 .bf16) (w : Vec Ideal S4096x1024 .bf16) (g : Vec Ideal S1x1x128 .f32) (r : Fin 1024) (l : Fin 128) :
    k0_pay4 (F := Ideal) x w (k0_pay6 g) (ix2 r l) = headOf (fun k => k0_pay1 (F := Ideal) x w (ix2 r ⟨896 + k.val, by omega⟩)) (g (ix3 0 0 l)) l := by
  unfold k0_pay4
  generalize k0_pay1 (F := Ideal) x w = A
  pointwise [k0_pay6, headOf]

/-- A block of queries or keys. -/
theorem block_A (c : Dev nD) (t : Fin cfg0.N) (h0 : t.val % 6 ≤ 3) (h1 : ¬4 ≤ t.val % 6) (r l : Fin 1024) :
    outsAt0 m c t.val t.isLt (ix2 r l) = normed (k0_pay1 (F := Ideal) (iblk m c 0 t) (iblk m c 1 t)) (iblk m c 2 t) r l := by
  rw [outsAt0_A m c t h0 h1]
  frame_out
  show _ = normed _ _ ((ix2 r l : S1024x1024.Idx) 0) ((ix2 r l : S1024x1024.Idx) 1)
  generalize (ix2 r l : S1024x1024.Idx) = y
  canon_tiles x g
  · exact normed_piece _ _ 7 896 rfl _ (head7 _ _ _) y x g0 g1
  · exact normed_piece _ _ 6 768 rfl _ (head6 _ _ _) y x g0 g1
  · exact normed_piece _ _ 5 640 rfl _ (head5 _ _) y x g0 g1
  · exact normed_piece _ _ 4 512 rfl _ (head4 _ _) y x g0 g1
  · exact normed_piece _ _ 3 384 rfl _ (head3 _ _) y x g0 g1
  · exact normed_piece _ _ 2 256 rfl _ (head2 _ _) y x g0 g1
  · exact normed_piece _ _ 1 128 rfl _ (head1 _ _) y x g0 g1
  · exact normed_piece _ _ 0 0 rfl _ (head0 _ _) y x g0 (by omega)

/-- A block of values. -/
theorem block_B (c : Dev nD) (t : Fin cfg0.N) (h0 : ¬t.val % 6 ≤ 3) (h1 : 4 ≤ t.val % 6) :
    outsAt0 m c t.val t.isLt = k0_pay5 (F := Ideal) (iblk m c 0 t) (iblk m c 1 t) := by
  rw [outsAt0_B m c t h0 h1]
  frame_out

/-- One entry of a product of a row block and a column block. -/
theorem product_apply (x : Vec Ideal S1024x4096 .bf16) (w : Vec Ideal S4096x1024 .bf16) (r l : Fin 1024) :
    k0_pay1 (F := Ideal) x w (ix2 r l) = ∑ k : Fin 4096, x (ix2 r k) * w (ix2 k l) := by
  pointwise [k0_pay1]

/-- The same, rounded. -/
theorem rounded_apply (x : Vec Ideal S1024x4096 .bf16) (w : Vec Ideal S4096x1024 .bf16) (r l : Fin 1024) :
    k0_pay5 (F := Ideal) x w (ix2 r l) = k0_pay1 (F := Ideal) x w (ix2 r l) := rfl

end Proof.QkvBlock

end

end
-- ==== Proof.QkvProj.lean ====
/- The projection to queries, keys and values: what the array holds. -/
module

public import proofs.«01_k».proof.Proof.QkvBlock

@[expose] public section

set_option maxRecDepth 16384

noncomputable section

namespace Proof.QkvProj

open Idealize.ShloMosaic Idealize.ShloMosaic.TcCoe Idealize.SL.Sem
open Cert.Kernel2Ideal Cert.Kernel2Ideal.Gen Cert.Kernel2Ideal.Value
open Proof.HeadNorm Proof.QkvBlock

variable (m : (ℓ : Loc nD τ sig) → Buf (Elt Ideal) ℓ)

/-- The weights the launch is given are the argument's. -/
theorem weights (c : Dev nD) : V m c main_v0 = (truncf (F := Ideal) (s := S4096x10240) (φ := .f32) .bf16 (m ((c : Thread nD τ).loc main_arg1)) Cert.Kernel2Ideal.Gen.facts.toFacts₀.bitsLt_bf16_f32 : Vec Ideal S4096x10240 .bf16) := by
  rfl

/-- The two gains, one above the other. -/
def stacked (a b : Vec Ideal S128 .f32) : Vec Ideal S2x1x128 .f32 :=
  shapeCast (α := Ideal .f32) _ (concatenate (α := Ideal .f32) S2x128 0 [⟨S1x128, broadcastInDim S1x128 ![1] bcast_S128_S1x128_1 a⟩, ⟨S1x128, broadcastInDim S1x128 ![1] bcast_S128_S1x128_1 b⟩]
    concatenates_S1x128_S1x128_S2x128_d0) shapeCasts_S2x128_S2x1x128

/-- The gains the launch is given. -/
theorem gains (c : Dev nD) : V m c main_v4 = stacked (m ((c : Thread nD τ).loc main_arg2)) (m ((c : Thread nD τ).loc main_arg3)) := by
  rfl

/-- The stacked gains at an index. -/
theorem stacked_apply (a b : Vec Ideal S128 .f32) (p : Fin 2) (l : Fin 128) :
    stacked a b (ix3 p 0 l) = if p.val < 1 then a (ix1 l) else b (ix1 l) := by
  pointwise [stacked]
  by_cases h : p.val < 1
  · rw [dif_pos h, if_pos h]
  · rw [dif_neg h, if_neg h]

/-- Where the blocks lie: point `t` is row block `t / 6` and column block `t % 6`. -/
theorem idx0 : ∀ t : Fin cfg0.N, win0_0.index t = ![t.val / 6, 0] := (by decide +kernel : ∀ t : Fin grid0.N, _)
theorem idx1 : ∀ t : Fin cfg0.N, win0_1.index t = ![0, t.val % 6] := (by decide +kernel : ∀ t : Fin grid0.N, _)
theorem idx2 : ∀ t : Fin cfg0.N, win0_2.index t = ![min (t.val % 6 / 2) 1, 0, 0] := (by decide +kernel : ∀ t : Fin grid0.N, _)
theorem idx3 : ∀ t : Fin cfg0.N, win0_3.index t = ![t.val / 6, t.val % 6] := (by decide +kernel : ∀ t : Fin grid0.N, _)
theorem flush3 : ∀ t : Fin cfg0.N, (cfg0.win 3).flush t = true := (by decide +kernel : ∀ t : Fin grid0.N, win0_3.flush t = true)

/-- The block of rows. -/
theorem blk0 (c : Dev nD) (t : Fin cfg0.N) (r : Fin 1024) (k : Fin 4096) (y : S16384x4096.Idx)
    (h0 : (y 0).val = t.val / 6 * 1024 + r.val) (h1 : (y 1).val = k.val) : iblk m c 0 t (ix2 r k) = m ((c : Thread nD τ).loc main_arg0) y := by
  blk_ext [iblk, V, idx0 t]

/-- The block of columns. -/
theorem blk1 (c : Dev nD) (t : Fin cfg0.N) (k : Fin 4096) (l : Fin 1024) (y : S4096x10240.Idx)
    (h0 : (y 0).val = k.val) (h1 : (y 1).val = t.val % 6 * 1024 + l.val) : iblk m c 1 t (ix2 k l) = m ((c : Thread nD τ).loc main_arg1) y := by
  refine Eq.trans ?_ (congrFun (weights m c) y)
  blk_ext [iblk, idx1 t]

/-- The gain of a block of queries or keys. -/
theorem blk2 (c : Dev nD) (t : Fin cfg0.N) (l : Fin 128) (y : S2x1x128.Idx)
    (h0 : (y 0).val = min (t.val % 6 / 2) 1) (h1 : (y 1).val = 0) (h2 : (y 2).val = l.val) :
    iblk m c 2 t (ix3 0 0 l) = stacked (m ((c : Thread nD τ).loc main_arg2)) (m ((c : Thread nD τ).loc main_arg3)) y := by
  refine Eq.trans ?_ (congrFun (gains m c) y)
  blk_ext [iblk, idx2 t]

/-- An entry of the array is its block's. -/
theorem array_entry (c : Dev nD) (t : Fin cfg0.N) (r l : Fin 1024) (i : S16384x6144.Idx)
    (h0 : (i 0).val = t.val / 6 * 1024 + r.val) (h1 : (i 1).val = t.val % 6 * 1024 + l.val) :
    (dats m 0 c).arrAt 3 cfg0.N i = outsAt0 m c t.val t.isLt (ix2 r l) := by
  have e := congrFun (blocks3 m c t (flush3 t)) (ix2 r l)
  rw [flushed3] at e
  refine Eq.trans (congrArg _ ?_) e
  funext a
  refine Fin.ext ?_
  have g := idx3 t
  match a with
  | ⟨0, _⟩ =>
    have g0 := congrFun g 0
    show (i 0).val = win0_3.index t 0 * 1024 + 1 * r.val
    rw [g0, h0]; show _ = t.val / 6 * 1024 + 1 * r.val; omega
  | ⟨1, _⟩ =>
    have g1 := congrFun g 1
    show (i 1).val = win0_3.index t 1 * 1024 + 1 * l.val
    rw [g1, h1]; show _ = t.val % 6 * 1024 + 1 * l.val; omega

/-- A token's projection on a column. -/
def along (h : Vec Ideal S16384x4096 .bf16) (w : Vec Ideal S4096x10240 .f32) (g : Fin 16384) (n : Fin 10240) : EReal :=
  ∑ k : Fin 4096, h (ix2 g k) * w (ix2 k n)

/-- One column of a block's product is the token's projection on that column of the array. -/
theorem product_entry (c : Dev nD) (t : Fin cfg0.N) (r l : Fin 1024) (g : Fin 16384) (n : Fin 10240)
    (h0 : g.val = t.val / 6 * 1024 + r.val) (h1 : n.val = t.val % 6 * 1024 + l.val) :
    k0_pay1 (F := Ideal) (iblk m c 0 t) (iblk m c 1 t) (ix2 r l)
      = along (m ((c : Thread nD τ).loc main_arg0)) (m ((c : Thread nD τ).loc main_arg1)) g n := by
  rw [product_apply]
  exact Finset.sum_congr rfl fun k _ => congrArg₂ (fun a b : EReal => a * b) (blk0 m c t r k (ix2 g k) h0 rfl) (blk1 m c t k l (ix2 k n) rfl h1)

/-- The array at an index. -/
theorem array_apply (c : Dev nD) (g : Fin 16384) (n : Fin 6144) :
    (dats m 0 c).arrAt 3 cfg0.N (ix2 g n) = entryOf (fun n' => along (m ((c : Thread nD τ).loc main_arg0)) (m ((c : Thread nD τ).loc main_arg1)) g ⟨n'.val, by omega⟩)
      (fun l => (m ((c : Thread nD τ).loc main_arg2) : Vec Ideal S128 .f32) (ix1 l)) (fun l => (m ((c : Thread nD τ).loc main_arg3) : Vec Ideal S128 .f32) (ix1 l)) n := by
  have hN : cfg0.N = 96 := N_0
  have hg := g.isLt
  have hn := n.isLt
  obtain ⟨t, ht⟩ : ∃ t : Fin cfg0.N, t.val = g.val / 1024 * 6 + n.val / 1024 := ⟨⟨g.val / 1024 * 6 + n.val / 1024, by omega⟩, rfl⟩
  have hr : g.val = t.val / 6 * 1024 + g.val % 1024 := by omega
  have hl : n.val = t.val % 6 * 1024 + n.val % 1024 := by omega
  rw [array_entry m c t ⟨g.val % 1024, by omega⟩ ⟨n.val % 1024, by omega⟩ (ix2 g n) hr hl]
  unfold entryOf
  by_cases h2 : n.val < 4096
  · rw [if_pos h2, block_A m c t (by omega) (by omega)]
    unfold normed
    refine congr (congr (congrArg headOf (funext fun k => ?_)) ?_) (Fin.ext ?_)
    · exact product_entry m c t _ _ g ⟨n.val / 128 * 128 + k.val, by omega⟩ hr (by show n.val / 128 * 128 + k.val = t.val % 6 * 1024 + (n.val % 1024 / 128 * 128 + k.val); omega)
    · refine (blk2 m c t _ (ix3 ⟨min (t.val % 6 / 2) 1, by omega⟩ 0 ⟨n.val % 128, by omega⟩) rfl rfl (by show n.val % 128 = n.val % 1024 % 128; omega)).trans ?_
      rw [stacked_apply]
      by_cases h1 : n.val < 2048
      · rw [if_pos h1, if_pos (by show min (t.val % 6 / 2) 1 < 1; omega)]
      · rw [if_neg h1, if_neg (by show ¬min (t.val % 6 / 2) 1 < 1; omega)]
    · show n.val % 1024 % 128 = n.val % 128
      omega
  · rw [if_neg h2, block_B m c t (by omega) (by omega), rounded_apply]
    exact product_entry m c t _ _ g ⟨n.val, by omega⟩ hr hl

end Proof.QkvProj

end

end
-- ==== Proof.RefQkvProj.lean ====
/- The reference's queries, keys and values at one index. -/
module

public import proofs.«01_k».proof.Proof.HeadNorm
public import proofs.«01_k».proof.Proof.Gen.Reference2Ideal.Run
public import Idealize.ShloMosaic.Lib.Pointwise

@[expose] public section

set_option maxRecDepth 16384

noncomputable section

namespace Proof.RefQkvProj

open Idealize.ShloMosaic Idealize.ShloMosaic.TcCoe Idealize.SL.Sem
open Cert.Reference2Ideal Cert.Reference2Ideal.Gen
open Proof.HeadNorm

/-- Every token on every column. -/
def all (h : Vec Ideal S16384x4096 .bf16) (w : Vec Ideal S4096x10240 .f32) : Vec Ideal S16384x10240 .f32 :=
  Host.dotGeneral (F := Ideal) (φ₂ := .f32) dot_S16384x4096_S4096x10240_S16384x10240_1_0_0_1_n_n none (extf (F := Ideal) .f32 h bitsLt_bf16_f32) w

/-- The sixteen heads of each token. -/
def heads (a : Vec Ideal S16384x2048 .f32) : Vec Ideal S4x4096x16x128 .f32 :=
  shapeCast (α := Ideal .f32) _ a shapeCasts_S16384x2048_S4x4096x16x128

/-- The heads normed. -/
def normedHeads (a : Vec Ideal S4x4096x16x128 .f32) (g : Vec Ideal S128 .f32) : Vec Ideal S4x4096x16x128 .f32 :=
  mulf (F := Ideal) (φ := .f32) (mulf (F := Ideal) (φ := .f32) a (broadcastInDim S4x4096x16x128 ![0, 1, 2, 3] bcast_S4x4096x16x1_S4x4096x16x128_0_1_2_3
    (Host.rsqrt (F := Ideal) (addf (F := Ideal) (Host.divf (F := Ideal) (broadcastInDim S4x4096x16x1 ![0, 1, 2] bcast_S4x4096x16_S4x4096x16x1_0_1_2
      (Host.reduceAdd (F := Ideal) (mulf (F := Ideal) (φ := .f32) a a) (constant (F := Ideal) S_ .f32 0x00000000#32) reducesTo_S4x4096x16x128_S4x4096x16_d3 h_S_))
      (broadcastInDim S4x4096x16x1 ![] bcast_S_S4x4096x16x1 (constant (F := Ideal) S_ .f32 0x43000000#32)))
      (broadcastInDim S4x4096x16x1 ![] bcast_S_S4x4096x16x1 (constant (F := Ideal) S_ .f32 0x358637BD#32))))))
    (broadcastInDim S4x4096x16x128 ![0, 1, 2, 3] bcast_S1x1x1x128_S4x4096x16x128_0_1_2_3 (broadcastInDim S1x1x1x128 ![3] bcast_S128_S1x1x1x128_3 g))

/-- The heads laid out as rows again. -/
def rows (a : Vec Ideal S4x4096x16x128 .f32) : Vec Ideal S16384x2048 .f32 :=
  shapeCast (α := Ideal .f32) _ a shapeCasts_S4x4096x16x128_S16384x2048

/-- The three parts side by side. -/
def joined (q k v : Vec Ideal S16384x2048 .f32) : Vec Ideal S16384x6144 .bf16 :=
  truncf (F := Ideal) (s := S16384x6144) (φ := .f32) .bf16 (concatenate (α := Ideal .f32) S16384x6144 1 [⟨S16384x2048, q⟩, ⟨S16384x2048, k⟩, ⟨S16384x2048, v⟩]
    concatenates_S16384x2048_S16384x2048_S16384x2048_S16384x6144_d1) bitsLt_bf16_f32

/-- The reference's array. -/
def projected (h : Vec Ideal S16384x4096 .bf16) (w : Vec Ideal S4096x10240 .f32) (gq gk : Vec Ideal S128 .f32) : Vec Ideal S16384x6144 .bf16 :=
  joined (rows (normedHeads (heads (extractStridedSlice (α := Ideal .f32) S16384x2048 ![0, 0] (all h w) slices_S16384x10240_S16384x2048_0_0)) gq))
    (rows (normedHeads (heads (extractStridedSlice (α := Ideal .f32) S16384x2048 ![0, 2048] (all h w) slices_S16384x10240_S16384x2048_0_2048)) gk))
    (extractStridedSlice (α := Ideal .f32) S16384x2048 ![0, 4096] (all h w) slices_S16384x10240_S16384x2048_0_4096)

/-- The composed term that the run leaves is that array. -/
theorem result_eq (m : (ℓ : Loc nD τ sig) → Buf (Elt Ideal) ℓ) (c : Dev nD) :
    Cert.Reference2Ideal.Value.res_main_v36 (F := Ideal) m c = projected (m ((c : Thread nD τ).loc main_arg0)) (m ((c : Thread nD τ).loc main_arg1))
      (m ((c : Thread nD τ).loc main_arg2)) (m ((c : Thread nD τ).loc main_arg3)) := rfl

/-- A token on a column. -/
theorem all_apply (h : Vec Ideal S16384x4096 .bf16) (w : Vec Ideal S4096x10240 .f32) (t : Fin 16384) (n : Fin 10240) :
    all h w (ix2 t n) = ∑ k : Fin 4096, h (ix2 t k) * w (ix2 k n) := by
  pointwise [all]

/-- A normed head at an index. -/
theorem normedHeads_apply (a : Vec Ideal S4x4096x16x128 .f32) (g : Vec Ideal S128 .f32) (b : Fin 4) (s : Fin 4096) (h : Fin 16) (l : Fin 128) :
    normedHeads a g (ix4 b s h l) = headOf (fun k => a (ix4 b s h k)) (g (ix1 l)) l := by
  pointwise [normedHeads, headOf]

/-- The heads at an index. -/
theorem heads_apply (a : Vec Ideal S16384x2048 .f32) (b : Fin 4) (s : Fin 4096) (h : Fin 16) (l : Fin 128) :
    heads a (ix4 b s h l) = a (ix2 ⟨b.val * 4096 + s.val, by omega⟩ ⟨h.val * 128 + l.val, by omega⟩) := by
  pointwise [heads]

/-- The rows at an index. -/
theorem rows_apply (a : Vec Ideal S4x4096x16x128 .f32) (t : Fin 16384) (n : Fin 2048) :
    rows a (ix2 t n) = a (ix4 ⟨t.val / 4096, by omega⟩ ⟨t.val % 4096, by omega⟩ ⟨n.val / 128, by omega⟩ ⟨n.val % 128, by omega⟩) := by
  pointwise [rows]

/-- The joined parts at an index. -/
theorem joined_apply (q k v : Vec Ideal S16384x2048 .f32) (t : Fin 16384) (n : Fin 6144) :
    joined q k v (ix2 t n) = if h : n.val < 2048 then q (ix2 t ⟨n.val, h⟩) else if h' : n.val < 4096 then k (ix2 t ⟨n.val - 2048, by omega⟩)
      else v (ix2 t ⟨n.val - 4096, by omega⟩) := by
  have e : n.val - 2048 - 2048 = n.val - 4096 := by omega
  pointwise [joined]
  simp only [e]
  by_cases h1 : n.val < 2048
  · rw [dif_pos h1, dif_pos h1]
  · by_cases h2 : n.val < 4096
    · rw [dif_neg h1, dif_neg h1, dif_pos (by omega), dif_pos h2]
    · rw [dif_neg h1, dif_neg h1, dif_neg (by omega), dif_neg h2]

/-- A part's normed rows at an index, from the columns `o`, `o + 1`, … of the projection. -/
theorem part_apply (a : Vec Ideal S16384x2048 .f32) (g : Vec Ideal S128 .f32) (t : Fin 16384) (n : Fin 2048) :
    rows (normedHeads (heads a) g) (ix2 t n) = headOf (fun k => a (ix2 t ⟨n.val / 128 * 128 + k.val, by omega⟩)) (g (ix1 ⟨n.val % 128, by omega⟩)) ⟨n.val % 128, by omega⟩ := by
  rw [rows_apply, normedHeads_apply]
  simp only [heads_apply]
  refine congrArg (fun u : Fin 16384 => headOf (fun k => a (ix2 u ⟨n.val / 128 * 128 + k.val, by omega⟩)) (g (ix1 ⟨n.val % 128, by omega⟩)) ⟨n.val % 128, by omega⟩) (Fin.ext ?_)
  show t.val / 4096 * 4096 + t.val % 4096 = t.val
  omega

/-- The columns from `o` on, at an index. -/
theorem slice_apply (a : Vec Ideal S16384x10240 .f32) (t : Fin 16384) (n : Fin 2048) :
    extractStridedSlice (α := Ideal .f32) S16384x2048 ![0, 0] a slices_S16384x10240_S16384x2048_0_0 (ix2 t n) = a (ix2 t ⟨n.val, by omega⟩)
    ∧ extractStridedSlice (α := Ideal .f32) S16384x2048 ![0, 2048] a slices_S16384x10240_S16384x2048_0_2048 (ix2 t n) = a (ix2 t ⟨2048 + n.val, by omega⟩)
    ∧ extractStridedSlice (α := Ideal .f32) S16384x2048 ![0, 4096] a slices_S16384x10240_S16384x2048_0_4096 (ix2 t n) = a (ix2 t ⟨4096 + n.val, by omega⟩) := by
  refine ⟨?_, ?_, ?_⟩
  · pointwise []
  · pointwise []
  · pointwise []

/-- The reference's array at an index. -/
theorem projected_apply (h : Vec Ideal S16384x4096 .bf16) (w : Vec Ideal S4096x10240 .f32) (gq gk : Vec Ideal S128 .f32) (t : Fin 16384) (n : Fin 6144) :
    projected h w gq gk (ix2 t n) = entryOf (fun n' => ∑ k : Fin 4096, h (ix2 t k) * w (ix2 k ⟨n'.val, by omega⟩)) (fun l => gq (ix1 l)) (fun l => gk (ix1 l)) n := by
  unfold projected entryOf
  rw [joined_apply]
  by_cases h1 : n.val < 2048
  · have h2 : n.val < 4096 := by omega
    rw [dif_pos h1, if_pos h2, if_pos h1, part_apply]
    simp only [(slice_apply _ _ _).1, all_apply]
  · by_cases h2 : n.val < 4096
    · rw [dif_neg h1, dif_pos h2, if_pos h2, if_neg h1, part_apply]
      simp only [(slice_apply _ _ _).2.1, all_apply]
      have e1 : ∀ k : ℕ, 2048 + ((n.val - 2048) / 128 * 128 + k) = n.val / 128 * 128 + k := fun k => by omega
      have e2 : (n.val - 2048) % 128 = n.val % 128 := by omega
      simp only [e1, e2]
    · rw [dif_neg h1, dif_neg h2, if_neg h2, (slice_apply _ _ _).2.2, all_apply]
      have e3 : 4096 + (n.val - 4096) = n.val := by omega
      simp only [e3]

end Proof.RefQkvProj

end

end
-- ==== Proof.XyProj.lean ====
/- The projection to the recurrence's inputs: what one block holds and what the array holds. -/
module

public import proofs.«01_k».proof.Proof.Gen.Kernel3Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Proof.XyProj

open Idealize.ShloMosaic Idealize.ShloMosaic.TcCoe Idealize.SL.Sem
open Cert.Kernel3Ideal Cert.Kernel3Ideal.Gen Cert.Kernel3Ideal.Value

variable (m : (ℓ : Loc nD τ sig) → Buf (Elt Ideal) ℓ)

/-- A block of the result: the whole product. -/
theorem block_eq (c : Dev nD) (t : Fin cfg0.N) : outsAt0 m c t = k0_pay1 (F := Ideal) (iblk m c 0 t) (iblk m c 1 t) := by
  show out0_A_3 (F := Ideal) c (grid0.coords t) (ms0_0 t) (hs0_0 t) (ms0_1 t) (hs0_1 t) (ms0_2 t) (hs0_2 t) (ms0_3 t) (hs0_3 t) (hcond0_0 t) (hcond0_1 t) (iblk m c 0 t) (iblk m c 1 t) (iblk m c 2 t) = _
  frame_out

/-- One entry of a product of a row block and a column block. -/
theorem product_apply (x : Vec Ideal S1024x4096 .bf16) (w : Vec Ideal S4096x1024 .bf16) (r l : Fin 1024) :
    k0_pay1 (F := Ideal) x w (ix2 r l) = ∑ k : Fin 4096, x (ix2 r k) * w (ix2 k l) := by
  pointwise [k0_pay1]

/-- The weights the launch is given are the argument's. -/
theorem weights (c : Dev nD) : V m c main_v0 = (truncf (F := Ideal) (s := S4096x10240) (φ := .f32) .bf16 (m ((c : Thread nD τ).loc main_arg1)) Cert.Kernel3Ideal.Gen.facts.toFacts₀.bitsLt_bf16_f32 : Vec Ideal S4096x10240 .bf16) := by
  rfl

/-- Where the blocks lie: point `t` is row block `t / 4` and column block `t % 4`. -/
theorem idx0 : ∀ t : Fin cfg0.N, win0_0.index t = ![t.val / 4, 0] := (by decide +kernel : ∀ t : Fin grid0.N, _)
theorem idx1 : ∀ t : Fin cfg0.N, win0_1.index t = ![0, t.val % 4 + 6] := (by decide +kernel : ∀ t : Fin grid0.N, _)
theorem idx3 : ∀ t : Fin cfg0.N, win0_3.index t = ![t.val / 4, t.val % 4] := (by decide +kernel : ∀ t : Fin grid0.N, _)
theorem flush3 : ∀ t : Fin cfg0.N, (cfg0.win 3).flush t = true := (by decide +kernel : ∀ t : Fin grid0.N, win0_3.flush t = true)

/-- The block of rows. -/
theorem blk0 (c : Dev nD) (t : Fin cfg0.N) (r : Fin 1024) (k : Fin 4096) (y : S16384x4096.Idx)
    (h0 : (y 0).val = t.val / 4 * 1024 + r.val) (h1 : (y 1).val = k.val) : iblk m c 0 t (ix2 r k) = m ((c : Thread nD τ).loc main_arg0) y := by
  blk_ext [iblk, V, idx0 t]

/-- The block of columns. -/
theorem blk1 (c : Dev nD) (t : Fin cfg0.N) (k : Fin 4096) (l : Fin 1024) (y : S4096x10240.Idx)
    (h0 : (y 0).val = k.val) (h1 : (y 1).val = (t.val % 4 + 6) * 1024 + l.val) : iblk m c 1 t (ix2 k l) = m ((c : Thread nD τ).loc main_arg1) y := by
  refine Eq.trans ?_ (congrFun (weights m c) y)
  blk_ext [iblk, idx1 t]

/-- An entry of the array is its block's. -/
theorem array_entry (c : Dev nD) (t : Fin cfg0.N) (r l : Fin 1024) (i : S16384x4096.Idx)
    (h0 : (i 0).val = t.val / 4 * 1024 + r.val) (h1 : (i 1).val = t.val % 4 * 1024 + l.val) :
    (dats m 0 c).arrAt 3 cfg0.N i = outsAt0 m c t (ix2 r l) := by
  have e := congrFun (blocks3 m c t (flush3 t)) (ix2 r l)
  rw [flushed3] at e
  refine Eq.trans (congrArg _ ?_) e
  funext a
  refine Fin.ext ?_
  have g := idx3 t
  match a with
  | ⟨0, _⟩ =>
    have g0 := congrFun g 0
    show (i 0).val = win0_3.index t 0 * 1024 + 1 * r.val
    rw [g0, h0]; show _ = t.val / 4 * 1024 + 1 * r.val; omega
  | ⟨1, _⟩ =>
    have g1 := congrFun g 1
    show (i 1).val = win0_3.index t 1 * 1024 + 1 * l.val
    rw [g1, h1]; show _ = t.val % 4 * 1024 + 1 * l.val; omega

/-- A token's projection on one of the columns past the queries, keys and values. -/
def along (h : Vec Ideal S16384x4096 .bf16) (w : Vec Ideal S4096x10240 .f32) (g : Fin 16384) (n : Fin 4096) : EReal :=
  ∑ k : Fin 4096, h (ix2 g k) * w (ix2 k ⟨6144 + n.val, by omega⟩)

/-- One entry of a block's product is the token's projection. -/
theorem product_entry (c : Dev nD) (t : Fin cfg0.N) (r l : Fin 1024) (g : Fin 16384) (n : Fin 4096)
    (h0 : g.val = t.val / 4 * 1024 + r.val) (h1 : n.val = t.val % 4 * 1024 + l.val) :
    k0_pay1 (F := Ideal) (iblk m c 0 t) (iblk m c 1 t) (ix2 r l)
      = along (m ((c : Thread nD τ).loc main_arg0)) (m ((c : Thread nD τ).loc main_arg1)) g n := by
  rw [product_apply]
  exact Finset.sum_congr rfl fun k _ => congrArg₂ (fun a b : EReal => a * b) (blk0 m c t r k (ix2 g k) h0 rfl)
    (blk1 m c t k l (ix2 k ⟨6144 + n.val, by omega⟩) rfl (by show 6144 + n.val = (t.val % 4 + 6) * 1024 + l.val; omega))

/-- The array at an index. -/
theorem array_apply (c : Dev nD) (g : Fin 16384) (n : Fin 4096) :
    (dats m 0 c).arrAt 3 cfg0.N (ix2 g n) = along (m ((c : Thread nD τ).loc main_arg0)) (m ((c : Thread nD τ).loc main_arg1)) g n := by
  have hN : cfg0.N = 64 := N_0
  have hg := g.isLt
  have hn := n.isLt
  obtain ⟨t, ht⟩ : ∃ t : Fin cfg0.N, t.val = g.val / 1024 * 4 + n.val / 1024 := ⟨⟨g.val / 1024 * 4 + n.val / 1024, by omega⟩, rfl⟩
  have hr : g.val = t.val / 4 * 1024 + g.val % 1024 := by omega
  have hl : n.val = t.val % 4 * 1024 + n.val % 1024 := by omega
  rw [array_entry m c t ⟨g.val % 1024, by omega⟩ ⟨n.val % 1024, by omega⟩ (ix2 g n) hr hl, block_eq]
  exact product_entry m c t _ _ g n hr hl

end Proof.XyProj

end

end
-- ==== Proof.RefXyProj.lean ====
/- The reference's projection to the recurrence's inputs at one index. -/
module

public import proofs.«01_k».proof.Proof.Gen.Reference3Ideal.Run
public import Idealize.ShloMosaic.Lib.Pointwise

@[expose] public section

set_option maxRecDepth 16384

noncomputable section

namespace Proof.RefXyProj

open Idealize.ShloMosaic Idealize.ShloMosaic.TcCoe Idealize.SL.Sem
open Cert.Reference3Ideal Cert.Reference3Ideal.Gen

/-- The reference's array. -/
def projected (h : Vec Ideal S16384x4096 .bf16) (w : Vec Ideal S4096x10240 .f32) : Vec Ideal S16384x4096 .f32 :=
  extractStridedSlice (α := Ideal .f32) S16384x4096 ![0, 6144] (Host.dotGeneral (F := Ideal) (φ₂ := .f32) dot_S16384x4096_S4096x10240_S16384x10240_1_0_0_1_n_n none
    (extf (F := Ideal) .f32 h bitsLt_bf16_f32) w) slices_S16384x10240_S16384x4096_0_6144

/-- The reference's array at an index. -/
theorem projected_apply (h : Vec Ideal S16384x4096 .bf16) (w : Vec Ideal S4096x10240 .f32) (g : Fin 16384) (n : Fin 4096) :
    projected h w (ix2 g n) = ∑ k : Fin 4096, h (ix2 g k) * w (ix2 k ⟨6144 + n.val, by omega⟩) := by
  pointwise [projected]

end Proof.RefXyProj

end

end
-- ==== Proof.OutProj.lean ====
/- The output projection: what one block holds and what the array holds. -/
module

public import proofs.«01_k».proof.Proof.Gen.Kernel4Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Proof.OutProj

open Idealize.ShloMosaic Idealize.ShloMosaic.TcCoe Idealize.SL.Sem
open Cert.Kernel4Ideal Cert.Kernel4Ideal.Gen Cert.Kernel4Ideal.Value

variable (m : (ℓ : Loc nD τ sig) → Buf (Elt Ideal) ℓ)

/-- One entry of a block: the residual and the two half products. -/
theorem block_apply (x0 x1 : Vec Ideal S1024x2048 .bf16) (x2 x3 : Vec Ideal S2048x1024 .bf16) (x4 : Vec Ideal S1024x1024 .f32) (r l : Fin 1024) :
    out0_5 (F := Ideal) x0 x1 x2 x3 x4 (ix2 r l)
      = x4 (ix2 r l) + ((∑ k : Fin 2048, x0 (ix2 r k) * x2 (ix2 k l)) + ∑ k : Fin 2048, x1 (ix2 r k) * x3 (ix2 k l)) := by
  unfold out0_5
  frame_out
  pointwise [k0_pay1]

/-- Where the blocks lie: point `t` is row block `t / 4` and column block `t % 4`. -/
theorem idx0 : ∀ t : Fin cfg0.N, win0_0.index t = ![t.val / 4, 0] := (by decide +kernel : ∀ t : Fin grid0.N, _)
theorem idx1 : ∀ t : Fin cfg0.N, win0_1.index t = ![t.val / 4, 0] := (by decide +kernel : ∀ t : Fin grid0.N, _)
theorem idx2 : ∀ t : Fin cfg0.N, win0_2.index t = ![0, t.val % 4] := (by decide +kernel : ∀ t : Fin grid0.N, _)
theorem idx3 : ∀ t : Fin cfg0.N, win0_3.index t = ![1, t.val % 4] := (by decide +kernel : ∀ t : Fin grid0.N, _)
theorem idx4 : ∀ t : Fin cfg0.N, win0_4.index t = ![t.val / 4, t.val % 4] := (by decide +kernel : ∀ t : Fin grid0.N, _)
theorem idx5 : ∀ t : Fin cfg0.N, win0_5.index t = ![t.val / 4, t.val % 4] := (by decide +kernel : ∀ t : Fin grid0.N, _)
theorem flush5 : ∀ t : Fin cfg0.N, (cfg0.win 5).flush t = true := (by decide +kernel : ∀ t : Fin grid0.N, win0_5.flush t = true)

/-- The first half's rows. -/
theorem blk0 (c : Dev nD) (t : Fin cfg0.N) (r : Fin 1024) (k : Fin 2048) (y : S16384x2048.Idx)
    (h0 : (y 0).val = t.val / 4 * 1024 + r.val) (h1 : (y 1).val = k.val) : iblk m c 0 t (ix2 r k) = m ((c : Thread nD τ).loc main_arg0) y := by
  blk_ext [iblk, V, idx0 t]
/-- The second half's rows. -/
theorem blk1 (c : Dev nD) (t : Fin cfg0.N) (r : Fin 1024) (k : Fin 2048) (y : S16384x2048.Idx)
    (h0 : (y 0).val = t.val / 4 * 1024 + r.val) (h1 : (y 1).val = k.val) : iblk m c 1 t (ix2 r k) = m ((c : Thread nD τ).loc main_arg1) y := by
  blk_ext [iblk, V, idx1 t]
/-- The weights of the first half. -/
theorem blk2 (c : Dev nD) (t : Fin cfg0.N) (k : Fin 2048) (l : Fin 1024) (y : S4096x4096.Idx)
    (h0 : (y 0).val = k.val) (h1 : (y 1).val = t.val % 4 * 1024 + l.val) : iblk m c 2 t (ix2 k l) = m ((c : Thread nD τ).loc main_arg2) y := by
  blk_ext [iblk, V, idx2 t]
/-- The weights of the second half. -/
theorem blk3 (c : Dev nD) (t : Fin cfg0.N) (k : Fin 2048) (l : Fin 1024) (y : S4096x4096.Idx)
    (h0 : (y 0).val = 1 * 2048 + k.val) (h1 : (y 1).val = t.val % 4 * 1024 + l.val) : iblk m c 3 t (ix2 k l) = m ((c : Thread nD τ).loc main_arg2) y := by
  blk_ext [iblk, V, idx3 t]
/-- The residual. -/
theorem blk4 (c : Dev nD) (t : Fin cfg0.N) (r l : Fin 1024) (y : S16384x4096.Idx)
    (h0 : (y 0).val = t.val / 4 * 1024 + r.val) (h1 : (y 1).val = t.val % 4 * 1024 + l.val) : iblk m c 4 t (ix2 r l) = m ((c : Thread nD τ).loc main_arg3) y := by
  blk_ext [iblk, V, idx4 t]

/-- An entry of the array is its block's. -/
theorem array_entry (c : Dev nD) (t : Fin cfg0.N) (r l : Fin 1024) (i : S16384x4096.Idx)
    (h0 : (i 0).val = t.val / 4 * 1024 + r.val) (h1 : (i 1).val = t.val % 4 * 1024 + l.val) :
    (dats m 0 c).arrAt 5 cfg0.N i = out0_5 (iblk m c 0 t) (iblk m c 1 t) (iblk m c 2 t) (iblk m c 3 t) (iblk m c 4 t) (ix2 r l) := by
  have e := congrFun (blocks5 m c t (flush5 t)) (ix2 r l)
  rw [flushed5] at e
  refine Eq.trans (congrArg _ ?_) e
  funext a
  refine Fin.ext ?_
  have g := idx5 t
  match a with
  | ⟨0, _⟩ =>
    have g0 := congrFun g 0
    show (i 0).val = win0_5.index t 0 * 1024 + 1 * r.val
    rw [g0, h0]; show _ = t.val / 4 * 1024 + 1 * r.val; omega
  | ⟨1, _⟩ =>
    have g1 := congrFun g 1
    show (i 1).val = win0_5.index t 1 * 1024 + 1 * l.val
    rw [g1, h1]; show _ = t.val % 4 * 1024 + 1 * l.val; omega

/-- A token's output on a column. -/
def outOf (a b : Vec Ideal S16384x2048 .bf16) (w : Vec Ideal S4096x4096 .bf16) (x : Vec Ideal S16384x4096 .f32) (g : Fin 16384) (n : Fin 4096) : EReal :=
  x (ix2 g n) + ((∑ k : Fin 2048, a (ix2 g k) * w (ix2 ⟨k.val, by omega⟩ n)) + ∑ k : Fin 2048, b (ix2 g k) * w (ix2 ⟨1 * 2048 + k.val, by omega⟩ n))

/-- One entry of a block is the token's output. -/
theorem block_entry (c : Dev nD) (t : Fin cfg0.N) (r l : Fin 1024) (g : Fin 16384) (n : Fin 4096)
    (h0 : g.val = t.val / 4 * 1024 + r.val) (h1 : n.val = t.val % 4 * 1024 + l.val) :
    out0_5 (F := Ideal) (iblk m c 0 t) (iblk m c 1 t) (iblk m c 2 t) (iblk m c 3 t) (iblk m c 4 t) (ix2 r l)
      = outOf (m ((c : Thread nD τ).loc main_arg0)) (m ((c : Thread nD τ).loc main_arg1)) (m ((c : Thread nD τ).loc main_arg2)) (m ((c : Thread nD τ).loc main_arg3)) g n := by
  rw [block_apply]
  unfold outOf
  refine congrArg₂ (fun a b : EReal => a + b) (blk4 m c t r l (ix2 g n) h0 h1) (congrArg₂ (fun a b : EReal => a + b) ?_ ?_)
  · exact Finset.sum_congr rfl fun k _ => congrArg₂ (fun a b : EReal => a * b) (blk0 m c t r k (ix2 g k) h0 rfl) (blk2 m c t k l (ix2 ⟨k.val, by omega⟩ n) rfl h1)
  · exact Finset.sum_congr rfl fun k _ => congrArg₂ (fun a b : EReal => a * b) (blk1 m c t r k (ix2 g k) h0 rfl) (blk3 m c t k l (ix2 ⟨1 * 2048 + k.val, by omega⟩ n) rfl h1)

/-- The array at an index. -/
theorem array_apply (c : Dev nD) (g : Fin 16384) (n : Fin 4096) :
    (dats m 0 c).arrAt 5 cfg0.N (ix2 g n) = outOf (m ((c : Thread nD τ).loc main_arg0)) (m ((c : Thread nD τ).loc main_arg1))
      (m ((c : Thread nD τ).loc main_arg2)) (m ((c : Thread nD τ).loc main_arg3)) g n := by
  have hN : cfg0.N = 64 := N_0
  have hg := g.isLt
  have hn := n.isLt
  obtain ⟨t, ht⟩ : ∃ t : Fin cfg0.N, t.val = g.val / 1024 * 4 + n.val / 1024 := ⟨⟨g.val / 1024 * 4 + n.val / 1024, by omega⟩, rfl⟩
  have hr : g.val = t.val / 4 * 1024 + g.val % 1024 := by omega
  have hl : n.val = t.val % 4 * 1024 + n.val % 1024 := by omega
  rw [array_entry m c t ⟨g.val % 1024, by omega⟩ ⟨n.val % 1024, by omega⟩ (ix2 g n) hr hl]
  exact block_entry m c t _ _ g n hr hl

end Proof.OutProj

end

end
-- ==== Proof.RefOutProj.lean ====
/- The reference's output projection at one index: the product of the joined halves, split in two sums. -/
module

public import proofs.«01_k».proof.Proof.Gen.Reference4Ideal.Run
public import Idealize.ShloMosaic.Lib.Pointwise

@[expose] public section

set_option maxRecDepth 16384

noncomputable section

namespace Proof.RefOutProj

open Idealize.ShloMosaic Idealize.ShloMosaic.TcCoe Idealize.SL.Sem
open Cert.Reference4Ideal Cert.Reference4Ideal.Gen

/-- The reference's array. -/
def projected (a b : Vec Ideal S16384x2048 .bf16) (w : Vec Ideal S4096x4096 .bf16) (x : Vec Ideal S16384x4096 .f32) : Vec Ideal S16384x4096 .f32 :=
  addf (F := Ideal) (φ := .f32) x (Host.dotGeneral dot_S16384x4096_S4096x4096_S16384x4096_1_0_0_1_n_n none
    (extf (F := Ideal) .f32 (concatenate S16384x4096 1 [⟨S16384x2048, a⟩, ⟨S16384x2048, b⟩] concatenates_S16384x2048_S16384x2048_S16384x4096_d1) bitsLt_bf16_f32)
    (extf (F := Ideal) .f32 w bitsLt_bf16_f32))

/-- A sum over 4096 in two halves. -/
theorem halves (f : Fin 4096 → EReal) : ∑ k, f k = (∑ k : Fin 2048, f ⟨k.val, by omega⟩) + ∑ k : Fin 2048, f ⟨1 * 2048 + k.val, by omega⟩ :=
  Fin.sum_univ_add (a := 2048) (b := 2048) f

/-- The reference's array at an index. -/
theorem projected_apply (a b : Vec Ideal S16384x2048 .bf16) (w : Vec Ideal S4096x4096 .bf16) (x : Vec Ideal S16384x4096 .f32) (g : Fin 16384) (n : Fin 4096) :
    projected a b w x (ix2 g n) = x (ix2 g n) + ((∑ k : Fin 2048, a (ix2 g k) * w (ix2 ⟨k.val, by omega⟩ n))
      + ∑ k : Fin 2048, b (ix2 g k) * w (ix2 ⟨1 * 2048 + k.val, by omega⟩ n)) := by
  have e : projected a b w x (ix2 g n) = x (ix2 g n) + ∑ k : Fin 4096,
      (if h : k.val < 2048 then a (ix2 g ⟨k.val, h⟩) else b (ix2 g ⟨k.val - 2048, by omega⟩)) * w (ix2 k n) := by
    pointwise [projected]
  rw [e, halves]
  refine congrArg (x (ix2 g n) + ·) (congrArg₂ (· + ·) (Finset.sum_congr rfl fun k _ => ?_) (Finset.sum_congr rfl fun k _ => ?_))
  · rw [dif_pos k.isLt]
  · rw [dif_neg (by show ¬ 1 * 2048 + k.val < 2048; omega)]
    refine congrArg (b · * _) ?_
    refine congrArg (ix2 g) (Fin.ext ?_)
    show 1 * 2048 + k.val - 2048 = k.val
    omega

end Proof.RefOutProj

end

end
-- ==== Proof.ScoreBlock.lean ====
/- What one block of scores holds. -/
module

public import proofs.«01_k».proof.Proof.Gen.Kernel5Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Proof.ScoreBlock

open Idealize.ShloMosaic Idealize.ShloMosaic.TcCoe Idealize.SL.Sem
open Cert.Kernel5Ideal Cert.Kernel5Ideal.Gen Cert.Kernel5Ideal.Value

variable (m : (ℓ : Loc nD τ sig) → Buf (Elt Ideal) ℓ)

/-- The score of a key row against a token: the row's sheet of keys against the query's columns of that sheet. -/
def score (Q : Vec Ideal S1024x1024 .bf16) (K : Vec Ideal S8x128x128 .bf16) (r l : Fin 1024) : EReal :=
  ∑ d : Fin 128, K (ix3 ⟨r.val / 128, by omega⟩ ⟨r.val % 128, by omega⟩ d) * Q (ix2 l ⟨r.val / 128 * 128 + d.val, by omega⟩)

/-- A sheet read out of the keys. -/
theorem sheet (K : Vec Ideal S8x128x128 .bf16) (h : Fin 8) (p : ℕ) (hp : p = h.val) (inb : ∀ a, (![p, 0, 0] : Fin 3 → ℕ) a + S1x128x128.size a ≤ S8x128x128.size a) (n d : Fin 128) :
    View.ld K (Rect.unit (s := S8x128x128) ![p, 0, 0] S1x128x128.size inb) (ix3 0 n d) = K (ix3 h n d) := by
  subst hp
  refine congrArg K ?_
  funext a
  refine Fin.ext ?_
  match a with
  | ⟨0, _⟩ => show h.val + 1 * 0 = h.val; omega
  | ⟨1, _⟩ => show 0 + 1 * n.val = n.val; omega
  | ⟨2, _⟩ => show 0 + 1 * d.val = d.val; omega

/-- A piece of 128 rows that spells the product of its sheet and its columns holds the scores there. -/
theorem score_piece (Q : Vec Ideal S1024x1024 .bf16) (K : Vec Ideal S8x128x128 .bf16) (h : Fin 8) (o : ℕ) (ho : o = h.val * 128)
    (k : Vec Ideal S1x128x128 .bf16) (hk : ∀ n d, k (ix3 0 n d) = K (ix3 h n d))
    (P : Vec Ideal S128x1024 .f32) (hP : ∀ n l, P (ix2 n l) = ∑ d : Fin 128, k (ix3 0 n d) * Q (ix2 l ⟨o + d.val, by omega⟩))
    (y : S1024x1024.Idx) (x : S128x1024.Idx) (h0 : (y 0).val = o + (x 0).val) (h1 : (y 1).val = (x 1).val) : P x = score Q K (y 0) (y 1) := by
  obtain ⟨n, l, rfl⟩ : ∃ n l, x = ix2 n l := ⟨x 0, x 1, by funext a; match a with | ⟨0, _⟩ => rfl | ⟨1, _⟩ => rfl⟩
  obtain ⟨n', l', rfl⟩ : ∃ n l, y = ix2 n l := ⟨y 0, y 1, by funext a; match a with | ⟨0, _⟩ => rfl | ⟨1, _⟩ => rfl⟩
  have e1 : l' = l := Fin.ext h1
  have e0 : n'.val = o + n.val := h0
  have hn : n.val < 128 := n.isLt
  have q : n'.val / 128 = h.val := by omega
  have s : n'.val % 128 = n.val := by omega
  show P (ix2 n l) = score Q K n' l'
  rw [hP, e1]
  unfold score
  simp only [hk, q, s, ho]

/-- The queries of a block: a product of a row block and a column block. -/
theorem queries_apply (x : Vec Ideal S1024x4096 .bf16) (w : Vec Ideal S4096x1024 .bf16) (r l : Fin 1024) :
    k0_pay5 (F := Ideal) x w (ix2 r l) = ∑ k : Fin 4096, x (ix2 r k) * w (ix2 k l) := by
  pointwise [k0_pay5]

/-- The first sheet's piece. -/
theorem piece0 (x : Vec Ideal S1024x4096 .bf16) (w : Vec Ideal S4096x1024 .bf16) (k : Vec Ideal S1x128x128 .bf16) (n : Fin 128) (l : Fin 1024) :
    k0_pay6 (F := Ideal) x w k (ix2 n l) = ∑ d : Fin 128, k (ix3 0 n d) * k0_pay5 (F := Ideal) x w (ix2 l ⟨0 + d.val, by omega⟩) := by
  unfold k0_pay6
  generalize k0_pay5 (F := Ideal) x w = Q
  pointwise []
/-- The second sheet's piece. -/
theorem piece1 (x : Vec Ideal S1024x4096 .bf16) (w : Vec Ideal S4096x1024 .bf16) (k : Vec Ideal S1x128x128 .bf16) (n : Fin 128) (l : Fin 1024) :
    k0_pay7 (F := Ideal) x w k (ix2 n l) = ∑ d : Fin 128, k (ix3 0 n d) * k0_pay5 (F := Ideal) x w (ix2 l ⟨128 + d.val, by omega⟩) := by
  unfold k0_pay7
  generalize k0_pay5 (F := Ideal) x w = Q
  pointwise []
/-- The third sheet's piece. -/
theorem piece2 (x : Vec Ideal S1024x4096 .bf16) (w : Vec Ideal S4096x1024 .bf16) (k : Vec Ideal S1x128x128 .bf16) (n : Fin 128) (l : Fin 1024) :
    k0_pay8 (F := Ideal) x w k (ix2 n l) = ∑ d : Fin 128, k (ix3 0 n d) * k0_pay5 (F := Ideal) x w (ix2 l ⟨256 + d.val, by omega⟩) := by
  unfold k0_pay8
  generalize k0_pay5 (F := Ideal) x w = Q
  pointwise []
/-- The fourth sheet's piece. -/
theorem piece3 (x : Vec Ideal S1024x4096 .bf16) (w : Vec Ideal S4096x1024 .bf16) (k : Vec Ideal S1x128x128 .bf16) (n : Fin 128) (l : Fin 1024) :
    k0_pay9 (F := Ideal) x w k (ix2 n l) = ∑ d : Fin 128, k (ix3 0 n d) * k0_pay5 (F := Ideal) x w (ix2 l ⟨384 + d.val, by omega⟩) := by
  unfold k0_pay9
  generalize k0_pay5 (F := Ideal) x w = Q
  pointwise []
/-- The fifth sheet's piece. -/
theorem piece4 (Q : Vec Ideal S1024x1024 .bf16) (k : Vec Ideal S1x128x128 .bf16) (n : Fin 128) (l : Fin 1024) :
    k0_pay1 (F := Ideal) Q k (ix2 n l) = ∑ d : Fin 128, k (ix3 0 n d) * Q (ix2 l ⟨512 + d.val, by omega⟩) := by
  pointwise [k0_pay1]
/-- The sixth sheet's piece. -/
theorem piece5 (Q : Vec Ideal S1024x1024 .bf16) (k : Vec Ideal S1x128x128 .bf16) (n : Fin 128) (l : Fin 1024) :
    k0_pay2 (F := Ideal) Q k (ix2 n l) = ∑ d : Fin 128, k (ix3 0 n d) * Q (ix2 l ⟨640 + d.val, by omega⟩) := by
  pointwise [k0_pay2]
/-- The seventh sheet's piece. -/
theorem piece6 (Q : Vec Ideal S1024x1024 .bf16) (k : Vec Ideal S1x128x128 .bf16) (n : Fin 128) (l : Fin 1024) :
    k0_pay3 (F := Ideal) Q k (ix2 n l) = ∑ d : Fin 128, k (ix3 0 n d) * Q (ix2 l ⟨768 + d.val, by omega⟩) := by
  pointwise [k0_pay3]
/-- The eighth sheet's piece. -/
theorem piece7 (Q : Vec Ideal S1024x1024 .bf16) (k : Vec Ideal S1x128x128 .bf16) (n : Fin 128) (l : Fin 1024) :
    k0_pay4 (F := Ideal) Q k (ix2 n l) = ∑ d : Fin 128, k (ix3 0 n d) * Q (ix2 l ⟨896 + d.val, by omega⟩) := by
  pointwise [k0_pay4]

/-- Reading a whole row block. -/
theorem ld_rows (x : Vec Ideal S1024x4096 .bf16) : View.ld x r0_0 = x := by
  funext y
  refine congrArg x ?_
  funext a
  refine Fin.ext ?_
  match a with
  | ⟨0, _⟩ => show 0 + 1 * (y 0).val = (y 0).val; omega
  | ⟨1, _⟩ => show 0 + 1 * (y 1).val = (y 1).val; omega

/-- Reading a whole column block. -/
theorem ld_cols (w : Vec Ideal S4096x1024 .bf16) : View.ld w r0_1 = w := by
  funext y
  refine congrArg w ?_
  funext a
  refine Fin.ext ?_
  match a with
  | ⟨0, _⟩ => show 0 + 1 * (y 0).val = (y 0).val; omega
  | ⟨1, _⟩ => show 0 + 1 * (y 1).val = (y 1).val; omega

/-- A block of scores. -/
theorem block_apply (x : Vec Ideal S1024x4096 .bf16) (w : Vec Ideal S4096x1024 .bf16) (K : Vec Ideal S8x128x128 .bf16) (r l : Fin 1024) :
    out0_3 (F := Ideal) x w K (ix2 r l) = score (k0_pay5 (F := Ideal) x w) K r l := by
  unfold_out out0_3
  show _ = score _ _ ((ix2 r l : S1024x1024.Idx) 0) ((ix2 r l : S1024x1024.Idx) 1)
  generalize (ix2 r l : S1024x1024.Idx) = y
  rw [ld_rows x, ld_cols w]
  canon_tiles x g
  · exact score_piece _ K 7 896 rfl _ (sheet K 7 7 rfl _) _ (piece7 _ _) y x g0 g1
  · exact score_piece _ K 6 768 rfl _ (sheet K 6 6 rfl _) _ (piece6 _ _) y x g0 g1
  · exact score_piece _ K 5 640 rfl _ (sheet K 5 5 rfl _) _ (piece5 _ _) y x g0 g1
  · exact score_piece _ K 4 512 rfl _ (sheet K 4 4 rfl _) _ (piece4 _ _) y x g0 g1
  · exact score_piece _ K 3 384 rfl _ (sheet K 3 3 rfl _) _ (piece3 _ _ _) y x g0 g1
  · exact score_piece _ K 2 256 rfl _ (sheet K 2 2 rfl _) _ (piece2 _ _ _) y x g0 g1
  · exact score_piece _ K 1 128 rfl _ (sheet K 1 1 rfl _) _ (piece1 _ _ _) y x g0 g1
  · exact score_piece _ K 0 0 rfl _ (sheet K 0 0 rfl _) _ (piece0 _ _ _) y x (by omega) g1

end Proof.ScoreBlock

end

end
-- ==== Proof.Scores.lean ====
/- The scores of queries against keys: what the array holds. -/
module

public import proofs.«01_k».proof.Proof.ScoreBlock

@[expose] public section

set_option maxRecDepth 16384

noncomputable section

namespace Proof.Scores

open Idealize.ShloMosaic Idealize.ShloMosaic.TcCoe Idealize.SL.Sem
open Cert.Kernel5Ideal Cert.Kernel5Ideal.Gen Cert.Kernel5Ideal.Value
open Proof.ScoreBlock

variable (m : (ℓ : Loc nD τ sig) → Buf (Elt Ideal) ℓ)

/-- The two sets of keys, sheet by sheet in turn. -/
def stacked (a b : Vec Ideal S8x128x128 .f32) : Vec Ideal S16x128x128 .bf16 :=
  truncf (F := Ideal) (s := S16x128x128) (φ := .f32) .bf16 (shapeCast (α := Ideal .f32) _ (concatenate (α := Ideal .f32) S8x2x128x128 1
    [⟨S8x1x128x128, broadcastInDim S8x1x128x128 ![0, 2, 3] bcast_S8x128x128_S8x1x128x128_0_2_3 a⟩,
      ⟨S8x1x128x128, broadcastInDim S8x1x128x128 ![0, 2, 3] bcast_S8x128x128_S8x1x128x128_0_2_3 b⟩]
    concatenates_S8x1x128x128_S8x1x128x128_S8x2x128x128_d1) shapeCasts_S8x2x128x128_S16x128x128) bitsLt_bf16_f32

/-- The keys the launch is given. -/
theorem keys (c : Dev nD) : V m c main_v4 = stacked (m ((c : Thread nD τ).loc main_arg2)) (m ((c : Thread nD τ).loc main_arg3)) := by
  rfl

/-- The stacked keys at an index. -/
theorem stacked_apply (a b : Vec Ideal S8x128x128 .f32) (s : Fin 16) (n d : Fin 128) :
    stacked a b (ix3 s n d) = if s.val % 2 < 1 then a (ix3 ⟨s.val / 2, by omega⟩ n d) else b (ix3 ⟨s.val / 2, by omega⟩ n d) := by
  pointwise [stacked]
  by_cases h : s.val % 2 < 1
  · rw [dif_pos h, if_pos h]
  · rw [dif_neg h, if_neg h]

/-- Where the blocks lie: point `t` is token block `t / 2` and key block `t % 2`. -/
theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val % 2, 0, 0] := (by decide +kernel : ∀ t : Fin grid0.N, _)
theorem idx3 : ∀ t : Fin cfg0.N, win0_3.index t = ![t.val % 2, t.val / 2] := (by decide +kernel : ∀ t : Fin grid0.N, _)
theorem flush3 : ∀ t : Fin cfg0.N, (cfg0.win 3).flush t = true := (by decide +kernel : ∀ t : Fin grid0.N, win0_3.flush t = true)

/-- The block of rows. -/
theorem blk0 (c : Dev nD) (t : Fin cfg0.N) (r : Fin 1024) (k : Fin 4096) (y : S16384x4096.Idx)
    (h0 : (y 0).val = t.val / 2 * 1024 + r.val) (h1 : (y 1).val = k.val) : iblk m c 0 t (ix2 r k) = m ((c : Thread nD τ).loc main_arg0) y := by
  blk_ext [iblk, V, idx0 t]

/-- The block of columns. -/
theorem blk1 (c : Dev nD) (t : Fin cfg0.N) (k : Fin 4096) (l : Fin 1024) (y : S4096x2048.Idx)
    (h0 : (y 0).val = k.val) (h1 : (y 1).val = t.val % 2 * 1024 + l.val) : iblk m c 1 t (ix2 k l) = m ((c : Thread nD τ).loc main_arg1) y := by
  blk_ext [iblk, V, idx1 t]

/-- The block of keys. -/
theorem blk2 (c : Dev nD) (t : Fin cfg0.N) (s : Fin 8) (n d : Fin 128) (y : S16x128x128.Idx)
    (h0 : (y 0).val = t.val % 2 * 8 + s.val) (h1 : (y 1).val = n.val) (h2 : (y 2).val = d.val) :
    iblk m c 2 t (ix3 s n d) = stacked (m ((c : Thread nD τ).loc main_arg2)) (m ((c : Thread nD τ).loc main_arg3)) y := by
  refine Eq.trans ?_ (congrFun (keys m c) y)
  blk_ext [iblk, idx2 t]

/-- An entry of the array is its block's. -/
theorem array_entry (c : Dev nD) (t : Fin cfg0.N) (r l : Fin 1024) (i : S2048x16384.Idx)
    (h0 : (i 0).val = t.val % 2 * 1024 + r.val) (h1 : (i 1).val = t.val / 2 * 1024 + l.val) :
    (dats m 0 c).arrAt 3 cfg0.N i = out0_3 (iblk m c 0 t) (iblk m c 1 t) (iblk m c 2 t) (ix2 r l) := by
  have e := congrFun (blocks3 m c t (flush3 t)) (ix2 r l)
  rw [flushed3] at e
  refine Eq.trans (congrArg _ ?_) e
  funext a
  refine Fin.ext ?_
  have g := idx3 t
  match a with
  | ⟨0, _⟩ =>
    have g0 := congrFun g 0
    show (i 0).val = win0_3.index t 0 * 1024 + 1 * r.val
    rw [g0, h0]; show _ = t.val % 2 * 1024 + 1 * r.val; omega
  | ⟨1, _⟩ =>
    have g1 := congrFun g 1
    show (i 1).val = win0_3.index t 1 * 1024 + 1 * l.val
    rw [g1, h1]; show _ = t.val / 2 * 1024 + 1 * l.val; omega

/-- A token's score against a key. -/
def scoreOf (h : Vec Ideal S16384x4096 .bf16) (w : Vec Ideal S4096x2048 .bf16) (k1 k2 : Vec Ideal S8x128x128 .f32) (n : Fin 2048) (g : Fin 16384) : EReal :=
  ∑ d : Fin 128,
    (if n.val / 128 % 2 < 1 then k1 (ix3 ⟨n.val / 256, by omega⟩ ⟨n.val % 128, by omega⟩ d) else k2 (ix3 ⟨n.val / 256, by omega⟩ ⟨n.val % 128, by omega⟩ d))
      * ∑ k : Fin 4096, h (ix2 g k) * w (ix2 k ⟨n.val / 128 * 128 + d.val, by omega⟩)

/-- One score of a block is the token's score against the key of the array. -/
theorem score_entry (c : Dev nD) (t : Fin cfg0.N) (r l : Fin 1024) (n : Fin 2048) (g : Fin 16384)
    (hr : n.val = t.val % 2 * 1024 + r.val) (hl : g.val = t.val / 2 * 1024 + l.val) :
    score (k0_pay5 (F := Ideal) (iblk m c 0 t) (iblk m c 1 t)) (iblk m c 2 t) r l
      = scoreOf (m ((c : Thread nD τ).loc main_arg0)) (m ((c : Thread nD τ).loc main_arg1))
          (m ((c : Thread nD τ).loc main_arg2)) (m ((c : Thread nD τ).loc main_arg3)) n g := by
  have hb := r.isLt
  unfold score scoreOf
  refine Finset.sum_congr rfl fun d _ => congrArg₂ (fun a b : EReal => a * b) ?_ ?_
  · refine (blk2 m c t _ _ d (ix3 ⟨n.val / 128, by omega⟩ ⟨n.val % 128, by omega⟩ d) (by show n.val / 128 = t.val % 2 * 8 + r.val / 128; omega)
      (by show n.val % 128 = r.val % 128; omega) rfl).trans ?_
    rw [stacked_apply]
    have e : n.val / 128 / 2 = n.val / 256 := by omega
    simp only [e]
  · rw [queries_apply]
    exact Finset.sum_congr rfl fun k _ => congrArg₂ (fun a b : EReal => a * b) (blk0 m c t _ k (ix2 g k) hl rfl)
      (blk1 m c t k _ (ix2 k ⟨n.val / 128 * 128 + d.val, by omega⟩) rfl
        (by show n.val / 128 * 128 + d.val = t.val % 2 * 1024 + (r.val / 128 * 128 + d.val); omega))

/-- The array at an index. -/
theorem array_apply (c : Dev nD) (n : Fin 2048) (g : Fin 16384) :
    (dats m 0 c).arrAt 3 cfg0.N (ix2 n g) = scoreOf (m ((c : Thread nD τ).loc main_arg0)) (m ((c : Thread nD τ).loc main_arg1))
      (m ((c : Thread nD τ).loc main_arg2)) (m ((c : Thread nD τ).loc main_arg3)) n g := by
  have hN : cfg0.N = 32 := N_0
  have hg := g.isLt
  have hn := n.isLt
  obtain ⟨t, ht⟩ : ∃ t : Fin cfg0.N, t.val = g.val / 1024 * 2 + n.val / 1024 := ⟨⟨g.val / 1024 * 2 + n.val / 1024, by omega⟩, rfl⟩
  have hr : n.val = t.val % 2 * 1024 + n.val % 1024 := by omega
  have hl : g.val = t.val / 2 * 1024 + g.val % 1024 := by omega
  rw [array_entry m c t ⟨n.val % 1024, by omega⟩ ⟨g.val % 1024, by omega⟩ (ix2 n g) hr hl, block_apply]
  exact score_entry m c t _ _ n g hr hl

end Proof.Scores

end

end
-- ==== Proof.RefScores.lean ====
/- The reference's scores of queries against keys at one index. -/
module

public import proofs.«01_k».proof.Proof.Gen.Reference5Ideal.Run
public import Idealize.ShloMosaic.Lib.Pointwise

@[expose] public section

set_option maxRecDepth 16384

noncomputable section

namespace Proof.RefScores

open Idealize.ShloMosaic Idealize.ShloMosaic.TcCoe Idealize.SL.Sem
open Cert.Reference5Ideal Cert.Reference5Ideal.Gen

/-- The queries of each token, two halves for each of eight heads. -/
def queries (h : Vec Ideal S16384x4096 .bf16) (w : Vec Ideal S4096x2048 .bf16) : Vec Ideal S16384x8x2x128 .f32 :=
  shapeCast (α := Ideal .f32) _ (Host.dotGeneral (F := Ideal) (φ₂ := .f32) dot_S16384x4096_S4096x2048_S16384x2048_1_0_0_1_n_n none
    (extf (F := Ideal) .f32 h bitsLt_bf16_f32) (extf (F := Ideal) .f32 w bitsLt_bf16_f32)) shapeCasts_S16384x2048_S16384x8x2x128

/-- The scores of one half's queries against that half's keys. -/
def half (k : Vec Ideal S8x128x128 .f32) (q : Vec Ideal S16384x8x1x128 .f32) : Vec Ideal S16384x8x1x128 .f32 :=
  broadcastInDim S16384x8x1x128 ![0, 1, 3] bcast_S16384x8x128_S16384x8x1x128_0_1_3 (transpose (α := Ideal .f32) S16384x8x128 [2, 0, 1]
    (Host.dotGeneral (F := Ideal) (φ₁ := .f32) (φ₂ := .f32) dot_S8x128x128_S16384x8x128_S8x128x16384_2_2_1_0_0_1 none k
      (shapeCast (α := Ideal .f32) _ q shapeCasts_S16384x8x1x128_S16384x8x128)) transposes_S8x128x16384_S16384x8x128_2_0_1)

/-- The two halves, laid out with a row for each key of each half of each head. -/
def laid (a b : Vec Ideal S16384x8x1x128 .f32) : Vec Ideal S2048x16384 .f32 :=
  transpose (α := Ideal .f32) S2048x16384 [1, 0] (shapeCast (α := Ideal .f32) _ (concatenate (α := Ideal .f32) S16384x8x2x128 2 [⟨S16384x8x1x128, a⟩, ⟨S16384x8x1x128, b⟩]
    concatenates_S16384x8x1x128_S16384x8x1x128_S16384x8x2x128_d2) shapeCasts_S16384x8x2x128_S16384x2048) transposes_S16384x2048_S2048x16384_1_0

/-- The reference's array. -/
def scores (h : Vec Ideal S16384x4096 .bf16) (w : Vec Ideal S4096x2048 .bf16) (k1 k2 : Vec Ideal S8x128x128 .f32) : Vec Ideal S2048x16384 .f32 :=
  laid (half k1 (extractStridedSlice (α := Ideal .f32) S16384x8x1x128 ![0, 0, 0, 0] (queries h w) slices_S16384x8x2x128_S16384x8x1x128_0_0_0_0))
    (half k2 (extractStridedSlice (α := Ideal .f32) S16384x8x1x128 ![0, 0, 1, 0] (queries h w) slices_S16384x8x2x128_S16384x8x1x128_0_0_1_0))

/-- A query at an index. -/
theorem queries_apply (h : Vec Ideal S16384x4096 .bf16) (w : Vec Ideal S4096x2048 .bf16) (t : Fin 16384) (a : Fin 8) (p : Fin 2) (d : Fin 128) :
    queries h w (ix4 t a p d) = ∑ k : Fin 4096, h (ix2 t k) * w (ix2 k ⟨a.val * 256 + p.val * 128 + d.val, by omega⟩) := by
  pointwise [queries]

/-- A half's score at an index. -/
theorem half_apply (k : Vec Ideal S8x128x128 .f32) (q : Vec Ideal S16384x8x1x128 .f32) (t : Fin 16384) (a : Fin 8) (n : Fin 128) :
    half k q (ix4 t a 0 n) = ∑ d : Fin 128, k (ix3 a n d) * q (ix4 t a 0 d) := by
  pointwise [half]

/-- The laid out halves at an index. -/
theorem laid_apply (a b : Vec Ideal S16384x8x1x128 .f32) (n : Fin 2048) (t : Fin 16384) :
    laid a b (ix2 n t) = if n.val / 128 % 2 < 1 then a (ix4 t ⟨n.val / 256, by omega⟩ 0 ⟨n.val % 128, by omega⟩)
      else b (ix4 t ⟨n.val / 256, by omega⟩ 0 ⟨n.val % 128, by omega⟩) := by
  pointwise [laid]
  by_cases h : n.val / 128 % 2 < 1
  · rw [dif_pos h, if_pos h]
    exact congrArg (fun u => a (ix4 t _ u _)) (Subsingleton.elim _ _)
  · rw [dif_neg h, if_neg h]
    exact congrArg (fun u => b (ix4 t _ u _)) (Subsingleton.elim _ _)

/-- The first half's queries. -/
theorem first_apply (q : Vec Ideal S16384x8x2x128 .f32) (t : Fin 16384) (a : Fin 8) (d : Fin 128) :
    extractStridedSlice (α := Ideal .f32) S16384x8x1x128 ![0, 0, 0, 0] q slices_S16384x8x2x128_S16384x8x1x128_0_0_0_0 (ix4 t a 0 d) = q (ix4 t a 0 d) := by
  pointwise []

/-- The second half's queries. -/
theorem second_apply (q : Vec Ideal S16384x8x2x128 .f32) (t : Fin 16384) (a : Fin 8) (d : Fin 128) :
    extractStridedSlice (α := Ideal .f32) S16384x8x1x128 ![0, 0, 1, 0] q slices_S16384x8x2x128_S16384x8x1x128_0_0_1_0 (ix4 t a 0 d) = q (ix4 t a 1 d) := by
  pointwise []

/-- The reference's array at an index. -/
theorem scores_apply (h : Vec Ideal S16384x4096 .bf16) (w : Vec Ideal S4096x2048 .bf16) (k1 k2 : Vec Ideal S8x128x128 .f32) (n : Fin 2048) (t : Fin 16384) :
    scores h w k1 k2 (ix2 n t) = ∑ d : Fin 128,
      (if n.val / 128 % 2 < 1 then k1 (ix3 ⟨n.val / 256, by omega⟩ ⟨n.val % 128, by omega⟩ d) else k2 (ix3 ⟨n.val / 256, by omega⟩ ⟨n.val % 128, by omega⟩ d))
        * ∑ k : Fin 4096, h (ix2 t k) * w (ix2 k ⟨n.val / 128 * 128 + d.val, by omega⟩) := by
  unfold scores
  rw [laid_apply]
  by_cases hp : n.val / 128 % 2 < 1
  · simp only [if_pos hp, half_apply, first_apply, queries_apply]
    refine Finset.sum_congr rfl fun d _ => congrArg (_ * ·) (Finset.sum_congr rfl fun k _ => congrArg (_ * ·) (congrArg w (congrArg (ix2 k) (Fin.ext ?_))))
    show n.val / 256 * 256 + 0 * 128 + d.val = n.val / 128 * 128 + d.val
    omega
  · simp only [if_neg hp, half_apply, second_apply, queries_apply]
    refine Finset.sum_congr rfl fun d _ => congrArg (_ * ·) (Finset.sum_congr rfl fun k _ => congrArg (_ * ·) (congrArg w (congrArg (ix2 k) (Fin.ext ?_))))
    show n.val / 256 * 256 + 1 * 128 + d.val = n.val / 128 * 128 + d.val
    omega

end Proof.RefScores

end

end
-- ==== Proof.Products.lean ====
/- The claims of the four products: each array against its reference's, and the frames of the references. -/
module

public import proofs.«01_k».proof.Defs
public import proofs.«01_k».proof.Proof.QkvProj
public import proofs.«01_k».proof.Proof.RefQkvProj
public import proofs.«01_k».proof.Proof.XyProj
public import proofs.«01_k».proof.Proof.RefXyProj
public import proofs.«01_k».proof.Proof.OutProj
public import proofs.«01_k».proof.Proof.RefOutProj
public import proofs.«01_k».proof.Proof.Scores
public import proofs.«01_k».proof.Proof.RefScores
public import Idealize.ShloMosaic.Adequacy
public import Idealize.ShloMosaic.Init

@[expose] public section

set_option maxRecDepth 16384

noncomputable section

namespace Proof.Products

open Idealize.ShloMosaic Idealize.ShloMosaic.TcCoe Idealize.SL.Sem

/-- The queries, keys and values: the array the launch leaves is the reference's. -/
theorem algebraic2 : Cert.algebraic_Kernel2Ideal_Reference2Ideal (hKernel2Ideal := Cert.Kernel2Ideal.Gen.facts) (hReference2Ideal := Cert.Reference2Ideal.Gen.facts) := by
  intro m g m' g' hpre hag
  refine ⟨fun c => (Cert.Kernel2Ideal.Gen.dats m 0 c).arrAt 3 Cert.Kernel2Ideal.cfg0.N, Cert.Kernel2Ideal.Value.run_blocks m g, ?_⟩
  refine (θ_run _ _ _).mono (fun r h c => ?_) (Cert.Reference2Ideal.Value.run (F := Ideal) m' g')
  obtain ⟨h0, k0, k1, k2, k3⟩ := h c
  obtain ⟨a0, a1, a2, a3⟩ := hag c
  refine ⟨h0.trans ?_, k0, k1, k2, k3⟩
  refine (Proof.RefQkvProj.result_eq m' c).trans ?_
  rw [a0, a1, a2, a3]
  funext i
  obtain ⟨p, q, rfl⟩ : ∃ p q, i = ix2 p q := ⟨i 0, i 1, by funext a; match a with | ⟨0, _⟩ => rfl | ⟨1, _⟩ => rfl⟩
  exact (Proof.RefQkvProj.projected_apply _ _ _ _  p q).trans (Proof.QkvProj.array_apply m c p q).symm

/-- The reference of the queries, keys and values runs, its arguments end unchanged and no counter is left raised. -/
theorem frame2 : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

/-- The recurrence's inputs: the array the launch leaves is the reference's. -/
theorem algebraic3 : Cert.algebraic_Kernel3Ideal_Reference3Ideal (hKernel3Ideal := Cert.Kernel3Ideal.Gen.facts) (hReference3Ideal := Cert.Reference3Ideal.Gen.facts) := by
  intro m g m' g' hpre hag
  refine ⟨fun c => (Cert.Kernel3Ideal.Gen.dats m 0 c).arrAt 3 Cert.Kernel3Ideal.cfg0.N, Cert.Kernel3Ideal.Value.run_blocks m g, ?_⟩
  refine (θ_run _ _ _).mono (fun r h c => ?_) (Cert.Reference3Ideal.Value.run (F := Ideal) m' g')
  obtain ⟨h0, k0, k1⟩ := h c
  obtain ⟨a0, a1⟩ := hag c
  refine ⟨h0.trans ?_, k0, k1⟩
  rw [a0, a1]
  funext i
  obtain ⟨p, q, rfl⟩ : ∃ p q, i = ix2 p q := ⟨i 0, i 1, by funext a; match a with | ⟨0, _⟩ => rfl | ⟨1, _⟩ => rfl⟩
  exact (Proof.RefXyProj.projected_apply _ _  p q).trans (Proof.XyProj.array_apply m c p q).symm

/-- The reference of the recurrence's inputs runs, its arguments end unchanged and no counter is left raised. -/
theorem frame3 : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run (F := Ideal) m g)

/-- The output projection: the array the launch leaves is the reference's. -/
theorem algebraic4 : Cert.algebraic_Kernel4Ideal_Reference4Ideal (hKernel4Ideal := Cert.Kernel4Ideal.Gen.facts) (hReference4Ideal := Cert.Reference4Ideal.Gen.facts) := by
  intro m g m' g' hpre hag
  refine ⟨fun c => (Cert.Kernel4Ideal.Gen.dats m 0 c).arrAt 5 Cert.Kernel4Ideal.cfg0.N, Cert.Kernel4Ideal.Value.run_blocks m g, ?_⟩
  refine (θ_run _ _ _).mono (fun r h c => ?_) (Cert.Reference4Ideal.Value.run (F := Ideal) m' g')
  obtain ⟨h0, k0, k1, k2, k3⟩ := h c
  obtain ⟨a0, a1, a2, a3⟩ := hag c
  refine ⟨h0.trans ?_, k0, k1, k2, k3⟩
  rw [a0, a1, a2, a3]
  funext i
  obtain ⟨p, q, rfl⟩ : ∃ p q, i = ix2 p q := ⟨i 0, i 1, by funext a; match a with | ⟨0, _⟩ => rfl | ⟨1, _⟩ => rfl⟩
  exact (Proof.RefOutProj.projected_apply _ _ _ _  p q).trans (Proof.OutProj.array_apply m c p q).symm

/-- The reference of the output projection runs, its arguments end unchanged and no counter is left raised. -/
theorem frame4 : Cert.quiescent_Reference4Ideal (hReference4Ideal := Cert.Reference4Ideal.Gen.facts) := fun m g _ =>
  (θ_run Cert.Reference4Ideal.defs _ _).mono (fun r h => ⟨fun c => (h c).2, sem_eq_zero_of_no_sems (by decide) r.2⟩)
    (Cert.Reference4Ideal.Value.run (F := Ideal) m g)

/-- The scores: the array the launch leaves is the reference's. -/
theorem algebraic5 : Cert.algebraic_Kernel5Ideal_Reference5Ideal (hKernel5Ideal := Cert.Kernel5Ideal.Gen.facts) (hReference5Ideal := Cert.Reference5Ideal.Gen.facts) := by
  intro m g m' g' hpre hag
  refine ⟨fun c => (Cert.Kernel5Ideal.Gen.dats m 0 c).arrAt 3 Cert.Kernel5Ideal.cfg0.N, Cert.Kernel5Ideal.Value.run_blocks m g, ?_⟩
  refine (θ_run _ _ _).mono (fun r h c => ?_) (Cert.Reference5Ideal.Value.run (F := Ideal) m' g')
  obtain ⟨h0, k0, k1, k2, k3⟩ := h c
  obtain ⟨a0, a1, a2, a3⟩ := hag c
  refine ⟨h0.trans ?_, k0, k1, k2, k3⟩
  rw [a0, a1, a2, a3]
  funext i
  obtain ⟨p, q, rfl⟩ : ∃ p q, i = ix2 p q := ⟨i 0, i 1, by funext a; match a with | ⟨0, _⟩ => rfl | ⟨1, _⟩ => rfl⟩
  exact (Proof.RefScores.scores_apply _ _ _ _  p q).trans (Proof.Scores.array_apply m c p q).symm

/-- The reference of the scores runs, its arguments end unchanged and no counter is left raised. -/
theorem frame5 : Cert.quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩)
    (Cert.Reference5Ideal.Value.run (F := Ideal) m g)

end Proof.Products

end

end
-- ==== Proof.RowNorm.lean ====
/- The norm of every token: what one block holds and what the array holds. -/
module

public import proofs.«01_k».proof.Proof.Gen.Kernel6Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Proof.RowNorm

open Idealize.ShloMosaic Idealize.ShloMosaic.TcCoe Idealize.SL.Sem
open Cert.Kernel6Ideal Cert.Kernel6Ideal.Gen Cert.Kernel6Ideal.Value

variable (m : (ℓ : Loc nD τ sig) → Buf (Elt Ideal) ℓ)

/-- Entry `l` of a row `f` over the root of its mean square, times a gain. -/
def rowOf (f : Fin 4096 → EReal) (g : EReal) (l : Fin 4096) : EReal :=
  f l * Ideal.rsqrt (Ideal.div (∑ i, f i * f i) (Ideal.ofBits .f32 0x45800000#32) + Ideal.ofBits .f32 0x358637BD#32) * g

/-- A block of the result. -/
theorem block_eq (c : Dev nD) (t : Fin cfg0.N) : out0_2 (iblk m c 0 t) (iblk m c 1 t) = k0_pay1 (F := Ideal) (iblk m c 0 t) (iblk m c 1 t) := by
  unfold out0_2
  frame_out

/-- One entry of a block. -/
theorem block_apply (x : Vec Ideal S256x4096 .f32) (g : Vec Ideal S1x4096 .f32) (r : Fin 256) (l : Fin 4096) :
    k0_pay1 (F := Ideal) x g (ix2 r l) = rowOf (fun k => x (ix2 r k)) (g (ix2 0 l)) l := by
  pointwise [k0_pay1, rowOf]

/-- The tokens as rows. -/
def tokens (x : Vec Ideal S4x4096x4096 .f32) : Vec Ideal S16384x4096 .f32 :=
  shapeCast (α := Ideal .f32) _ x shapeCasts_S4x4096x4096_S16384x4096

/-- The gain as one row. -/
def gain (g : Vec Ideal S4096 .f32) : Vec Ideal S1x4096 .f32 :=
  shapeCast (α := Ideal .f32) _ g shapeCasts_S4096_S1x4096

/-- The rows and the gain the launch is given. -/
theorem given (c : Dev nD) : V m c main_v0 = tokens (m ((c : Thread nD τ).loc main_arg0)) ∧ V m c main_v1 = gain (m ((c : Thread nD τ).loc main_arg1)) :=
  ⟨rfl, rfl⟩

/-- A token's entry. -/
theorem tokens_apply (x : Vec Ideal S4x4096x4096 .f32) (p : Fin 16384) (l : Fin 4096) :
    tokens x (ix2 p l) = x (ix3 ⟨p.val / 4096, by omega⟩ ⟨p.val % 4096, by omega⟩ l) := by
  pointwise [tokens]

/-- An entry of the gain. -/
theorem gain_apply (g : Vec Ideal S4096 .f32) (l : Fin 4096) : gain g (ix2 0 l) = g (ix1 l) := by
  pointwise [gain]

/-- Where the blocks lie: point `t` is row block `t`. -/
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem flush2 : ∀ t : Fin cfg0.N, (cfg0.win 2).flush t = true := (by decide +kernel : ∀ t : Fin grid0.N, win0_2.flush t = true)

/-- The block of rows. -/
theorem blk0 (c : Dev nD) (t : Fin cfg0.N) (r : Fin 256) (k : Fin 4096) (y : S16384x4096.Idx)
    (h0 : (y 0).val = t.val * 256 + r.val) (h1 : (y 1).val = k.val) : iblk m c 0 t (ix2 r k) = tokens (m ((c : Thread nD τ).loc main_arg0)) y := by
  refine Eq.trans ?_ (congrFun (given m c).1 y)
  blk_ext [iblk, idx0 t]

/-- The gain. -/
theorem blk1 (c : Dev nD) (t : Fin cfg0.N) (l : Fin 4096) : iblk m c 1 t (ix2 0 l) = gain (m ((c : Thread nD τ).loc main_arg1)) (ix2 0 l) := by
  refine Eq.trans ?_ (congrFun (given m c).2 (ix2 0 l))
  blk_ext [iblk, idx1 t]

/-- An entry of the array is its block's. -/
theorem array_entry (c : Dev nD) (t : Fin cfg0.N) (r : Fin 256) (l : Fin 4096) (i : S16384x4096.Idx)
    (h0 : (i 0).val = t.val * 256 + r.val) (h1 : (i 1).val = l.val) :
    (dats m 0 c).arrAt 2 cfg0.N i = out0_2 (iblk m c 0 t) (iblk m c 1 t) (ix2 r l) := by
  have e := congrFun (blocks2 m c t (flush2 t)) (ix2 r l)
  rw [flushed2] at e
  refine Eq.trans (congrArg _ ?_) e
  funext a
  refine Fin.ext ?_
  have g := idx2 t
  match a with
  | ⟨0, _⟩ =>
    have g0 := congrFun g 0
    show (i 0).val = win0_2.index t 0 * 256 + 1 * r.val
    rw [g0, h0]; show _ = t.val * 256 + 1 * r.val; omega
  | ⟨1, _⟩ =>
    have g1 := congrFun g 1
    show (i 1).val = win0_2.index t 1 * 4096 + 1 * l.val
    rw [g1, h1]; show _ = 0 * 4096 + 1 * l.val; omega

/-- A token's norm at an entry. -/
def entry (x : Vec Ideal S4x4096x4096 .f32) (g : Vec Ideal S4096 .f32) (p : Fin 16384) (l : Fin 4096) : EReal :=
  rowOf (fun k => x (ix3 ⟨p.val / 4096, by omega⟩ ⟨p.val % 4096, by omega⟩ k)) (g (ix1 l)) l

/-- The array at an index. -/
theorem array_apply (c : Dev nD) (p : Fin 16384) (l : Fin 4096) :
    (dats m 0 c).arrAt 2 cfg0.N (ix2 p l) = entry (m ((c : Thread nD τ).loc main_arg0)) (m ((c : Thread nD τ).loc main_arg1)) p l := by
  have hN : cfg0.N = 64 := N_0
  have hp := p.isLt
  obtain ⟨t, ht⟩ : ∃ t : Fin cfg0.N, t.val = p.val / 256 := ⟨⟨p.val / 256, by omega⟩, rfl⟩
  have hr : p.val = t.val * 256 + p.val % 256 := by omega
  rw [array_entry m c t ⟨p.val % 256, by omega⟩ l (ix2 p l) hr rfl, block_eq]
  refine (block_apply _ _ _ _).trans ?_
  refine congrArg₂ (fun f w => rowOf f w l) (funext fun k => ?_) ?_
  · exact (blk0 m c t ⟨p.val % 256, by omega⟩ k (ix2 p k) hr rfl).trans (tokens_apply _ _ _)
  · exact (blk1 m c t l).trans (gain_apply _ _)

end Proof.RowNorm

end

end
-- ==== Proof.RefRowNorm.lean ====
/- The reference's norm of every token at one index. -/
module

public import proofs.«01_k».proof.Proof.Gen.Reference6Ideal.Run
public import Idealize.ShloMosaic.Lib.Pointwise

@[expose] public section

set_option maxRecDepth 16384

noncomputable section

namespace Proof.RefRowNorm

open Idealize.ShloMosaic Idealize.ShloMosaic.TcCoe Idealize.SL.Sem
open Cert.Reference6Ideal Cert.Reference6Ideal.Gen

/-- The tokens normed, before they are laid out as rows. -/
def whole (x : Vec Ideal S4x4096x4096 .f32) (g : Vec Ideal S4096 .f32) : Vec Ideal S4x4096x4096 .f32 :=
  mulf (F := Ideal) (φ := .f32) (mulf (F := Ideal) (φ := .f32) x (broadcastInDim S4x4096x4096 ![0, 1, 2] bcast_S4x4096x1_S4x4096x4096_0_1_2
    (Host.rsqrt (F := Ideal) (addf (F := Ideal) (Host.divf (F := Ideal) (broadcastInDim S4x4096x1 ![0, 1] bcast_S4x4096_S4x4096x1_0_1
      (Host.reduceAdd (F := Ideal) (mulf (F := Ideal) (φ := .f32) x x) (constant (F := Ideal) S_ .f32 0x00000000#32) reducesTo_S4x4096x4096_S4x4096_d2 h_S_))
      (broadcastInDim S4x4096x1 ![] bcast_S_S4x4096x1 (constant (F := Ideal) S_ .f32 0x45800000#32)))
      (broadcastInDim S4x4096x1 ![] bcast_S_S4x4096x1 (constant (F := Ideal) S_ .f32 0x358637BD#32))))))
    (broadcastInDim S4x4096x4096 ![0, 1, 2] bcast_S1x1x4096_S4x4096x4096_0_1_2 (broadcastInDim S1x1x4096 ![2] bcast_S4096_S1x1x4096_2 g))

/-- The reference's array. -/
def normed (x : Vec Ideal S4x4096x4096 .f32) (g : Vec Ideal S4096 .f32) : Vec Ideal S16384x4096 .bf16 :=
  truncf (F := Ideal) (s := S16384x4096) (φ := .f32) .bf16 (shapeCast (α := Ideal .f32) _ (whole x g) shapeCasts_S4x4096x4096_S16384x4096) bitsLt_bf16_f32

/-- One entry before the layout. -/
theorem whole_apply (x : Vec Ideal S4x4096x4096 .f32) (g : Vec Ideal S4096 .f32) (b : Fin 4) (s l : Fin 4096) :
    whole x g (ix3 b s l) = x (ix3 b s l) * Ideal.rsqrt (Ideal.div (∑ i, x (ix3 b s i) * x (ix3 b s i)) (Ideal.ofBits .f32 0x45800000#32)
      + Ideal.ofBits .f32 0x358637BD#32) * g (ix1 l) := by
  pointwise [whole]

/-- The layout at an index. -/
theorem normed_eq (x : Vec Ideal S4x4096x4096 .f32) (g : Vec Ideal S4096 .f32) (p : Fin 16384) (l : Fin 4096) :
    normed x g (ix2 p l) = whole x g (ix3 ⟨p.val / 4096, by omega⟩ ⟨p.val % 4096, by omega⟩ l) := by
  unfold normed
  generalize whole x g = w
  pointwise []

end Proof.RefRowNorm

end

end
-- ==== Proof.ExpertTile.lean ====
/- The gated activations of 128 tokens against 128 experts: the piece the launch stores, at an index. -/
module

public import proofs.«01_k».proof.Proof.Gen.Kernel7Ideal.Skeleton
public import Idealize.ShloMosaic.Lib.Pointwise
public import Idealize.ShloMosaic.Lib.BitcastPair
public import Idealize.ShloMosaic.Lib.Pipeline.ValueKit

@[expose] public section

set_option maxRecDepth 16384

noncomputable section

namespace Proof.ExpertTile

open Idealize.ShloMosaic Idealize.ShloMosaic.TcCoe Idealize.SL.Sem
open Cert.Kernel7Ideal Cert.Kernel7Ideal.Gen

/-- The blocks a piece reads lie inside their buffers. -/
theorem in_scores (h lc : ℕ) (hh : h < 8) (hl : lc < 4) : ∀ a, (![h, 0, 0, lc * 128] : Fin 4 → ℕ) a + (![1, 1, 128, 128] : Fin 4 → ℕ) a ≤ S8x1x128x512.size a := by
  intro a
  match a with
  | ⟨0, _⟩ => show h + 1 ≤ 8; omega
  | ⟨1, _⟩ => show 0 + 1 ≤ 1; omega
  | ⟨2, _⟩ => show 0 + 128 ≤ 128; omega
  | ⟨3, _⟩ => show lc * 128 + 128 ≤ 512; omega

theorem in_words (h lc : ℕ) (hh : h < 8) (hl : lc < 4) : ∀ a, (![h, 0, lc * 128] : Fin 3 → ℕ) a + (![1, 64, 128] : Fin 3 → ℕ) a ≤ S8x64x512.size a := by
  intro a
  match a with
  | ⟨0, _⟩ => show h + 1 ≤ 8; omega
  | ⟨1, _⟩ => show 0 + 64 ≤ 64; omega
  | ⟨2, _⟩ => show lc * 128 + 128 ≤ 512; omega

theorem in_rows (h ii lc : ℕ) (hh : h < 8) (hi : ii < 4) (hl : lc < 4) : ∀ a, (![lc, ii * 8 + h, 0] : Fin 3 → ℕ) a + (![1, 1, 128] : Fin 3 → ℕ) a ≤ S4x32x128.size a := by
  intro a
  match a with
  | ⟨0, _⟩ => show lc + 1 ≤ 4; omega
  | ⟨1, _⟩ => show ii * 8 + h + 1 ≤ 32; omega
  | ⟨2, _⟩ => show 0 + 128 ≤ 128; omega

theorem in_acts (ii lc : ℕ) (hi : ii < 4) (hl : lc < 4) : ∀ a, (![ii * 128, lc * 128] : Fin 2 → ℕ) a + (![128, 128] : Fin 2 → ℕ) a ≤ S512x512.size a := by
  intro a
  match a with
  | ⟨0, _⟩ => show ii * 128 + 128 ≤ 512; omega
  | ⟨1, _⟩ => show lc * 128 + 128 ≤ 512; omega

/-- One head's share of the gates: experts down, tokens across. -/
def share (X3 : Vec Ideal S8x1x128x512 .f32) (X4 : Vec Ideal S8x64x512 .i32) (X5 X6 : Vec Ideal S4x32x128 .f32) (h ii lc : ℕ) (hh : h < 8) (hi : ii < 4) (hl : lc < 4) :
    FVec Ideal S128x128 .bf16 :=
  k0_pay4 (F := Ideal) (View.ld X6 (Rect.unit (s := S4x32x128) ![lc, ii * 8 + h, 0] ![1, 1, 128] (in_rows h ii lc hh hi hl)))
    (View.ld X4 (Rect.unit (s := S8x64x512) ![h, 0, lc * 128] ![1, 64, 128] (in_words h lc hh hl)))
    (View.ld X3 (Rect.unit (s := S8x1x128x512) ![h, 0, 0, lc * 128] ![1, 1, 128, 128] (in_scores h lc hh hl)))
    (View.ld X5 (Rect.unit (s := S4x32x128) ![lc, ii * 8 + h, 0] ![1, 1, 128] (in_rows h ii lc hh hi hl)))

/-- A word's half as the number it spells. -/
def half (w : BitVec 32) (k : ℕ) : EReal := Ideal.ofBits .bf16 (w.extractLsb' (16 * k) 16)

/-- One head's share for one expert and one token. -/
def gate (sc th hc e : EReal) : EReal := if th ≤ sc then e * hc else 0

/-- The kernel's gelu without its half, times a gate. -/
def gated (s a : EReal) : EReal :=
  s * a * (Ideal.ofBits .f32 0x3F800000#32 + Ideal.tanh (a * (Ideal.ofBits .f32 0x3F4C422A#32 + Named.named (F := Ideal) κ "cubic" 0x3D122279#32 * (a * a))))

/-- Two experts' halves lie in one word, the even one low. -/
theorem halves (x : IVec S64x128 32) (e r : Fin 128) :
    bitcast S128x128 16 x bitcasts_S64x128_w32_S128x128_w16 (ix2 e r) = (x (ix2 ⟨e.val / 2, by omega⟩ r)).extractLsb' (16 * (e.val % 2)) 16 := by
  rw [bitcast_32_16]
  refine congrArg (fun w : BitVec 32 => w.extractLsb' (16 * (e.val % 2)) 16) (congrArg x (funext fun c => ?_))
  match c with
  | ⟨0, _⟩ => exact Fin.ext (bitcasts_S64x128_w32_S128x128_w16.srcIdx_row _ _ _ ⟨0, Nat.zero_lt_two⟩ rfl)
  | ⟨1, _⟩ => exact Fin.ext (bitcasts_S64x128_w32_S128x128_w16.srcIdx_other _ _ _ ⟨1, Nat.one_lt_two⟩ (by show ¬ 1 + 2 = 2; omega))

/-- A head's share at an index. -/
theorem share_apply (X3 : Vec Ideal S8x1x128x512 .f32) (X4 : Vec Ideal S8x64x512 .i32) (X5 X6 : Vec Ideal S4x32x128 .f32) (h ii lc : ℕ) (hh : h < 8) (hi : ii < 4) (hl : lc < 4)
    (e r : Fin 128) :
    share X3 X4 X5 X6 h ii lc hh hi hl (ix2 e r)
      = gate (X3 (ix4 ⟨h, hh⟩ 0 e ⟨lc * 128 + r.val, by omega⟩)) (X5 (ix3 ⟨lc, hl⟩ ⟨ii * 8 + h, by omega⟩ r)) (X6 (ix3 ⟨lc, hl⟩ ⟨ii * 8 + h, by omega⟩ r))
          (half (X4 (ix3 ⟨h, hh⟩ ⟨e.val / 2, by omega⟩ ⟨lc * 128 + r.val, by omega⟩)) (e.val % 2)) := by
  pointwise [share, gate, half, k0_pay4, halves]

/-- The piece: eight heads' shares added, the activation's factor, tokens down. -/
def tile (X3 : Vec Ideal S8x1x128x512 .f32) (X4 : Vec Ideal S8x64x512 .i32) (X5 X6 : Vec Ideal S4x32x128 .f32) (A : Vec Ideal S512x512 .f32) (ii lc : ℕ) (hi : ii < 4) (hl : lc < 4) :
    FVec Ideal S128x128 .bf16 :=
  let s (h : ℕ) (hh : h < 8) := share X3 X4 X5 X6 h ii lc hh hi hl
  let S := addf (addf (addf (addf (addf (addf (addf (s 0 (by decide)) (s 1 (by decide))) (s 2 (by decide))) (s 3 (by decide))) (s 4 (by decide))) (s 5 (by decide)))
    (s 6 (by decide))) (s 7 (by decide))
  let a := View.ld A (Rect.unit (s := S512x512) ![ii * 128, lc * 128] ![128, 128] (in_acts ii lc hi hl))
  shapeCast S128x128 (truncf .bf16 (transpose S128x128 [1, 0]
    (mulf (mulf (extf .f32 S bitsLt_bf16_f32) a) (addf (broadcast S128x128 (Scalar.ofBits .f32 0x3F800000#32))
      (tanh (mulf a (addf (broadcast S128x128 (Scalar.ofBits .f32 0x3F4C422A#32)) (mulf (broadcast S128x128 (Named.named κ "cubic" 0x3D122279#32)) (mulf a a)))))))
    transposes_S128x128_p1_0_S128x128) bitsLt_bf16_f32) shapeCasts_S128x128_S128x128

/-- The heads' shares of the gate for one expert and one token. -/
def gateAt (X3 : Vec Ideal S8x1x128x512 .f32) (X4 : Vec Ideal S8x64x512 .i32) (X5 X6 : Vec Ideal S4x32x128 .f32) (ii lc : ℕ) (hi : ii < 4) (hl : lc < 4) (r e : Fin 128) : EReal :=
  ∑ h : Fin 8, gate (X3 (ix4 h 0 e ⟨lc * 128 + r.val, by omega⟩)) (X5 (ix3 ⟨lc, hl⟩ ⟨ii * 8 + h.val, by omega⟩ r)) (X6 (ix3 ⟨lc, hl⟩ ⟨ii * 8 + h.val, by omega⟩ r))
    (half (X4 (ix3 h ⟨e.val / 2, by omega⟩ ⟨lc * 128 + r.val, by omega⟩)) (e.val % 2))

/-- The piece at an index. -/
theorem tile_apply (X3 : Vec Ideal S8x1x128x512 .f32) (X4 : Vec Ideal S8x64x512 .i32) (X5 X6 : Vec Ideal S4x32x128 .f32) (A : Vec Ideal S512x512 .f32) (ii lc : ℕ)
    (hi : ii < 4) (hl : lc < 4) (r e : Fin 128) :
    tile X3 X4 X5 X6 A ii lc hi hl (ix2 r e)
      = gated (gateAt X3 X4 X5 X6 ii lc hi hl r e) (A (ix2 ⟨ii * 128 + e.val, by omega⟩ ⟨lc * 128 + r.val, by omega⟩)) := by
  unfold gateAt
  rw [Fin.sum_univ_eight]
  pointwise [tile, gated, share_apply]

end Proof.ExpertTile

end

end
-- ==== Proof.ExpertBlock.lean ====
/- A block of gated activations, and what a grid point leaves of the result. -/
module

public import proofs.«01_k».proof.Proof.Gen.Kernel7Ideal.Value
public import Idealize.ShloMosaic.Lib.Pointwise
public import proofs.«01_k».proof.Proof.ExpertTile
public import Idealize.ShloMosaic.Lib.Pipeline.ValueKit
public import Idealize.ShloMosaic.Lib.Pipeline.ReadBack

@[expose] public section

set_option maxRecDepth 16384

noncomputable section

namespace Proof.ExpertBlock

open Idealize.ShloMosaic Idealize.ShloMosaic.TcCoe Idealize.SL.Sem
open Cert.Kernel7Ideal Cert.Kernel7Ideal.Gen
open Proof.ExpertTile

variable (m : (ℓ : Loc nD τ sig) → Buf (Elt Ideal) ℓ)

/-- The gated activations of a block: tokens down, experts across. -/
def weights (X3 : Vec Ideal S8x1x128x512 .f32) (X4 : Vec Ideal S8x64x512 .i32) (X5 X6 : Vec Ideal S4x32x128 .f32) (A : Vec Ideal S512x512 .f32) : Vec Ideal S512x512 .bf16 :=
  fun y => tile X3 X4 X5 X6 A ((y 1).val / 128) ((y 0).val / 128) (by have h : (y 1).val < 512 := (y 1).isLt; omega)
    (by have h : (y 0).val < 512 := (y 0).isLt; omega)
    (ix2 ⟨(y 0).val % 128, Nat.mod_lt _ (by decide)⟩ ⟨(y 1).val % 128, Nat.mod_lt _ (by decide)⟩)

/-- A stored piece is the block's there. -/
theorem tile_piece (X3 : Vec Ideal S8x1x128x512 .f32) (X4 : Vec Ideal S8x64x512 .i32) (X5 X6 : Vec Ideal S4x32x128 .f32) (A : Vec Ideal S512x512 .f32) (ii lc : ℕ) (hi : ii < 4)
    (hl : lc < 4) (y : S512x512.Idx) (x : S128x128.Idx) (h0 : (y 0).val = lc * 128 + (x 0).val) (h1 : (y 1).val = ii * 128 + (x 1).val) :
    tile X3 X4 X5 X6 A ii lc hi hl x = weights X3 X4 X5 X6 A y := by
  have x0 : (x 0).val < 128 := (x 0).isLt
  have x1 : (x 1).val < 128 := (x 1).isLt
  have e0 : lc = (y 0).val / 128 := by omega
  have e1 : ii = (y 1).val / 128 := by omega
  subst e0 e1
  unfold weights
  refine congrArg _ ?_
  funext a
  match a with
  | ⟨0, _⟩ => exact Fin.ext (by show (x 0).val = (y 0).val % 128; omega)
  | ⟨1, _⟩ => exact Fin.ext (by show (x 1).val = (y 1).val % 128; omega)

/-- A place in the whole rectangle is itself. -/
theorem whole_idx (inb : ∀ a, (![0, 0] : Fin 2 → ℕ) a + (![512, 512] : Fin 2 → ℕ) a ≤ S512x512.size a) (y : S512x512.Idx) :
    (Rect.unit (s := S512x512) ![0, 0] ![512, 512] inb).toLoadRect.idx y = y := by
  funext a
  refine Fin.ext ?_
  match a with
  | ⟨0, _⟩ => show 0 + 1 * (y 0).val = (y 0).val; omega
  | ⟨1, _⟩ => show 0 + 1 * (y 1).val = (y 1).val; omega

/-- The stored pieces, read as the one array they spell. -/
theorem cov_congr {W : Vec Ideal S512x512 .bf16} (v : View sig .tc .vmem S512x512 .bf16) (L : List (View.Piece (Elt Ideal) S512x512 .bf16))
    (inb : ∀ a, (![0, 0] : Fin 2 → ℕ) a + (![512, 512] : Fin 2 → ℕ) a ≤ S512x512.size a)
    (h : ∀ y, View.canon L y = W y) : v.readCov L (Rect.unit (s := S512x512) ![0, 0] ![512, 512] inb).toLoadRect = W := by
  rw [View.readCov_eq_canon']
  funext y
  exact (congrArg (View.canon L) (whole_idx inb y)).trans (h y)

set_option maxHeartbeats 8000000 in
set_option maxRecDepth 100000 in
/-- A grid point adds its block of gated activations times its block of output rows: to the residual at the first point of a row block, else to what the point before left. -/
theorem out_step (c : Dev nD) (t : Fin cfg0.N) :
    outsAt0 m c t.val t.isLt = k0_pay2 (F := Ideal) (if t.val % 32 = 0 then iblk m c 7 t else outsAt0 m c (t.val - 1) (Nat.lt_of_le_of_lt (Nat.sub_le _ _) t.isLt))
      (weights (iblk m c 3 t) (iblk m c 4 t) (iblk m c 5 t) (iblk m c 6 t) (k0_pay3 (F := Ideal) (iblk m c 1 t) (iblk m c 0 t))) (iblk m c 2 t) := by
  by_cases h0 : t.val % 32 = 0
  case' pos =>
    rw [outsAt0_A m c t h0, if_pos h0]
    frame_open
    simp (disch := decide) only [↓ View.readCov_skip, ↓ View.readCov_cons_toLoadRect, ↓ View.readCov_fill]
    frame_out
    refine congrArg (fun w => k0_pay2 (F := Ideal) (iblk m c 7 t) w (iblk m c 2 t)) (cov_congr _ _ _ fun y => ?_)
  case' neg =>
    rw [outsAt0_B m c t h0, if_neg h0]
    frame_open
    simp (disch := decide) only [↓ View.readCov_skip, ↓ View.readCov_cons_toLoadRect, ↓ View.readCov_fill]
    frame_out
    refine congrArg (fun w => k0_pay2 (F := Ideal) _ w (iblk m c 2 t)) (cov_congr _ _ _ fun y => ?_)
  all_goals
    canon_tiles x g
    · exact tile_piece (iblk m c 3 t) (iblk m c 4 t) (iblk m c 5 t) (iblk m c 6 t) (k0_pay3 (F := Ideal) (iblk m c 1 t) (iblk m c 0 t)) 3 3 (by decide) (by decide) y x (by omega) (by omega)
    · exact tile_piece (iblk m c 3 t) (iblk m c 4 t) (iblk m c 5 t) (iblk m c 6 t) (k0_pay3 (F := Ideal) (iblk m c 1 t) (iblk m c 0 t)) 3 2 (by decide) (by decide) y x (by omega) (by omega)
    · exact tile_piece (iblk m c 3 t) (iblk m c 4 t) (iblk m c 5 t) (iblk m c 6 t) (k0_pay3 (F := Ideal) (iblk m c 1 t) (iblk m c 0 t)) 3 1 (by decide) (by decide) y x (by omega) (by omega)
    · exact tile_piece (iblk m c 3 t) (iblk m c 4 t) (iblk m c 5 t) (iblk m c 6 t) (k0_pay3 (F := Ideal) (iblk m c 1 t) (iblk m c 0 t)) 3 0 (by decide) (by decide) y x (by omega) (by omega)
    · exact tile_piece (iblk m c 3 t) (iblk m c 4 t) (iblk m c 5 t) (iblk m c 6 t) (k0_pay3 (F := Ideal) (iblk m c 1 t) (iblk m c 0 t)) 2 3 (by decide) (by decide) y x (by omega) (by omega)
    · exact tile_piece (iblk m c 3 t) (iblk m c 4 t) (iblk m c 5 t) (iblk m c 6 t) (k0_pay3 (F := Ideal) (iblk m c 1 t) (iblk m c 0 t)) 2 2 (by decide) (by decide) y x (by omega) (by omega)
    · exact tile_piece (iblk m c 3 t) (iblk m c 4 t) (iblk m c 5 t) (iblk m c 6 t) (k0_pay3 (F := Ideal) (iblk m c 1 t) (iblk m c 0 t)) 2 1 (by decide) (by decide) y x (by omega) (by omega)
    · exact tile_piece (iblk m c 3 t) (iblk m c 4 t) (iblk m c 5 t) (iblk m c 6 t) (k0_pay3 (F := Ideal) (iblk m c 1 t) (iblk m c 0 t)) 2 0 (by decide) (by decide) y x (by omega) (by omega)
    · exact tile_piece (iblk m c 3 t) (iblk m c 4 t) (iblk m c 5 t) (iblk m c 6 t) (k0_pay3 (F := Ideal) (iblk m c 1 t) (iblk m c 0 t)) 1 3 (by decide) (by decide) y x (by omega) (by omega)
    · exact tile_piece (iblk m c 3 t) (iblk m c 4 t) (iblk m c 5 t) (iblk m c 6 t) (k0_pay3 (F := Ideal) (iblk m c 1 t) (iblk m c 0 t)) 1 2 (by decide) (by decide) y x (by omega) (by omega)
    · exact tile_piece (iblk m c 3 t) (iblk m c 4 t) (iblk m c 5 t) (iblk m c 6 t) (k0_pay3 (F := Ideal) (iblk m c 1 t) (iblk m c 0 t)) 1 1 (by decide) (by decide) y x (by omega) (by omega)
    · exact tile_piece (iblk m c 3 t) (iblk m c 4 t) (iblk m c 5 t) (iblk m c 6 t) (k0_pay3 (F := Ideal) (iblk m c 1 t) (iblk m c 0 t)) 1 0 (by decide) (by decide) y x (by omega) (by omega)
    · exact tile_piece (iblk m c 3 t) (iblk m c 4 t) (iblk m c 5 t) (iblk m c 6 t) (k0_pay3 (F := Ideal) (iblk m c 1 t) (iblk m c 0 t)) 0 3 (by decide) (by decide) y x (by omega) (by omega)
    · exact tile_piece (iblk m c 3 t) (iblk m c 4 t) (iblk m c 5 t) (iblk m c 6 t) (k0_pay3 (F := Ideal) (iblk m c 1 t) (iblk m c 0 t)) 0 2 (by decide) (by decide) y x (by omega) (by omega)
    · exact tile_piece (iblk m c 3 t) (iblk m c 4 t) (iblk m c 5 t) (iblk m c 6 t) (k0_pay3 (F := Ideal) (iblk m c 1 t) (iblk m c 0 t)) 0 1 (by decide) (by decide) y x (by omega) (by omega)
    · exact tile_piece (iblk m c 3 t) (iblk m c 4 t) (iblk m c 5 t) (iblk m c 6 t) (k0_pay3 (F := Ideal) (iblk m c 1 t) (iblk m c 0 t)) 0 0 (by decide) (by decide) y x (by omega) (by omega)

end Proof.ExpertBlock

end

end
-- ==== Proof.Experts.lean ====
/- The experts' output at one index, as the launch leaves it. -/
module

public import proofs.«01_k».proof.Proof.ExpertBlock

@[expose] public section

set_option maxRecDepth 16384

noncomputable section

namespace Proof.Experts

open Idealize.ShloMosaic Idealize.ShloMosaic.TcCoe Idealize.SL.Sem
open Cert.Kernel7Ideal Cert.Kernel7Ideal.Gen Cert.Kernel7Ideal.Value
open Proof.ExpertTile Proof.ExpertBlock

variable (m : (ℓ : Loc nD τ sig) → Buf (Elt Ideal) ℓ)

/-- A block of gated activations at an index. -/
theorem weights_apply (X3 : Vec Ideal S8x1x128x512 .f32) (X4 : Vec Ideal S8x64x512 .i32) (X5 X6 : Vec Ideal S4x32x128 .f32) (A : Vec Ideal S512x512 .f32) (r e : Fin 512) :
    weights X3 X4 X5 X6 A (ix2 r e)
      = gated (gateAt X3 X4 X5 X6 (e.val / 128) (r.val / 128) (by omega) (by omega) ⟨r.val % 128, by omega⟩ ⟨e.val % 128, by omega⟩) (A (ix2 e r)) := by
  refine (tile_apply X3 X4 X5 X6 A (e.val / 128) (r.val / 128) (by omega) (by omega) ⟨r.val % 128, by omega⟩ ⟨e.val % 128, by omega⟩).trans ?_
  refine congrArg (fun i => gated _ (A i)) ?_
  funext a
  match a with
  | ⟨0, _⟩ => exact Fin.ext (by show e.val / 128 * 128 + e.val % 128 = e.val; omega)
  | ⟨1, _⟩ => exact Fin.ext (by show r.val / 128 * 128 + r.val % 128 = r.val; omega)

/-- The accumulation at an index. -/
theorem sum_apply (x : Vec Ideal S512x4096 .f32) (w : Vec Ideal S512x512 .bf16) (v : Vec Ideal S512x4096 .bf16) (r : Fin 512) (l : Fin 4096) :
    k0_pay2 (F := Ideal) x w v (ix2 r l) = x (ix2 r l) + ∑ e : Fin 512, w (ix2 r e) * v (ix2 e l) := by
  pointwise [k0_pay2]

/-- The activations at an index. -/
theorem act_apply (u h : Vec Ideal S512x4096 .bf16) (e r : Fin 512) :
    k0_pay3 (F := Ideal) u h (ix2 e r) = ∑ k : Fin 4096, u (ix2 e k) * h (ix2 r k) := by
  pointwise [k0_pay3]

/-- Where the blocks lie: point `t` is row block `t / 32` and expert block `t % 32`. -/
theorem idx0 : ∀ t : Fin cfg0.N, win0_0.index t = ![t.val / 32, 0] := (by decide +kernel : ∀ t : Fin grid0.N, _)
theorem idx1 : ∀ t : Fin cfg0.N, win0_1.index t = ![t.val % 32, 0] := (by decide +kernel : ∀ t : Fin grid0.N, _)
theorem idx2 : ∀ t : Fin cfg0.N, win0_2.index t = ![t.val % 32, 0] := (by decide +kernel : ∀ t : Fin grid0.N, _)
theorem idx3 : ∀ t : Fin cfg0.N, win0_3.index t = ![0, 1, 0, t.val / 32] := (by decide +kernel : ∀ t : Fin grid0.N, _)
theorem idx4 : ∀ t : Fin cfg0.N, win0_4.index t = ![0, 0, t.val / 32] := (by decide +kernel : ∀ t : Fin grid0.N, _)
theorem idx5 : ∀ t : Fin cfg0.N, win0_5.index t = ![t.val / 32, t.val % 32, 0] := (by decide +kernel : ∀ t : Fin grid0.N, _)
theorem idx6 : ∀ t : Fin cfg0.N, win0_6.index t = ![t.val / 32, t.val % 32, 0] := (by decide +kernel : ∀ t : Fin grid0.N, _)
theorem idx7 : ∀ t : Fin cfg0.N, win0_7.index t = ![t.val / 32, 0] := (by decide +kernel : ∀ t : Fin grid0.N, _)
theorem idx8 : ∀ t : Fin cfg0.N, win0_8.index t = ![t.val / 32, 0] := (by decide +kernel : ∀ t : Fin grid0.N, _)

/-- The blocks, read from the arguments. -/
theorem blk0 (c : Dev nD) (t : Fin cfg0.N) (r : Fin 512) (k : Fin 4096) (y : S16384x4096.Idx)
    (h0 : (y 0).val = t.val / 32 * 512 + r.val) (h1 : (y 1).val = k.val) : iblk m c 0 t (ix2 r k) = m ((c : Thread nD τ).loc main_arg0) y := by
  blk_ext [iblk, V, idx0 t]
theorem blk1 (c : Dev nD) (t : Fin cfg0.N) (e : Fin 512) (k : Fin 4096) (y : S16384x4096.Idx)
    (h0 : (y 0).val = t.val % 32 * 512 + e.val) (h1 : (y 1).val = k.val) : iblk m c 1 t (ix2 e k) = m ((c : Thread nD τ).loc main_arg1) y := by
  blk_ext [iblk, V, idx1 t]
theorem blk2 (c : Dev nD) (t : Fin cfg0.N) (e : Fin 512) (l : Fin 4096) (y : S16384x4096.Idx)
    (h0 : (y 0).val = t.val % 32 * 512 + e.val) (h1 : (y 1).val = l.val) : iblk m c 2 t (ix2 e l) = m ((c : Thread nD τ).loc main_arg2) y := by
  blk_ext [iblk, V, idx2 t]
theorem blk3 (c : Dev nD) (t : Fin cfg0.N) (h : Fin 8) (k : Fin 128) (r : Fin 512) (y : S8x2x128x16384.Idx)
    (h0 : (y 0).val = h.val) (h1 : (y 1).val = 1) (h2 : (y 2).val = k.val) (h3 : (y 3).val = t.val / 32 * 512 + r.val) :
    iblk m c 3 t (ix4 h 0 k r) = m ((c : Thread nD τ).loc main_arg3) y := by
  blk_ext [iblk, V, idx3 t]
theorem blk4 (c : Dev nD) (t : Fin cfg0.N) (h : Fin 8) (k : Fin 64) (r : Fin 512) (y : S8x64x16384.Idx)
    (h0 : (y 0).val = h.val) (h1 : (y 1).val = k.val) (h2 : (y 2).val = t.val / 32 * 512 + r.val) :
    iblk m c 4 t (ix3 h k r) = m ((c : Thread nD τ).loc main_arg4) y := by
  blk_ext [iblk, V, idx4 t]
theorem blk5 (c : Dev nD) (t : Fin cfg0.N) (g : Fin 4) (k : Fin 32) (r : Fin 128) (y : S128x1024x128.Idx)
    (h0 : (y 0).val = t.val / 32 * 4 + g.val) (h1 : (y 1).val = t.val % 32 * 32 + k.val) (h2 : (y 2).val = r.val) :
    iblk m c 5 t (ix3 g k r) = m ((c : Thread nD τ).loc main_arg5) y := by
  blk_ext [iblk, V, idx5 t]
theorem blk6 (c : Dev nD) (t : Fin cfg0.N) (g : Fin 4) (k : Fin 32) (r : Fin 128) (y : S128x1024x128.Idx)
    (h0 : (y 0).val = t.val / 32 * 4 + g.val) (h1 : (y 1).val = t.val % 32 * 32 + k.val) (h2 : (y 2).val = r.val) :
    iblk m c 6 t (ix3 g k r) = m ((c : Thread nD τ).loc main_arg6) y := by
  blk_ext [iblk, V, idx6 t]
theorem blk7 (c : Dev nD) (t : Fin cfg0.N) (r : Fin 512) (l : Fin 4096) (y : S16384x4096.Idx)
    (h0 : (y 0).val = t.val / 32 * 512 + r.val) (h1 : (y 1).val = l.val) : iblk m c 7 t (ix2 r l) = m ((c : Thread nD τ).loc main_arg7) y := by
  blk_ext [iblk, V, idx7 t]

/-- The gate of expert `n` for token `p`, from the scores of the second keys, the thresholds, the first factors and the second factors' words. -/
def gateOf (sc : Vec Ideal S8x2x128x16384 .f32) (ew : Vec Ideal S8x64x16384 .i32) (th hc : Vec Ideal S128x1024x128 .f32) (p n : Fin 16384) : EReal :=
  ∑ h : Fin 8, gate (sc (ix4 h 1 ⟨n.val % 128, by omega⟩ p)) (th (ix3 ⟨p.val / 128, by omega⟩ ⟨n.val / 128 * 8 + h.val, by omega⟩ ⟨p.val % 128, by omega⟩))
    (hc (ix3 ⟨p.val / 128, by omega⟩ ⟨n.val / 128 * 8 + h.val, by omega⟩ ⟨p.val % 128, by omega⟩)) (half (ew (ix3 h ⟨n.val % 128 / 2, by omega⟩ p)) (n.val % 128 % 2))

/-- What expert `n` gives token `p` at column `l`. -/
def gift (h u v : Vec Ideal S16384x4096 .bf16) (sc : Vec Ideal S8x2x128x16384 .f32) (ew : Vec Ideal S8x64x16384 .i32) (th hc : Vec Ideal S128x1024x128 .f32)
    (p : Fin 16384) (l : Fin 4096) (n : Fin 16384) : EReal :=
  gated (gateOf sc ew th hc p n) (∑ k : Fin 4096, u (ix2 n k) * h (ix2 p k)) * v (ix2 n l)

/-- The arguments' gift. -/
def giftAt (c : Dev nD) (p : Fin 16384) (l : Fin 4096) (n : Fin 16384) : EReal :=
  gift (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) p l n

/-- A block's gates are the experts'. -/
theorem gate_eq (c : Dev nD) (t : Fin cfg0.N) (r e : Fin 512) (p n : Fin 16384) (hp : p.val = t.val / 32 * 512 + r.val) (hn : n.val = t.val % 32 * 512 + e.val) :
    gateAt (iblk m c 3 t) (iblk m c 4 t) (iblk m c 5 t) (iblk m c 6 t) (e.val / 128) (r.val / 128) (by omega) (by omega) ⟨r.val % 128, by omega⟩ ⟨e.val % 128, by omega⟩
      = gateOf (m ((c : Thread nD τ).loc main_arg3)) (m ((c : Thread nD τ).loc main_arg4)) (m ((c : Thread nD τ).loc main_arg5)) (m ((c : Thread nD τ).loc main_arg6)) p n := by
  refine Finset.sum_congr rfl fun h _ => ?_
  have hh := h.isLt
  refine congr (congr (congr (congrArg gate ?_) ?_) ?_) ?_
  · exact blk3 m c t h _ _ (ix4 h 1 _ p) rfl rfl (by show n.val % 128 = e.val % 128; omega) (by show p.val = t.val / 32 * 512 + (r.val / 128 * 128 + r.val % 128); omega)
  · exact blk5 m c t _ _ _ (ix3 _ _ _) (by show p.val / 128 = t.val / 32 * 4 + r.val / 128; omega)
      (by show n.val / 128 * 8 + h.val = t.val % 32 * 32 + (e.val / 128 * 8 + h.val); omega) (by show p.val % 128 = r.val % 128; omega)
  · exact blk6 m c t _ _ _ (ix3 _ _ _) (by show p.val / 128 = t.val / 32 * 4 + r.val / 128; omega)
      (by show n.val / 128 * 8 + h.val = t.val % 32 * 32 + (e.val / 128 * 8 + h.val); omega) (by show p.val % 128 = r.val % 128; omega)
  · refine congrArg₂ half (blk4 m c t h _ _ (ix3 h _ p) rfl (by show n.val % 128 / 2 = e.val % 128 / 2; omega)
      (by show p.val = t.val / 32 * 512 + (r.val / 128 * 128 + r.val % 128); omega)) ?_
    show e.val % 128 % 2 = n.val % 128 % 2
    omega

/-- One product of a block's accumulation is an expert's gift. -/
theorem gift_eq (c : Dev nD) (t : Fin cfg0.N) (r e : Fin 512) (l : Fin 4096) (p n : Fin 16384) (hp : p.val = t.val / 32 * 512 + r.val) (hn : n.val = t.val % 32 * 512 + e.val) :
    weights (iblk m c 3 t) (iblk m c 4 t) (iblk m c 5 t) (iblk m c 6 t) (k0_pay3 (F := Ideal) (iblk m c 1 t) (iblk m c 0 t)) (ix2 r e) * iblk m c 2 t (ix2 e l) = giftAt m c p l n := by
  refine congrArg₂ (fun a b : EReal => a * b) ?_ (blk2 m c t e l (ix2 n l) hn rfl)
  refine (weights_apply _ _ _ _ _ _ _).trans (congrArg₂ gated (gate_eq m c t r e p n hp hn) ?_)
  refine (act_apply _ _ _ _).trans (Finset.sum_congr rfl fun k _ => ?_)
  exact congrArg₂ (fun a b : EReal => a * b) (blk1 m c t e k (ix2 n k) hn rfl) (blk0 m c t r k (ix2 p k) hp rfl)

/-- One block of experts' gifts to a token. -/
def blockSum (c : Dev nD) (p : Fin 16384) (l : Fin 4096) (b : ℕ) : EReal :=
  if hb : b < 32 then ∑ e : Fin 512, giftAt m c p l ⟨b * 512 + e.val, by omega⟩ else 0

/-- The residual's entry. -/
def residAt (c : Dev nD) (p : Fin 16384) (l : Fin 4096) : EReal := m ((c : Thread nD τ).loc main_arg7) (ix2 p l)

/-- What a grid point leaves at an index. -/
def accAt (c : Dev nD) (n : ℕ) (hn : n < cfg0.N) (r : Fin 512) (l : Fin 4096) : EReal := outsAt0 m c n hn (ix2 r l)

/-- One grid point's step at an index. -/
theorem step_apply (c : Dev nD) (t : Fin cfg0.N) (r : Fin 512) (l : Fin 4096) (p : Fin 16384) (hp : p.val = t.val / 32 * 512 + r.val) :
    accAt m c t.val t.isLt r l
      = (if t.val % 32 = 0 then residAt m c p l else accAt m c (t.val - 1) (Nat.lt_of_le_of_lt (Nat.sub_le _ _) t.isLt) r l)
        + blockSum m c p l (t.val % 32) := by
  have hb : t.val % 32 < 32 := Nat.mod_lt _ (by decide)
  refine (congrFun (out_step m c t) (ix2 r l)).trans ((sum_apply _ _ _ _ _).trans (congrArg₂ (fun a b : EReal => a + b) ?_ ?_))
  · by_cases h : t.val % 32 = 0
    · rw [if_pos h, if_pos h]
      exact blk7 m c t r l (ix2 p l) hp rfl
    · rw [if_neg h, if_neg h]
      rfl
  · unfold blockSum
    rw [dif_pos hb]
    exact Finset.sum_congr rfl fun e _ => gift_eq m c t r e l p _ hp rfl

/-- After a grid point its row block holds the residual and the gifts of the blocks up to its own. -/
theorem after_point (c : Dev nD) (r : Fin 512) (l : Fin 4096) (p : Fin 16384) : ∀ (n : ℕ) (hn : n < cfg0.N), p.val = n / 32 * 512 + r.val →
    accAt m c n hn r l = residAt m c p l + ∑ b ∈ Finset.range (n % 32 + 1), blockSum m c p l b := by
  intro n
  induction n with
  | zero =>
    intro hn hp
    refine (step_apply m c ⟨0, hn⟩ r l p hp).trans ?_
    rw [if_pos (Nat.zero_mod 32)]
    show _ = _ + ∑ b ∈ Finset.range 1, _
    rw [Finset.sum_range_one]
    rfl
  | succ n ih =>
    intro hn hp
    refine (step_apply m c ⟨n + 1, hn⟩ r l p hp).trans ?_
    by_cases h : (n + 1) % 32 = 0
    · rw [if_pos h, h]
      show _ = _ + ∑ b ∈ Finset.range 1, _
      rw [Finset.sum_range_one]
    · rw [if_neg h]
      have e : (n + 1) % 32 = n % 32 + 1 := by omega
      rw [e, Finset.sum_range_succ, ← add_assoc]
      exact congrArg (fun a : EReal => a + blockSum m c p l (n % 32 + 1)) (ih (Nat.lt_of_succ_lt hn) (by omega))

/-- Every expert's gift, summed block by block. -/
theorem blocks_sum (c : Dev nD) (p : Fin 16384) (l : Fin 4096) : ∑ b ∈ Finset.range 32, blockSum m c p l b = ∑ n : Fin 16384, giftAt m c p l n := by
  rw [← Fin.sum_univ_eq_sum_range (fun b => blockSum m c p l b) 32]
  have e : ∀ b : Fin 32, blockSum m c p l b.val = ∑ e : Fin 512, giftAt m c p l (finProdFinEquiv (b, e)) := fun b => by
    unfold blockSum
    rw [dif_pos b.isLt]
    refine Finset.sum_congr rfl fun e _ => congrArg _ (Fin.ext ?_)
    show b.val * 512 + e.val = e.val + 512 * b.val
    omega
  rw [Finset.sum_congr rfl fun b _ => e b, ← Fintype.sum_prod_type' (fun (b : Fin 32) (e : Fin 512) => giftAt m c p l (finProdFinEquiv (b, e)))]
  exact Equiv.sum_comp (finProdFinEquiv (m := 32) (n := 512)) (giftAt m c p l)

/-- Two points that write back write different row blocks. -/
theorem apart : ∀ t t' : Fin cfg0.N, (cfg0.win 8).flush t = true → (cfg0.win 8).flush t' = true → t ≠ t' →
    Disjoint ((cfg0.win 8).blk t).view.set ((cfg0.win 8).blk t').view.set := by
  intro t t' h h' hne
  refine (cfg0.win 8).disjoint_blk fun e => hne (Fin.ext ?_)
  have g := (flush0_8 t).mp h
  have g' := (flush0_8 t').mp h'
  have i : t.val / 32 = t'.val / 32 := by
    have i := congrFun (((idx8 t).symm.trans e).trans (idx8 t')) 0
    exact i
  omega

/-- An entry of the array is that of its row block's last point. -/
theorem array_entry (c : Dev nD) (t : Fin cfg0.N) (ht : t.val % 32 = 31) (r : Fin 512) (l : Fin 4096) (i : S16384x4096.Idx)
    (h0 : (i 0).val = t.val / 32 * 512 + r.val) (h1 : (i 1).val = l.val) :
    (dats m 0 c).arrAt 8 cfg0.N i = accAt m c t.val t.isLt r l := by
  have e := congrFun ((dats m 0 c).read_blk_arrAt_eq_flushed 8 apart cfg0.N t t.isLt ((flush0_8 t).mpr ht)) (ix2 r l)
  rw [flushed8] at e
  refine Eq.trans (congrArg _ ?_) e
  funext a
  refine Fin.ext ?_
  have g := idx8 t
  match a with
  | ⟨0, _⟩ =>
    have g0 := congrFun g 0
    show (i 0).val = win0_8.index t 0 * 512 + 1 * r.val
    rw [g0, h0]; show _ = t.val / 32 * 512 + 1 * r.val; omega
  | ⟨1, _⟩ =>
    have g1 := congrFun g 1
    show (i 1).val = win0_8.index t 1 * 4096 + 1 * l.val
    rw [g1, h1]; show _ = 0 * 4096 + 1 * l.val; omega

/-- The array at an index: the residual and every expert's gift. -/
theorem array_apply (c : Dev nD) (p : Fin 16384) (l : Fin 4096) :
    (dats m 0 c).arrAt 8 cfg0.N (ix2 p l) = residAt m c p l + ∑ n : Fin 16384, giftAt m c p l n := by
  have hN : cfg0.N = 1024 := N_0
  have hp := p.isLt
  obtain ⟨t, ht⟩ : ∃ t : Fin cfg0.N, t.val = p.val / 512 * 32 + 31 := ⟨⟨p.val / 512 * 32 + 31, by omega⟩, rfl⟩
  have hm : t.val % 32 = 31 := by omega
  have hr : p.val = t.val / 32 * 512 + p.val % 512 := by omega
  rw [array_entry m c t hm ⟨p.val % 512, by omega⟩ l (ix2 p l) hr rfl, after_point m c ⟨p.val % 512, by omega⟩ l p t.val t.isLt hr, hm]
  exact congrArg (fun a : EReal => residAt m c p l + a) (blocks_sum m c p l)

end Proof.Experts

end

end
-- ==== Proof.RefExperts.lean ====
/- The reference's experts at one index. -/
module

public import proofs.«01_k».proof.Proof.Gen.Reference7Ideal.Run
public import Idealize.ShloMosaic.Lib.Pointwise
public import Idealize.ShloMosaic.Lib.BitcastConvert

@[expose] public section

set_option maxRecDepth 16384

noncomputable section

namespace Proof.RefExperts

open Idealize.ShloMosaic Idealize.ShloMosaic.TcCoe Idealize.SL.Sem
open Cert.Reference7Ideal Cert.Reference7Ideal.Gen

/-- The first keys' thresholds or factors by head, key and token. -/
def firsts (a : Vec Ideal S128x1024x128 .f32) : Vec Ideal S8x128x16384 .f32 :=
  shapeCast (α := Ideal .f32) _ (transpose (α := Ideal .f32) S8x128x128x128 [2, 1, 0, 3] (shapeCast (α := Ideal .f32) _ a shapeCasts_S128x1024x128_S128x128x8x128)
    transposes_S128x128x8x128_S8x128x128x128_2_1_0_3) shapeCasts_S8x128x128x128_S8x128x16384

/-- The second keys' factors by head, key and token, two in each word. -/
def seconds (a : Vec Ideal S8x64x16384 .i32) : Vec Ideal S8x128x16384 .f32 :=
  shapeCast (α := Ideal .f32) _ (transpose (α := Ideal .f32) S8x64x2x16384 [0, 1, 3, 2] (extf (F := Ideal) .f32 (bitcastToFloat (F := Ideal) .bf16
    (Host.bitcastConvertNarrow S8x64x16384x2 16 a splits_S8x64x16384_w32_S8x64x16384x2_w16)) bitsLt_bf16_f32) transposes_S8x64x16384x2_S8x64x2x16384_0_1_3_2)
    shapeCasts_S8x64x2x16384_S8x128x16384

/-- The second keys' scores by head, key and token. -/
def scores (a : Vec Ideal S8x2x128x16384 .f32) : Vec Ideal S8x128x16384 .f32 :=
  shapeCast (α := Ideal .f32) _ (extractStridedSlice (α := Ideal .f32) S8x1x128x16384 ![0, 1, 0, 0] a slices_S8x2x128x16384_S8x1x128x16384_0_1_0_0)
    shapeCasts_S8x1x128x16384_S8x128x16384

/-- An array over the first keys, repeated over the second. -/
def overFirst (a : Vec Ideal S8x128x16384 .f32) : Vec Ideal S8x128x128x16384 .f32 :=
  broadcastInDim (α := Ideal .f32) S8x128x128x16384 ![0, 1, 2, 3] bcast_S8x128x1x16384_S8x128x128x16384_0_1_2_3
    (broadcastInDim (α := Ideal .f32) S8x128x1x16384 ![0, 1, 3] bcast_S8x128x16384_S8x128x1x16384_0_1_3 a)

/-- An array over the second keys, repeated over the first. -/
def overSecond (a : Vec Ideal S8x128x16384 .f32) : Vec Ideal S8x128x128x16384 .f32 :=
  broadcastInDim (α := Ideal .f32) S8x128x128x16384 ![0, 1, 2, 3] bcast_S8x1x128x16384_S8x128x128x16384_0_1_2_3
    (broadcastInDim (α := Ideal .f32) S8x1x128x16384 ![0, 2, 3] bcast_S8x128x16384_S8x1x128x16384_0_2_3 a)

/-- The heads' gates summed, by first key, second key and token. -/
def summed (s l f e : Vec Ideal S8x128x16384 .f32) : Vec Ideal S128x128x16384 .f32 :=
  Host.reduceAdd (F := Ideal) (φ := .f32) (select (α := Ideal .f32) (cmpf (F := Ideal) (φ := .f32) .oge (overSecond s) (overFirst l)) (mulf (F := Ideal) (φ := .f32) (overFirst f) (overSecond e))
    (broadcastInDim (α := Ideal .f32) S8x128x128x16384 ![] bcast_S_S8x128x128x16384 (id (constant (F := Ideal) S_ .f32 0x00000000#32))))
    (constant (F := Ideal) S_ .f32 0x00000000#32) reducesTo_S8x128x128x16384_S128x128x16384_d0 h_S_

/-- The gates by token and expert. -/
def gates (g : Vec Ideal S128x128x16384 .f32) : Vec Ideal S16384x16384 .f32 :=
  mulf (F := Ideal) (φ := .f32) (broadcastInDim (α := Ideal .f32) S16384x16384 ![] bcast_S_S16384x16384 (constant (F := Ideal) S_ .f32 0x40000000#32))
    (transpose (α := Ideal .f32) S16384x16384 [1, 0] (shapeCast (α := Ideal .f32) _ g shapeCasts_S128x128x16384_S16384x16384) transposes_S16384x16384_S16384x16384_1_0)

/-- The experts' activations by token and expert. -/
def acts (h u : Vec Ideal S16384x4096 .bf16) : Vec Ideal S16384x16384 .f32 :=
  Host.dotGeneral (F := Ideal) (φ₂ := .f32) dot_S16384x4096_S4096x16384_S16384x16384_1_0_0_1_n_n none (extf (F := Ideal) .f32 h bitsLt_bf16_f32)
    (transpose (α := Ideal .f32) S4096x16384 [1, 0] (extf (F := Ideal) .f32 u bitsLt_bf16_f32) transposes_S16384x4096_S4096x16384_1_0)

/-- Gelu of every activation. -/
def gelus (a : Vec Ideal S16384x16384 .f32) : Vec Ideal S16384x16384 .f32 :=
  mulf (F := Ideal) (φ := .f32) a (mulf (F := Ideal) (φ := .f32) (broadcastInDim (α := Ideal .f32) S16384x16384 ![] bcast_S_S16384x16384 (constant (F := Ideal) S_ .f32 0x3F000000#32))
    (addf (F := Ideal) (φ := .f32) (broadcastInDim (α := Ideal .f32) S16384x16384 ![] bcast_S_S16384x16384 (constant (F := Ideal) S_ .f32 0x3F800000#32))
      (Host.tanh (F := Ideal) (φ := .f32) (mulf (F := Ideal) (φ := .f32) (broadcastInDim (α := Ideal .f32) S16384x16384 ![] bcast_S_S16384x16384 (constant (F := Ideal) S_ .f32 0x3F4C422A#32))
        (addf (F := Ideal) (φ := .f32) a (mulf (F := Ideal) (φ := .f32) (broadcastInDim (α := Ideal .f32) S16384x16384 ![] bcast_S_S16384x16384 (constant (F := Ideal) S_ .f32 0x3D372713#32))
          (mulf (F := Ideal) (φ := .f32) (mulf (F := Ideal) (φ := .f32) a a) a)))))))

/-- The residual and the experts' outputs, weighted. -/
def mixed (w : Vec Ideal S16384x16384 .f32) (v : Vec Ideal S16384x4096 .bf16) (x : Vec Ideal S16384x4096 .f32) : Vec Ideal S16384x4096 .f32 :=
  addf (F := Ideal) (φ := .f32) x (Host.dotGeneral (F := Ideal) (φ₁ := .f32) (φ₂ := .f32) dot_S16384x16384_S16384x4096_S16384x4096_1_0_0_1_n_n none w (extf (F := Ideal) .f32 v bitsLt_bf16_f32))

/-- The reference's array. -/
def output (h u v : Vec Ideal S16384x4096 .bf16) (sc : Vec Ideal S8x2x128x16384 .f32) (ew : Vec Ideal S8x64x16384 .i32) (th hc : Vec Ideal S128x1024x128 .f32)
    (x : Vec Ideal S16384x4096 .f32) : Vec Ideal S16384x4096 .f32 :=
  mixed (mulf (F := Ideal) (φ := .f32) (gates (summed (scores sc) (firsts th) (firsts hc) (seconds ew))) (gelus (acts h u))) v x

/-- The composed term that the run leaves is that array. -/
theorem result_eq (m : (ℓ : Loc nD τ sig) → Buf (Elt Ideal) ℓ) (c : Dev nD) :
    Cert.Reference7Ideal.Value.res_main_v48 (F := Ideal) m c = output (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) := rfl

/-- The parts at an index. -/
theorem firsts_apply (a : Vec Ideal S128x1024x128 .f32) (h : Fin 8) (k : Fin 128) (p : Fin 16384) :
    firsts a (ix3 h k p) = a (ix3 ⟨p.val / 128, by omega⟩ ⟨k.val * 8 + h.val, by omega⟩ ⟨p.val % 128, by omega⟩) := by
  pointwise [firsts]

theorem seconds_apply (a : Vec Ideal S8x64x16384 .i32) (h : Fin 8) (k : Fin 128) (p : Fin 16384) :
    seconds a (ix3 h k p) = Ideal.ofBits .bf16 ((a (ix3 h ⟨k.val / 2, by omega⟩ p)).extractLsb' (16 * (k.val % 2)) 16) := by
  pointwise [seconds, Host.bitcastConvertNarrow_apply]
  rw [Nat.mul_comm]
  refine congrArg (fun w : BitVec 32 => Ideal.ofBits .bf16 (w.extractLsb' (16 * (k.val % 2)) 16)) (congrArg a (funext fun d => ?_))
  match d with
  | ⟨0, _⟩ => rfl
  | ⟨1, _⟩ => rfl
  | ⟨2, _⟩ => rfl

theorem scores_apply (a : Vec Ideal S8x2x128x16384 .f32) (h : Fin 8) (k : Fin 128) (p : Fin 16384) :
    scores a (ix3 h k p) = a (ix4 h 1 k p) := by
  pointwise [scores]

theorem overFirst_apply (a : Vec Ideal S8x128x16384 .f32) (h : Fin 8) (i j : Fin 128) (p : Fin 16384) : overFirst a (ix4 h i j p) = a (ix3 h i p) := by
  pointwise [overFirst]

theorem overSecond_apply (a : Vec Ideal S8x128x16384 .f32) (h : Fin 8) (i j : Fin 128) (p : Fin 16384) : overSecond a (ix4 h i j p) = a (ix3 h j p) := by
  pointwise [overSecond]

/-- One head's gate. -/
def gate (s l f e : EReal) : EReal := if l ≤ s then f * e else 0

theorem summed_apply (s l f e : Vec Ideal S8x128x16384 .f32) (i j : Fin 128) (p : Fin 16384) :
    summed s l f e (ix3 i j p) = ∑ h : Fin 8, gate (s (ix3 h j p)) (l (ix3 h i p)) (f (ix3 h i p)) (e (ix3 h j p)) := by
  pointwise [summed, overFirst_apply, overSecond_apply, gate, id_eq]

theorem gates_apply (g : Vec Ideal S128x128x16384 .f32) (p n : Fin 16384) :
    gates g (ix2 p n) = Ideal.ofBits .f32 0x40000000#32 * g (ix3 ⟨n.val / 128, by omega⟩ ⟨n.val % 128, by omega⟩ p) := by
  pointwise [gates]

theorem acts_apply (h u : Vec Ideal S16384x4096 .bf16) (p n : Fin 16384) : acts h u (ix2 p n) = ∑ k : Fin 4096, h (ix2 p k) * u (ix2 n k) := by
  pointwise [acts]

/-- Gelu of one activation. -/
def gelu (a : EReal) : EReal :=
  a * (Ideal.ofBits .f32 0x3F000000#32 * (Ideal.ofBits .f32 0x3F800000#32
    + Ideal.tanh (Ideal.ofBits .f32 0x3F4C422A#32 * (a + Ideal.ofBits .f32 0x3D372713#32 * (a * a * a)))))

theorem gelus_apply (a : Vec Ideal S16384x16384 .f32) (p n : Fin 16384) : gelus a (ix2 p n) = gelu (a (ix2 p n)) := by
  pointwise [gelus, gelu]

theorem mixed_apply (w : Vec Ideal S16384x16384 .f32) (v : Vec Ideal S16384x4096 .bf16) (x : Vec Ideal S16384x4096 .f32) (p : Fin 16384) (l : Fin 4096) :
    mixed w v x (ix2 p l) = x (ix2 p l) + ∑ n : Fin 16384, w (ix2 p n) * v (ix2 n l) := by
  pointwise [mixed]

/-- The gate of expert `n` for token `p`, from the arguments. -/
def gateOf (sc : Vec Ideal S8x2x128x16384 .f32) (ew : Vec Ideal S8x64x16384 .i32) (th hc : Vec Ideal S128x1024x128 .f32) (p n : Fin 16384) : EReal :=
  ∑ h : Fin 8, gate (sc (ix4 h 1 ⟨n.val % 128, by omega⟩ p)) (th (ix3 ⟨p.val / 128, by omega⟩ ⟨n.val / 128 * 8 + h.val, by omega⟩ ⟨p.val % 128, by omega⟩))
    (hc (ix3 ⟨p.val / 128, by omega⟩ ⟨n.val / 128 * 8 + h.val, by omega⟩ ⟨p.val % 128, by omega⟩))
    (Ideal.ofBits .bf16 ((ew (ix3 h ⟨n.val % 128 / 2, by omega⟩ p)).extractLsb' (16 * (n.val % 128 % 2)) 16))

/-- The reference's array at an index. -/
theorem output_apply (h u v : Vec Ideal S16384x4096 .bf16) (sc : Vec Ideal S8x2x128x16384 .f32) (ew : Vec Ideal S8x64x16384 .i32) (th hc : Vec Ideal S128x1024x128 .f32)
    (x : Vec Ideal S16384x4096 .f32) (p : Fin 16384) (l : Fin 4096) :
    output h u v sc ew th hc x (ix2 p l) = x (ix2 p l) + ∑ n : Fin 16384, Ideal.ofBits .f32 0x40000000#32 * gateOf sc ew th hc p n
      * gelu (∑ k : Fin 4096, h (ix2 p k) * u (ix2 n k)) * v (ix2 n l) := by
  unfold output
  rw [mixed_apply]
  refine congrArg (fun a : EReal => x (ix2 p l) + a) (Finset.sum_congr rfl fun n _ => ?_)
  refine congrArg (fun a : EReal => a * v (ix2 n l)) (congrArg₂ (fun a b : EReal => a * b) ?_ ?_)
  · rw [gates_apply, summed_apply]
    simp only [scores_apply, firsts_apply, seconds_apply]
    rfl
  · rw [gelus_apply, acts_apply]

end Proof.RefExperts

end

end
-- ==== Proof.Gelu.lean ====
/- The two spellings of gelu meet: the cube taken out of the bracket, and the half taken out of the gate. -/
module

public import Idealize.ShloMosaic.PureOps.Ideal

@[expose] public section

noncomputable section

namespace Proof.Gelu

open Idealize.ShloMosaic

/-- The constants both programs spell. -/
theorem root : Ideal.ofBits .f32 0x3F4C422A#32 = ((6693141 / 8388608 : ℝ) : EReal) := by
  simp [Ideal.ofBits, Ideal.ieee, -EReal.coe_mul]; norm_num

theorem cube : Ideal.ofBits .f32 0x3D372713#32 = ((12003091 / 268435456 : ℝ) : EReal) := by
  simp [Ideal.ofBits, Ideal.ieee, -EReal.coe_mul]; norm_num

theorem one : Ideal.ofBits .f32 0x3F800000#32 = 1 := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem one_half : Ideal.ofBits .f32 0x3F000000#32 = ((1 / 2 : ℝ) : EReal) := by
  simp [Ideal.ofBits, Ideal.ieee, -EReal.coe_mul]; norm_num

/-- The cubic inside the tangent, factored or expanded: equal at every extended real. -/
theorem inner (a : EReal) (p q s : ℝ) (hp : 0 < p) (hq : 0 < q) (hs : s = p * q) :
    a * ((p : EReal) + (s : EReal) * (a * a)) = (p : EReal) * (a + (q : EReal) * (a * a * a)) := by
  have h : 0 < s := hs ▸ mul_pos hp hq
  induction a using EReal.rec with
  | bot =>
    rw [EReal.bot_mul_bot, EReal.coe_mul_top_of_pos h, EReal.coe_add_top, EReal.bot_mul_top, EReal.top_mul_bot, EReal.coe_mul_bot_of_pos hq, EReal.bot_add,
      EReal.coe_mul_bot_of_pos hp]
  | top =>
    rw [EReal.top_mul_top, EReal.coe_mul_top_of_pos h, EReal.coe_add_top, EReal.top_mul_top, EReal.coe_mul_top_of_pos hq, EReal.top_add_top,
      EReal.coe_mul_top_of_pos hp]
  | coe x =>
    subst hs
    norm_cast
    ring

/-- Twice the gate times half the rest is the gate times the rest. -/
theorem halved (s a t : EReal) : ((2 : ℝ) : EReal) * s * (a * (((1 / 2 : ℝ) : EReal) * t)) = s * a * t := by
  have e : ((2 : ℝ) : EReal) * ((1 / 2 : ℝ) : EReal) = 1 := by norm_cast; norm_num
  calc ((2 : ℝ) : EReal) * s * (a * (((1 / 2 : ℝ) : EReal) * t)) = (((2 : ℝ) : EReal) * ((1 / 2 : ℝ) : EReal)) * (s * a * t) := by ac_rfl
    _ = s * a * t := by rw [e, one_mul]

end Proof.Gelu

end

end
-- ==== Proof.Ends.lean ====
/- The claims of the row norm and of the experts: each array against its reference's, and the frames of the references. -/
module

public import proofs.«01_k».proof.Defs
public import proofs.«01_k».proof.Proof.RowNorm
public import proofs.«01_k».proof.Proof.RefRowNorm
public import proofs.«01_k».proof.Proof.Experts
public import proofs.«01_k».proof.Proof.RefExperts
public import proofs.«01_k».proof.Proof.Gelu
public import Idealize.ShloMosaic.Adequacy
public import Idealize.ShloMosaic.Init

@[expose] public section

set_option maxRecDepth 16384

noncomputable section

namespace Proof.Ends

open Idealize.ShloMosaic Idealize.ShloMosaic.TcCoe Idealize.SL.Sem

/-- The norm: the array the launch leaves is the reference's. -/
theorem algebraic6 : Cert.algebraic_Kernel6Ideal_Reference6Ideal (hKernel6Ideal := Cert.Kernel6Ideal.Gen.facts) (hReference6Ideal := Cert.Reference6Ideal.Gen.facts) := by
  intro m g m' g' hpre hag
  refine ⟨fun c => (Cert.Kernel6Ideal.Gen.dats m 0 c).arrAt 2 Cert.Kernel6Ideal.cfg0.N, Cert.Kernel6Ideal.Value.run_blocks m g, ?_⟩
  refine (θ_run _ _ _).mono (fun r h c => ?_) (Cert.Reference6Ideal.Value.run (F := Ideal) m' g')
  obtain ⟨h0, k0, k1⟩ := h c
  obtain ⟨a0, a1⟩ := hag c
  refine ⟨h0.trans ?_, k0, k1⟩
  rw [a0, a1]
  funext i
  obtain ⟨p, q, rfl⟩ : ∃ p q, i = ix2 p q := ⟨i 0, i 1, by funext a; match a with | ⟨0, _⟩ => rfl | ⟨1, _⟩ => rfl⟩
  exact ((Proof.RefRowNorm.normed_eq _ _ p q).trans (Proof.RefRowNorm.whole_apply _ _ _ _ q)).trans (Proof.RowNorm.array_apply m c p q).symm

/-- The named constant is the product of the reference's two. -/
theorem cubic_eq : Named.named (F := Ideal) (φ := .f32) Cert.Kernel7Ideal.κ "cubic" 0x3D122279#32 = ((80338380498831 / 2251799813685248 : ℝ) : EReal) :=
  IdealRules.named_const.ideal_named_scalar _ _ _ _ rfl

/-- The kernel's gated gelu is the reference's, with the gate halved on one side and the gelu on the other. -/
theorem gated_eq (s a : EReal) : Ideal.ofBits .f32 0x40000000#32 * s * Proof.RefExperts.gelu a = Proof.ExpertTile.gated s a := by
  unfold Proof.RefExperts.gelu Proof.ExpertTile.gated
  rw [Gelu.two, Gelu.one_half, Gelu.halved, Gelu.root, Gelu.cube, cubic_eq]
  rw [Gelu.inner a (6693141 / 8388608) (12003091 / 268435456) (80338380498831 / 2251799813685248) (by norm_num) (by norm_num) (by norm_num)]

/-- One head's gate is the same on both sides. -/
theorem gate_eq (sc th hc e : EReal) : Proof.RefExperts.gate sc th hc e = Proof.ExpertTile.gate sc th hc e := by
  unfold Proof.RefExperts.gate Proof.ExpertTile.gate
  rw [mul_comm]

/-- One expert's gift to a token, as the reference spells it. -/
theorem gift_eq (h u v : Vec Ideal Cert.Kernel7Ideal.S16384x4096 .bf16) (sc : Vec Ideal Cert.Kernel7Ideal.S8x2x128x16384 .f32)
    (ew : Vec Ideal Cert.Kernel7Ideal.S8x64x16384 .i32) (th hc : Vec Ideal Cert.Kernel7Ideal.S128x1024x128 .f32) (p : Fin 16384) (l : Fin 4096) (n : Fin 16384) :
    Ideal.ofBits .f32 0x40000000#32 * Proof.RefExperts.gateOf sc ew th hc p n * Proof.RefExperts.gelu (∑ k : Fin 4096, h (ix2 p k) * u (ix2 n k)) * v (ix2 n l)
      = Proof.Experts.gift h u v sc ew th hc p l n := by
  unfold Proof.Experts.gift
  refine congrArg (fun a : EReal => a * v (ix2 n l)) ?_
  rw [gated_eq]
  refine congrArg₂ Proof.ExpertTile.gated (Finset.sum_congr rfl fun i _ => ?_) (Finset.sum_congr rfl fun k _ => mul_comm _ _)
  exact gate_eq _ _ _ _

/-- The experts: the array the launch leaves is the reference's. -/
theorem algebraic7 : Cert.algebraic_Kernel7Ideal_Reference7Ideal (hKernel7Ideal := Cert.Kernel7Ideal.Gen.facts) (hReference7Ideal := Cert.Reference7Ideal.Gen.facts) := by
  intro m g m' g' hpre hag
  refine ⟨fun c => (Cert.Kernel7Ideal.Gen.dats m 0 c).arrAt 8 Cert.Kernel7Ideal.cfg0.N, Cert.Kernel7Ideal.Value.run_blocks m g, ?_⟩
  refine (θ_run _ _ _).mono (fun r h c => ?_) (Cert.Reference7Ideal.Value.run (F := Ideal) m' g')
  obtain ⟨h0, k⟩ := h c
  obtain ⟨a0, a1, a2, a3, a4, a5, a6, a7⟩ := hag c
  refine ⟨h0.trans ?_, k⟩
  refine (Proof.RefExperts.result_eq m' c).trans ?_
  rw [a0, a1, a2, a3, a4, a5, a6, a7]
  funext i
  obtain ⟨p, q, rfl⟩ : ∃ p q, i = ix2 p q := ⟨i 0, i 1, by funext a; match a with | ⟨0, _⟩ => rfl | ⟨1, _⟩ => rfl⟩
  refine (Proof.RefExperts.output_apply _ _ _ _ _ _ _ _ p q).trans (Eq.trans ?_ (Proof.Experts.array_apply m c p q).symm)
  exact congrArg (fun a : EReal => _ + a) (Finset.sum_congr rfl fun n _ => gift_eq _ _ _ _ _ _ _ p q n)

/-- The references run, their arguments end unchanged and no counter is left raised. -/
theorem frame6 : Cert.quiescent_Reference6Ideal (hReference6Ideal := Cert.Reference6Ideal.Gen.facts) := fun m g _ =>
  (θ_run Cert.Reference6Ideal.defs _ _).mono (fun r h => ⟨fun c => (h c).2, sem_eq_zero_of_no_sems (by decide) r.2⟩)
    (Cert.Reference6Ideal.Value.run (F := Ideal) m g)

theorem frame7 : Cert.quiescent_Reference7Ideal (hReference7Ideal := Cert.Reference7Ideal.Gen.facts) := fun m g _ =>
  (θ_run Cert.Reference7Ideal.defs _ _).mono (fun r h => ⟨fun c => (h c).2, sem_eq_zero_of_no_sems (by decide) r.2⟩)
    (Cert.Reference7Ideal.Value.run (F := Ideal) m g)

end Proof.Ends

end

end
-- ==== Proof.lean ====
/- The certificate's claims, each from the modules that prove its parts. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Array
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel6Ideal.Value
public import proofs.«01_k».proof.Proof.Gen.Kernel7Ideal.Value
public import proofs.«01_k».proof.Proof.Gen.Reference6Ideal.Run
public import proofs.«01_k».proof.Proof.Gen.Reference7Ideal.Run
public import proofs.«01_k».proof.Proof.Finite
public import proofs.«01_k».proof.Proof.Products
public import proofs.«01_k».proof.Proof.Ends
public import proofs.«01_k».proof.Proof.Gen.ReferenceIdeal.Run

@[expose] public section

noncomputable section

namespace Cert.Proof

open Idealize.ShloMosaic Idealize.ShloMosaic.TcCoe Idealize.SL.Sem

/-- The attention's claim: from queries, keys and biases that are real numbers, the kernel leaves the reference's three results. -/
theorem attention : Cert.algebraic_KernelIdeal_ReferenceIdeal_pre_finite (hKernelIdeal := Cert.KernelIdeal.Gen.facts)
    (hReferenceIdeal := Cert.ReferenceIdeal.Gen.facts) (hPre_finite := Proof.Finite.facts) := by
  intro m g m' g' hpre hag
  refine ⟨fun c => Proof.Launch.G11 m c, fun c => Proof.Launch.G12 m c, fun c => Proof.Launch.G13 m c, Proof.Launch.run m g, ?_⟩
  refine (θ_run _ _ _).mono (fun r h c => ?_) (Cert.ReferenceIdeal.Value.run (F := Ideal) m' g')
  obtain ⟨h0, h1, h2, k0, k1, k2, k3, k4⟩ := h c
  obtain ⟨a0, a1, a2, a3, a4⟩ := hag c
  obtain ⟨hA, hz⟩ := @Proof.Finite.decode Proof.Finite.facts _ _ _ _ _ (hpre c)
  refine ⟨h0.trans ?_, h1.trans ?_, h2.trans ?_, k0, k1, k2, k3, k4⟩
  · refine (Proof.Reference.result m' c).trans ?_
    rw [a0, a1, a2]
    exact (Proof.Arrays.first m c hA hz).symm
  · rw [a3]
    exact (Proof.Arrays.second m c).symm
  · rw [a4]
    exact (Proof.Arrays.third m c).symm

/-- The reference runs, its arguments end unchanged and no counter is left raised. -/
theorem reference_frame : Cert.quiescent_ReferenceIdeal (hReferenceIdeal := Cert.ReferenceIdeal.Gen.facts) := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- The named constants are the words' values to within the words' own rounding. -/
theorem constants : Cert.preserves_Kernel_KernelIdeal :=
  ⟨IdealRules.named_const.statement Cert.KernelIdeal.κ "log2e" .f32 0x3FB8AA3B#32 _ rfl,
    IdealRules.named_const.statement Cert.KernelIdeal.κ "mask" .f32 0xF149F2CA#32 _ rfl,
    IdealRules.named_const.statement Cert.KernelIdeal.κ "scale2" .f32 0x3E0293EE#32 _ rfl⟩

/-- The gelu's named constant, likewise. -/
theorem cubic : Cert.preserves_Kernel7_Kernel7Ideal :=
  IdealRules.named_const.statement Cert.Kernel7Ideal.κ "cubic" .f32 0x3D122279#32 _ rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Proof.Finite.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, Proof.Products.frame2,
  fun m ρ _ => Cert.Kernel3.Gen.frame m ρ, fun m ρ _ => Cert.Kernel3Ideal.Gen.frame m ρ, Proof.Products.frame3,
  fun m ρ _ => Cert.Kernel4.Gen.frame m ρ, fun m ρ _ => Cert.Kernel4Ideal.Gen.frame m ρ, Proof.Products.frame4,
  fun m ρ _ => Cert.Kernel5.Gen.frame m ρ, fun m ρ _ => Cert.Kernel5Ideal.Gen.frame m ρ, Proof.Products.frame5,
  fun m ρ _ => Cert.Kernel6.Gen.frame m ρ, fun m ρ _ => Cert.Kernel6Ideal.Gen.frame m ρ, Proof.Ends.frame6,
  fun m ρ _ => Cert.Kernel7.Gen.frame m ρ, fun m ρ _ => Cert.Kernel7Ideal.Gen.frame m ρ, Proof.Ends.frame7,
  constants, attention,
  trivial, Proof.Products.algebraic2, trivial, Proof.Products.algebraic3, trivial, Proof.Products.algebraic4, trivial, Proof.Products.algebraic5,
  trivial, Proof.Ends.algebraic6, cubic, Proof.Ends.algebraic7⟩

end Cert.Proof

end
